-- ==== Defs.lean ====
def Pre_Kernel [hPre_positions_in_range : Cert.Pre_positions_in_range.Facts] (m : (ℓ : Loc Cert.Kernel.nD Cert.Kernel.τ Cert.Kernel.sig) → Buf (Elt Bits) ℓ) : Prop :=
  ∀ c : Dev Cert.Kernel.nD,
    (Cert.Pre_positions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_positions_in_range : Cert.Pre_positions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_positions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positions_in_range [hPre_positions_in_range : Cert.Pre_positions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_positions_in_range : Cert.Pre_positions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_positions_in_range [hReferenceIdeal : Cert.ReferenceIdeal.Facts] [hPre_positions_in_range : Cert.Pre_positions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positions_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_positions_in_range : Cert.Pre_positions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.bf16_pair.BufferStatement Cert.Kernel2Ideal.S36864x2x512 Cert.Kernel2Ideal.S36864x1x512
  ∧ IdealRules.bf16_pair.BufferStatement Cert.Kernel2Ideal.S512x2x512 Cert.Kernel2Ideal.S512x1x512
  ∧ IdealRules.bf16_pair.PackStatement Cert.Kernel2Ideal.S512x512
  ∧ IdealRules.bf16_pair.Statement Cert.Kernel2Ideal.S512x2x512 Cert.Kernel2Ideal.S512x1x512
  ∧ IdealRules.bf16_pair.PackStatement Cert.Kernel2Ideal.S256x512
  ∧ IdealRules.bf16_pair.Statement Cert.Kernel2Ideal.S256x2x512 Cert.Kernel2Ideal.S256x1x512
  ∧ IdealRules.bf16_pair.SelectZeroStatement Cert.Kernel2Ideal.S256x512
  ∧ IdealRules.bf16_pair.SelectZeroStatement Cert.Kernel2Ideal.S512x512
  ∧ IdealRules.bf16_pair.Statement Cert.Kernel2Ideal.S1024x512 Cert.Kernel2Ideal.S512x512

def algebraic_Kernel2Ideal_Reference2Ideal_on_token_rows [hKernel2Ideal : Cert.Kernel2Ideal.Facts] [hReference2Ideal : Cert.Reference2Ideal.Facts] [hPre_experts_in_range : Cert.Pre_experts_in_range.Facts] [hOn_token_rows : Cert.On_token_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![36864, 1024]⟩ : Shape).Idx, (Cert.On_token_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Kernel2Ideal.nD Cert.Kernel2Ideal.τ).loc Cert.Kernel2Ideal.main_v5) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![36864, 1024]⟩ : Shape).Idx, (Cert.On_token_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) i = 1#1 → r.2.mem ((c.tc : Thread Cert.Reference2Ideal.nD Cert.Reference2Ideal.τ).loc Cert.Reference2Ideal.main_v138) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_positions_in_range : Cert.Pre_positions_in_range.Facts) (hPre_experts_in_range : Cert.Pre_experts_in_range.Facts) (hOn_token_rows : Cert.On_token_rows.Facts),
    quiescent_Kernel (hKernel := hKernel) (hPre_positions_in_range := hPre_positions_in_range)
    ∧ quiescent_KernelIdeal (hKernelIdeal := hKernelIdeal) (hPre_positions_in_range := hPre_positions_in_range)
    ∧ quiescent_ReferenceIdeal (hReferenceIdeal := hReferenceIdeal)
    ∧ quiescent_ReferenceIdeal_pre_positions_in_range (hReferenceIdeal := hReferenceIdeal) (hPre_positions_in_range := hPre_positions_in_range)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_positions_in_range := hPre_positions_in_range)
    ∧ preserves_Kernel2_Kernel2Ideal
    ∧ algebraic_Kernel2Ideal_Reference2Ideal_on_token_rows (hKernel2Ideal := hKernel2Ideal) (hReference2Ideal := hReference2Ideal) (hPre_experts_in_range := hPre_experts_in_range) (hOn_token_rows := hOn_token_rows)
    ∧ preserves_Kernel3_Kernel3Ideal
    ∧ algebraic_Kernel3Ideal_Reference3Ideal (hKernel3Ideal := hKernel3Ideal) (hReference3Ideal := hReference3Ideal)
-- ==== On_token_rows.lean ====
abbrev S36864x1024 : Shape := ⟨2, ![36864, 1024]⟩
abbrev S1024 : Shape := ⟨1, ![1024]⟩
abbrev S8x1024x3584 : Shape := ⟨3, ![8, 1024, 3584]⟩
abbrev S8x3584x1024 : Shape := ⟨3, ![8, 3584, 1024]⟩
abbrev S2x72 : Shape := ⟨2, ![2, 72]⟩
abbrev S1 : Shape := ⟨1, ![1]⟩
abbrev S36864 : Shape := ⟨1, ![36864]⟩
abbrev S72x512 : Shape := ⟨2, ![72, 512]⟩
abbrev S72 : Shape := ⟨1, ![72]⟩
abbrev S_ : Shape := ⟨0, ![]⟩
abbrev S72x1 : Shape := ⟨2, ![72, 1]⟩
abbrev S1x72 : Shape := ⟨2, ![1, 72]⟩
abbrev S36864x1 : Shape := ⟨2, ![36864, 1]⟩

class Facts : Prop where
  shapeCasts_S36864_S72x512 : S36864.ShapeCasts S72x512
  shapeCasts_S1_S_ : S1.ShapeCasts S_
  bcast_S_S72 : S_.BroadcastsInDim S72 (![] : Fin 0 → Fin S72.rank)
  bcast_S72_S72x1_0 : S72.BroadcastsInDim S72x1 (![0] : Fin 1 → Fin S72x1.rank)
  bcast_S_S72x1 : S_.BroadcastsInDim S72x1 (![] : Fin 0 → Fin S72x1.rank)
  bcast_S72x1_S72x512_0_1 : S72x1.BroadcastsInDim S72x512 (![0, 1] : Fin 2 → Fin S72x512.rank)
  slices_S2x72_S1x72_1_0 : S2x72.Slices ![1, 0] S1x72
  shapeCasts_S1x72_S72 : S1x72.ShapeCasts S72
  shapeCasts_S72x512_S36864x1 : S72x512.ShapeCasts S36864x1
  bcast_S36864x1_S36864x1024_0_1 : S36864x1.BroadcastsInDim S36864x1024 (![0, 1] : Fin 2 → Fin S36864x1024.rank)

variable [Facts]

def fn {F : FTy → Type} [FloatOps F] (main_arg0 : FVec F S36864x1024 .f32) (main_arg1 : FVec F S1024 .f32) (main_arg2 : FVec F S8x1024x3584 .f32) (main_arg3 : FVec F S8x1024x3584 .f32) (main_arg4 : FVec F S8x3584x1024 .f32) (main_arg5 : IVec S2x72 32) (main_arg6 : IVec S1 32) : IVec S36864x1024 1 :=
  let main_v0 : IVec S36864 32 := iotaInDim S36864 32 0
  let main_v1 : IVec S72x512 32 := shapeCast S72x512 main_v0 shapeCasts_S36864_S72x512
  let main_v2 : IVec S72 32 := iotaInDim S72 32 0
  let main_v3 : IVec S_ 32 := shapeCast S_ main_arg6 shapeCasts_S1_S_
  let main_v4 : IVec S72 32 := broadcastInDim S72 ![] bcast_S_S72 main_v3
  let main_v5 : IVec S72 1 := cmpi .slt main_v2 main_v4
  let main_v6 : IVec S72x1 1 := broadcastInDim S72x1 ![0] bcast_S72_S72x1_0 main_v5
  let main_v7 : IVec S72x1 32 := broadcastInDim S72x1 ![0] bcast_S72_S72x1_0 main_v2
  let main_c : IVec S_ 32 := constantI S_ 32 512#32
  let main_v8 : IVec S72x1 32 := broadcastInDim S72x1 ![] bcast_S_S72x1 main_c
  let main_v9 : IVec S72x1 32 := muli main_v7 main_v8
  let main_v10 : IVec S72x512 32 := broadcastInDim S72x512 ![0, 1] bcast_S72x1_S72x512_0_1 main_v9
  let main_v11 : IVec S72x512 32 := subi main_v1 main_v10
  let main_v12 : IVec S1x72 32 := (extractStridedSlice S1x72 ![1, 0] · slices_S2x72_S1x72_1_0) main_arg5
  let main_v13 : IVec S72 32 := shapeCast S72 main_v12 shapeCasts_S1x72_S72
  let main_v14 : IVec S72x1 32 := broadcastInDim S72x1 ![0] bcast_S72_S72x1_0 main_v13
  let main_v15 : IVec S72x512 32 := broadcastInDim S72x512 ![0, 1] bcast_S72x1_S72x512_0_1 main_v14
  let main_v16 : IVec S72x512 1 := cmpi .slt main_v11 main_v15
  let main_v17 : IVec S72x512 1 := broadcastInDim S72x512 ![0, 1] bcast_S72x1_S72x512_0_1 main_v6
  let main_v18 : IVec S72x512 1 := andi main_v17 main_v16
  let main_v19 : IVec S36864x1 1 := shapeCast S36864x1 main_v18 shapeCasts_S72x512_S36864x1
  let main_v20 : IVec S36864x1024 1 := broadcastInDim S36864x1024 ![0, 1] bcast_S36864x1_S36864x1024_0_1 main_v19
  main_v20
-- ==== Pre_experts_in_range.lean ====
abbrev S36864x1024 : Shape := ⟨2, ![36864, 1024]⟩
abbrev S1024 : Shape := ⟨1, ![1024]⟩
abbrev S8x1024x3584 : Shape := ⟨3, ![8, 1024, 3584]⟩
abbrev S8x3584x1024 : Shape := ⟨3, ![8, 3584, 1024]⟩
abbrev S2x72 : Shape := ⟨2, ![2, 72]⟩
abbrev S1 : Shape := ⟨1, ![1]⟩
abbrev S1x72 : Shape := ⟨2, ![1, 72]⟩
abbrev S72 : Shape := ⟨1, ![72]⟩
abbrev S_ : Shape := ⟨0, ![]⟩

class Facts : Prop where
  slices_S2x72_S1x72_0_0 : S2x72.Slices ![0, 0] S1x72
  shapeCasts_S1x72_S72 : S1x72.ShapeCasts S72
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .f32) (main_arg1 : FVec F S1024 .f32) (main_arg2 : FVec F S8x1024x3584 .f32) (main_arg3 : FVec F S8x1024x3584 .f32) (main_arg4 : FVec F S8x3584x1024 .f32) (main_arg5 : IVec S2x72 32) (main_arg6 : IVec S1 32) : IVec S_ 1 :=
  let main_v0 : IVec S1x72 32 := (extractStridedSlice S1x72 ![0, 0] · slices_S2x72_S1x72_0_0) main_arg5
  let main_v1 : IVec S72 32 := shapeCast S72 main_v0 shapeCasts_S1x72_S72
  let main_c : IVec S_ 32 := constantI S_ 32 0#32
  let main_v2 : IVec S72 32 := broadcastInDim S72 ![] bcast_S_S72 main_c
  let main_v3 : IVec S72 1 := cmpi .sge main_v1 main_v2
  let main_v4 : IVec S1x72 32 := (extractStridedSlice S1x72 ![0, 0] · slices_S2x72_S1x72_0_0) main_arg5
  let main_v5 : IVec S72 32 := shapeCast S72 main_v4 shapeCasts_S1x72_S72
  let main_c_0 : IVec S_ 32 := constantI S_ 32 8#32
  let main_v6 : IVec S72 32 := broadcastInDim S72 ![] bcast_S_S72 main_c_0
  let main_v7 : IVec S72 1 := cmpi .slt main_v5 main_v6
  let main_v8 : IVec S72 1 := andi main_v3 main_v7
  let main_c_1 : IVec S_ 1 := constantI S_ 1 1#1
  let main_v9 : IVec S_ 1 := (fun x v => Host.reduce IntOp.andi x v reducesTo_S72_S_d0 h_S_) main_v8 main_c_1
  main_v9
-- ==== Pre_positions_in_range.lean ====
abbrev S16384x1024 : Shape := ⟨2, ![16384, 1024]⟩
abbrev S16384x128 : Shape := ⟨2, ![16384, 128]⟩
abbrev S2x16384 : Shape := ⟨2, ![2, 16384]⟩
abbrev S36864x512 : Shape := ⟨2, ![36864, 512]⟩
abbrev S1024 : Shape := ⟨1, ![1024]⟩
abbrev S_ : Shape := ⟨0, ![]⟩

class Facts : Prop where
  bcast_S_S2x16384 : S_.BroadcastsInDim S2x16384 (![] : Fin 0 → Fin S2x16384.rank)
  reducesTo_S2x16384_S_d0_1 : S2x16384.ReducesTo [0, 1] S_
  h_S_ : 0 < S_.numel

variable [Facts]

def fn {F : FTy → Type} [FloatOps F] (main_arg0 : FVec F S16384x1024 .f32) (main_arg1 : FVec F S16384x128 .f32) (main_arg2 : IVec S2x16384 32) (main_arg3 : IVec S36864x512 32) (main_arg4 : FVec F S1024 .f32) : IVec S_ 1 :=
  let main_c : IVec S_ 32 := constantI S_ 32 0#32
  let main_v0 : IVec S2x16384 32 := broadcastInDim S2x16384 ![] bcast_S_S2x16384 main_c
  let main_v1 : IVec S2x16384 1 := cmpi .sge main_arg2 main_v0
  let main_c_0 : IVec S_ 32 := constantI S_ 32 36864#32
  let main_v2 : IVec S2x16384 32 := broadcastInDim S2x16384 ![] bcast_S_S2x16384 main_c_0
  let main_v3 : IVec S2x16384 1 := cmpi .slt main_arg2 main_v2
  let main_v4 : IVec S2x16384 1 := andi main_v1 main_v3
  let main_c_1 : IVec S_ 1 := constantI S_ 1 1#1
  let main_v5 : IVec S_ 1 := (fun x v => Host.reduce IntOp.andi x v reducesTo_S2x16384_S_d0_1 h_S_) main_v4 main_c_1
  main_v5
-- ==== Kernel.lean ====
abbrev S16384x1024 : Shape := ⟨2, ![16384, 1024]⟩
abbrev S16384x128 : Shape := ⟨2, ![16384, 128]⟩
abbrev S2x16384 : Shape := ⟨2, ![2, 16384]⟩
abbrev S36864x512 : Shape := ⟨2, ![36864, 512]⟩
abbrev S1024 : Shape := ⟨1, ![1024]⟩
abbrev S64x1x512 : Shape := ⟨3, ![64, 1, 512]⟩
abbrev S1x1024 : Shape := ⟨2, ![1, 1024]⟩
abbrev S4608x8x512 : Shape := ⟨3, ![4608, 8, 512]⟩
abbrev S1x1x512 : Shape := ⟨3, ![1, 1, 512]⟩
abbrev S512x1024 : Shape := ⟨2, ![512, 1024]⟩
abbrev S512x128 : Shape := ⟨2, ![512, 128]⟩
abbrev S2x2x64x8x512 : Shape := ⟨5, ![2, 2, 64, 8, 512]⟩
abbrev S2x2 : Shape := ⟨2, ![2, 2]⟩
abbrev S1x1x1 : Shape := ⟨3, ![1, 1, 1]⟩
abbrev S1x1 : Shape := ⟨2, ![1, 1]⟩
abbrev S_ : Shape := ⟨0, ![]⟩
abbrev S1x1x1x1x512 : Shape := ⟨5, ![1, 1, 1, 1, 512]⟩
abbrev S1x512 : Shape := ⟨2, ![1, 512]⟩
abbrev S1x1x64x8x512 : Shape := ⟨5, ![1, 1, 64, 8, 512]⟩
abbrev S64x8x512 : Shape := ⟨3, ![64, 8, 512]⟩
abbrev S512x1 : Shape := ⟨2, ![512, 1]⟩
abbrev S512x512 : Shape := ⟨2, ![512, 512]⟩
abbrev S512 : Shape := ⟨1, ![512]⟩

abbrev nBuf : Space → Nat
  | .hbm => 9
  | .vmem => 8
  | .smem => 6
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S2x16384, .i32⟩
  | .hbm, ⟨3, _⟩ => ⟨S36864x512, .i32⟩
  | .hbm, ⟨4, _⟩ => ⟨S1024, .f32⟩
  | .hbm, ⟨5, _⟩ => ⟨S64x1x512, .i32⟩
  | .hbm, ⟨6, _⟩ => ⟨S1x1024, .f32⟩
  | .hbm, ⟨7, _⟩ => ⟨S4608x8x512, .i32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S2x2x64x8x512, .i32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | .local _ .smem, ⟨4, _⟩ => ⟨S1x1x512, .i32⟩
  | .local _ .smem, ⟨5, _⟩ => ⟨S1x1x512, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg7_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg2_1 : Ref sig .tc := ⟨.smem, 3, rfl⟩
abbrev cc0_stg3_0 : Ref sig .tc := ⟨.smem, 4, rfl⟩
abbrev cc0_stg3_1 : Ref sig .tc := ⟨.smem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_39 : BitVec 32 := 0#32
  let c64_i32 : BitVec 32 := 64#32
  let v66 : BitVec 32 := Scalar.addi c0_i32_39 c64_i32
  let c1_i32_40 : BitVec 32 := 1#32
  ⟨c0_i32_39, v66, c1_i32_40⟩
def k0_off1 (k0_t1 : Fin k0_t1_loop.trips) : Fin 3 → Nat :=
  let c0_43 : Index := 0#32
  let c0_44 : Index := 0#32
  let c0_i32_39 : BitVec 32 := 0#32
  let c1_i32_40 : BitVec 32 := 1#32
  let arg13 : BitVec 32 := Scf.iv c0_i32_39 c1_i32_40 k0_t1
  let c8_i32 : BitVec 32 := 8#32
  let v67 : BitVec 32 := Scalar.muli arg13 c8_i32
  let c0_i32_42 : BitVec 32 := 0#32
  let v68 : BitVec 32 := Scalar.addi v67 c0_i32_42
  let v69 : Index := Scalar.indexCast v68
  ![0, 0, v69.toNat]
def k0_off2 (k0_t1 : Fin k0_t1_loop.trips) : Fin 5 → Nat :=
  let c0_i32_45 : BitVec 32 := 0#32
  let c0_i32_46 : BitVec 32 := 0#32
  let c0_i32_39 : BitVec 32 := 0#32
  let c1_i32_40 : BitVec 32 := 1#32
  let arg13 : BitVec 32 := Scf.iv c0_i32_39 c1_i32_40 k0_t1
  let c0_i32_49 : BitVec 32 := 0#32
  let c0_i32_50 : BitVec 32 := 0#32
  ![0, 0, arg13.toNat, 0, 0]
def k0_off3 (v70 : BitVec 32) : Fin 2 → Nat :=
  let c0_i32_51 : BitVec 32 := 0#32
  ![v70.toNat, 0]

def k0_chk1 (i : grid0.Coords) (v70 : BitVec 32) : Prop :=
  (∀ (k0_h1 : k0_cond1 i = 1#1), ∀ a, (k0_off3 v70) a + S1x512.size a ≤ S36864x512.size a)
theorem k0_off3_inb : ∀ (i : grid0.Coords) (v70 : BitVec 32) (k0_hw1 : k0_chk1 i v70), ∀ (k0_h1 : k0_cond1 i = 1#1), ∀ a, (k0_off3 v70) a + S1x512.size a ≤ S36864x512.size a := fun i v70 k0_hw1 k0_h1 => k0_hw1 k0_h1

def k0_off4 (k0_t1 : Fin k0_t1_loop.trips) : Fin 3 → Nat :=
  let c0_54 : Index := 0#32
  let c0_55 : Index := 0#32
  let c0_i32_39 : BitVec 32 := 0#32
  let c1_i32_40 : BitVec 32 := 1#32
  let arg13 : BitVec 32 := Scf.iv c0_i32_39 c1_i32_40 k0_t1
  let c8_i32_52 : BitVec 32 := 8#32
  let v76 : BitVec 32 := Scalar.muli arg13 c8_i32_52
  let c0_i32_53 : BitVec 32 := 0#32
  let v77 : BitVec 32 := Scalar.addi v76 c0_i32_53
  let v78 : Index := Scalar.indexCast v77
  ![0, 0, v78.toNat]
def k0_off5 (k0_t1 : Fin k0_t1_loop.trips) : Fin 5 → Nat :=
  let c0_i32_56 : BitVec 32 := 0#32
  let c1_i32_57 : BitVec 32 := 1#32
  let c0_i32_39 : BitVec 32 := 0#32
  let c1_i32_40 : BitVec 32 := 1#32
  let arg13 : BitVec 32 := Scf.iv c0_i32_39 c1_i32_40 k0_t1
  let c0_i32_60 : BitVec 32 := 0#32
  let c0_i32_61 : BitVec 32 := 0#32
  ![0, 1, arg13.toNat, 0, 0]
def k0_off6 (v79 : BitVec 32) : Fin 2 → Nat :=
  let c0_i32_62 : BitVec 32 := 0#32
  ![v79.toNat, 0]

def k0_chk2 (i : grid0.Coords) (v79 : BitVec 32) : Prop :=
  (∀ (k0_h1 : k0_cond1 i = 1#1), ∀ a, (k0_off6 v79) a + S1x512.size a ≤ S36864x512.size a)
theorem k0_off6_inb : ∀ (i : grid0.Coords) (v79 : BitVec 32) (k0_hw2 : k0_chk2 i v79), ∀ (k0_h1 : k0_cond1 i = 1#1), ∀ a, (k0_off6 v79) a + S1x512.size a ≤ S36864x512.size a := fun i v79 k0_hw2 k0_h1 => k0_hw2 k0_h1

def k0_off7 (k0_t1 : Fin k0_t1_loop.trips) : Fin 3 → Nat :=
  let c0_65 : Index := 0#32
  let c0_66 : Index := 0#32
  let c0_i32_39 : BitVec 32 := 0#32
  let c1_i32_40 : BitVec 32 := 1#32
  let arg13 : BitVec 32 := Scf.iv c0_i32_39 c1_i32_40 k0_t1
  let c8_i32_63 : BitVec 32 := 8#32
  let v85 : BitVec 32 := Scalar.muli arg13 c8_i32_63
  let c1_i32_64 : BitVec 32 := 1#32
  let v86 : BitVec 32 := Scalar.addi v85 c1_i32_64
  let v87 : Index := Scalar.indexCast v86
  ![0, 0, v87.toNat]
def k0_off8 (k0_t1 : Fin k0_t1_loop.trips) : Fin 5 → Nat :=
  let c0_i32_67 : BitVec 32 := 0#32
  let c0_i32_68 : BitVec 32 := 0#32
  let c0_i32_39 : BitVec 32 := 0#32
  let c1_i32_40 : BitVec 32 := 1#32
  let arg13 : BitVec 32 := Scf.iv c0_i32_39 c1_i32_40 k0_t1
  let c1_i32_71 : BitVec 32 := 1#32
  let c0_i32_72 : BitVec 32 := 0#32
  ![0, 0, arg13.toNat, 1, 0]
def k0_off9 (v88 : BitVec 32) : Fin 2 → Nat :=
  let c0_i32_73 : BitVec 32 := 0#32
  ![v88.toNat, 0]

def k0_chk3 (i : grid0.Coords) (v88 : BitVec 32) : Prop :=
  (∀ (k0_h1 : k0_cond1 i = 1#1), ∀ a, (k0_off9 v88) a + S1x512.size a ≤ S36864x512.size a)
theorem k0_off9_inb : ∀ (i : grid0.Coords) (v88 : BitVec 32) (k0_hw3 : k0_chk3 i v88), ∀ (k0_h1 : k0_cond1 i = 1#1), ∀ a, (k0_off9 v88) a + S1x512.size a ≤ S36864x512.size a := fun i v88 k0_hw3 k0_h1 => k0_hw3 k0_h1

def k0_off10 (k0_t1 : Fin k0_t1_loop.trips) : Fin 3 → Nat :=
  let c0_76 : Index := 0#32
  let c0_77 : Index := 0#32
  let c0_i32_39 : BitVec 32 := 0#32
  let c1_i32_40 : BitVec 32 := 1#32
  let arg13 : BitVec 32 := Scf.iv c0_i32_39 c1_i32_40 k0_t1
  let c8_i32_74 : BitVec 32 := 8#32
  let v94 : BitVec 32 := Scalar.muli arg13 c8_i32_74
  let c1_i32_75 : BitVec 32 := 1#32
  let v95 : BitVec 32 := Scalar.addi v94 c1_i32_75
  let v96 : Index := Scalar.indexCast v95
  ![0, 0, v96.toNat]
def k0_off11 (k0_t1 : Fin k0_t1_loop.trips) : Fin 5 → Nat :=
  let c0_i32_78 : BitVec 32 := 0#32
  let c1_i32_79 : BitVec 32 := 1#32
  let c0_i32_39 : BitVec 32 := 0#32
  let c1_i32_40 : BitVec 32 := 1#32
  let arg13 : BitVec 32 := Scf.iv c0_i32_39 c1_i32_40 k0_t1
  let c1_i32_82 : BitVec 32 := 1#32
  let c0_i32_83 : BitVec 32 := 0#32
  ![0, 1, arg13.toNat, 1, 0]
def k0_off12 (v97 : BitVec 32) : Fin 2 → Nat :=
  let c0_i32_84 : BitVec 32 := 0#32
  ![v97.toNat, 0]

def k0_chk4 (i : grid0.Coords) (v97 : BitVec 32) : Prop :=
  (∀ (k0_h1 : k0_cond1 i = 1#1), ∀ a, (k0_off12 v97) a + S1x512.size a ≤ S36864x512.size a)
theorem k0_off12_inb : ∀ (i : grid0.Coords) (v97 : BitVec 32) (k0_hw4 : k0_chk4 i v97), ∀ (k0_h1 : k0_cond1 i = 1#1), ∀ a, (k0_off12 v97) a + S1x512.size a ≤ S36864x512.size a := fun i v97 k0_hw4 k0_h1 => k0_hw4 k0_h1

def k0_off13 (k0_t1 : Fin k0_t1_loop.trips) : Fin 3 → Nat :=
  let c0_87 : Index := 0#32
  let c0_88 : Index := 0#32
  let c0_i32_39 : BitVec 32 := 0#32
  let c1_i32_40 : BitVec 32 := 1#32
  let arg13 : BitVec 32 := Scf.iv c0_i32_39 c1_i32_40 k0_t1
  let c8_i32_85 : BitVec 32 := 8#32
  let v103 : BitVec 32 := Scalar.muli arg13 c8_i32_85
  let c2_i32_86 : BitVec 32 := 2#32
  let v104 : BitVec 32 := Scalar.addi v103 c2_i32_86
  let v105 : Index := Scalar.indexCast v104
  ![0, 0, v105.toNat]
def k0_off14 (k0_t1 : Fin k0_t1_loop.trips) : Fin 5 → Nat :=
  let c0_i32_89 : BitVec 32 := 0#32
  let c0_i32_90 : BitVec 32 := 0#32
  let c0_i32_39 : BitVec 32 := 0#32
  let c1_i32_40 : BitVec 32 := 1#32
  let arg13 : BitVec 32 := Scf.iv c0_i32_39 c1_i32_40 k0_t1
  let c2_i32_93 : BitVec 32 := 2#32
  let c0_i32_94 : BitVec 32 := 0#32
  ![0, 0, arg13.toNat, 2, 0]
def k0_off15 (v106 : BitVec 32) : Fin 2 → Nat :=
  let c0_i32_95 : BitVec 32 := 0#32
  ![v106.toNat, 0]

def k0_chk5 (i : grid0.Coords) (v106 : BitVec 32) : Prop :=
  (∀ (k0_h1 : k0_cond1 i = 1#1), ∀ a, (k0_off15 v106) a + S1x512.size a ≤ S36864x512.size a)
theorem k0_off15_inb : ∀ (i : grid0.Coords) (v106 : BitVec 32) (k0_hw5 : k0_chk5 i v106), ∀ (k0_h1 : k0_cond1 i = 1#1), ∀ a, (k0_off15 v106) a + S1x512.size a ≤ S36864x512.size a := fun i v106 k0_hw5 k0_h1 => k0_hw5 k0_h1

def k0_off16 (k0_t1 : Fin k0_t1_loop.trips) : Fin 3 → Nat :=
  let c0_98 : Index := 0#32
  let c0_99 : Index := 0#32
  let c0_i32_39 : BitVec 32 := 0#32
  let c1_i32_40 : BitVec 32 := 1#32
  let arg13 : BitVec 32 := Scf.iv c0_i32_39 c1_i32_40 k0_t1
  let c8_i32_96 : BitVec 32 := 8#32
  let v112 : BitVec 32 := Scalar.muli arg13 c8_i32_96
  let c2_i32_97 : BitVec 32 := 2#32
  let v113 : BitVec 32 := Scalar.addi v112 c2_i32_97
  let v114 : Index := Scalar.indexCast v113
  ![0, 0, v114.toNat]
def k0_off17 (k0_t1 : Fin k0_t1_loop.trips) : Fin 5 → Nat :=
  let c0_i32_100 : BitVec 32 := 0#32
  let c1_i32_101 : BitVec 32 := 1#32
  let c0_i32_39 : BitVec 32 := 0#32
  let c1_i32_40 : BitVec 32 := 1#32
  let arg13 : BitVec 32 := Scf.iv c0_i32_39 c1_i32_40 k0_t1
  let c2_i32_104 : BitVec 32 := 2#32
  let c0_i32_105 : BitVec 32 := 0#32
  ![0, 1, arg13.toNat, 2, 0]
def k0_off18 (v115 : BitVec 32) : Fin 2 → Nat :=
  let c0_i32_106 : BitVec 32 := 0#32
  ![v115.toNat, 0]

def k0_chk6 (i : grid0.Coords) (v115 : BitVec 32) : Prop :=
  (∀ (k0_h1 : k0_cond1 i = 1#1), ∀ a, (k0_off18 v115) a + S1x512.size a ≤ S36864x512.size a)
theorem k0_off18_inb : ∀ (i : grid0.Coords) (v115 : BitVec 32) (k0_hw6 : k0_chk6 i v115), ∀ (k0_h1 : k0_cond1 i = 1#1), ∀ a, (k0_off18 v115) a + S1x512.size a ≤ S36864x512.size a := fun i v115 k0_hw6 k0_h1 => k0_hw6 k0_h1

def k0_off19 (k0_t1 : Fin k0_t1_loop.trips) : Fin 3 → Nat :=
  let c0_108 : Index := 0#32
  let c0_109 : Index := 0#32
  let c0_i32_39 : BitVec 32 := 0#32
  let c1_i32_40 : BitVec 32 := 1#32
  let arg13 : BitVec 32 := Scf.iv c0_i32_39 c1_i32_40 k0_t1
  let c8_i32_107 : BitVec 32 := 8#32
  let v121 : BitVec 32 := Scalar.muli arg13 c8_i32_107
  let c3_i32 : BitVec 32 := 3#32
  let v122 : BitVec 32 := Scalar.addi v121 c3_i32
  let v123 : Index := Scalar.indexCast v122
  ![0, 0, v123.toNat]
def k0_off20 (k0_t1 : Fin k0_t1_loop.trips) : Fin 5 → Nat :=
  let c0_i32_110 : BitVec 32 := 0#32
  let c0_i32_111 : BitVec 32 := 0#32
  let c0_i32_39 : BitVec 32 := 0#32
  let c1_i32_40 : BitVec 32 := 1#32
  let arg13 : BitVec 32 := Scf.iv c0_i32_39 c1_i32_40 k0_t1
  let c3_i32_114 : BitVec 32 := 3#32
  let c0_i32_115 : BitVec 32 := 0#32
  ![0, 0, arg13.toNat, 3, 0]
def k0_off21 (v124 : BitVec 32) : Fin 2 → Nat :=
  let c0_i32_116 : BitVec 32 := 0#32
  ![v124.toNat, 0]

def k0_chk7 (i : grid0.Coords) (v124 : BitVec 32) : Prop :=
  (∀ (k0_h1 : k0_cond1 i = 1#1), ∀ a, (k0_off21 v124) a + S1x512.size a ≤ S36864x512.size a)
theorem k0_off21_inb : ∀ (i : grid0.Coords) (v124 : BitVec 32) (k0_hw7 : k0_chk7 i v124), ∀ (k0_h1 : k0_cond1 i = 1#1), ∀ a, (k0_off21 v124) a + S1x512.size a ≤ S36864x512.size a := fun i v124 k0_hw7 k0_h1 => k0_hw7 k0_h1

def k0_off22 (k0_t1 : Fin k0_t1_loop.trips) : Fin 3 → Nat :=
  let c0_119 : Index := 0#32
  let c0_120 : Index := 0#32
  let c0_i32_39 : BitVec 32 := 0#32
  let c1_i32_40 : BitVec 32 := 1#32
  let arg13 : BitVec 32 := Scf.iv c0_i32_39 c1_i32_40 k0_t1
  let c8_i32_117 : BitVec 32 := 8#32
  let v130 : BitVec 32 := Scalar.muli arg13 c8_i32_117
  let c3_i32_118 : BitVec 32 := 3#32
  let v131 : BitVec 32 := Scalar.addi v130 c3_i32_118
  let v132 : Index := Scalar.indexCast v131
  ![0, 0, v132.toNat]
def k0_off23 (k0_t1 : Fin k0_t1_loop.trips) : Fin 5 → Nat :=
  let c0_i32_121 : BitVec 32 := 0#32
  let c1_i32_122 : BitVec 32 := 1#32
  let c0_i32_39 : BitVec 32 := 0#32
  let c1_i32_40 : BitVec 32 := 1#32
  let arg13 : BitVec 32 := Scf.iv c0_i32_39 c1_i32_40 k0_t1
  let c3_i32_125 : BitVec 32 := 3#32
  let c0_i32_126 : BitVec 32 := 0#32
  ![0, 1, arg13.toNat, 3, 0]
def k0_off24 (v133 : BitVec 32) : Fin 2 → Nat :=
  let c0_i32_127 : BitVec 32 := 0#32
  ![v133.toNat, 0]

def k0_chk8 (i : grid0.Coords) (v133 : BitVec 32) : Prop :=
  (∀ (k0_h1 : k0_cond1 i = 1#1), ∀ a, (k0_off24 v133) a + S1x512.size a ≤ S36864x512.size a)
theorem k0_off24_inb : ∀ (i : grid0.Coords) (v133 : BitVec 32) (k0_hw8 : k0_chk8 i v133), ∀ (k0_h1 : k0_cond1 i = 1#1), ∀ a, (k0_off24 v133) a + S1x512.size a ≤ S36864x512.size a := fun i v133 k0_hw8 k0_h1 => k0_hw8 k0_h1

def k0_off25 (k0_t1 : Fin k0_t1_loop.trips) : Fin 3 → Nat :=
  let c0_129 : Index := 0#32
  let c0_130 : Index := 0#32
  let c0_i32_39 : BitVec 32 := 0#32
  let c1_i32_40 : BitVec 32 := 1#32
  let arg13 : BitVec 32 := Scf.iv c0_i32_39 c1_i32_40 k0_t1
  let c8_i32_128 : BitVec 32 := 8#32
  let v139 : BitVec 32 := Scalar.muli arg13 c8_i32_128
  let c4_i32 : BitVec 32 := 4#32
  let v140 : BitVec 32 := Scalar.addi v139 c4_i32
  let v141 : Index := Scalar.indexCast v140
  ![0, 0, v141.toNat]
def k0_off26 (k0_t1 : Fin k0_t1_loop.trips) : Fin 5 → Nat :=
  let c0_i32_131 : BitVec 32 := 0#32
  let c0_i32_132 : BitVec 32 := 0#32
  let c0_i32_39 : BitVec 32 := 0#32
  let c1_i32_40 : BitVec 32 := 1#32
  let arg13 : BitVec 32 := Scf.iv c0_i32_39 c1_i32_40 k0_t1
  let c4_i32_135 : BitVec 32 := 4#32
  let c0_i32_136 : BitVec 32 := 0#32
  ![0, 0, arg13.toNat, 4, 0]
def k0_off27 (v142 : BitVec 32) : Fin 2 → Nat :=
  let c0_i32_137 : BitVec 32 := 0#32
  ![v142.toNat, 0]

def k0_chk9 (i : grid0.Coords) (v142 : BitVec 32) : Prop :=
  (∀ (k0_h1 : k0_cond1 i = 1#1), ∀ a, (k0_off27 v142) a + S1x512.size a ≤ S36864x512.size a)
theorem k0_off27_inb : ∀ (i : grid0.Coords) (v142 : BitVec 32) (k0_hw9 : k0_chk9 i v142), ∀ (k0_h1 : k0_cond1 i = 1#1), ∀ a, (k0_off27 v142) a + S1x512.size a ≤ S36864x512.size a := fun i v142 k0_hw9 k0_h1 => k0_hw9 k0_h1

def k0_off28 (k0_t1 : Fin k0_t1_loop.trips) : Fin 3 → Nat :=
  let c0_140 : Index := 0#32
  let c0_141 : Index := 0#32
  let c0_i32_39 : BitVec 32 := 0#32
  let c1_i32_40 : BitVec 32 := 1#32
  let arg13 : BitVec 32 := Scf.iv c0_i32_39 c1_i32_40 k0_t1
  let c8_i32_138 : BitVec 32 := 8#32
  let v148 : BitVec 32 := Scalar.muli arg13 c8_i32_138
  let c4_i32_139 : BitVec 32 := 4#32
  let v149 : BitVec 32 := Scalar.addi v148 c4_i32_139
  let v150 : Index := Scalar.indexCast v149
  ![0, 0, v150.toNat]
def k0_off29 (k0_t1 : Fin k0_t1_loop.trips) : Fin 5 → Nat :=
  let c0_i32_142 : BitVec 32 := 0#32
  let c1_i32_143 : BitVec 32 := 1#32
  let c0_i32_39 : BitVec 32 := 0#32
  let c1_i32_40 : BitVec 32 := 1#32
  let arg13 : BitVec 32 := Scf.iv c0_i32_39 c1_i32_40 k0_t1
  let c4_i32_146 : BitVec 32 := 4#32
  let c0_i32_147 : BitVec 32 := 0#32
  ![0, 1, arg13.toNat, 4, 0]
def k0_off30 (v151 : BitVec 32) : Fin 2 → Nat :=
  let c0_i32_148 : BitVec 32 := 0#32
  ![v151.toNat, 0]

def k0_chk10 (i : grid0.Coords) (v151 : BitVec 32) : Prop :=
  (∀ (k0_h1 : k0_cond1 i = 1#1), ∀ a, (k0_off30 v151) a + S1x512.size a ≤ S36864x512.size a)
theorem k0_off30_inb : ∀ (i : grid0.Coords) (v151 : BitVec 32) (k0_hw10 : k0_chk10 i v151), ∀ (k0_h1 : k0_cond1 i = 1#1), ∀ a, (k0_off30 v151) a + S1x512.size a ≤ S36864x512.size a := fun i v151 k0_hw10 k0_h1 => k0_hw10 k0_h1

def k0_off31 (k0_t1 : Fin k0_t1_loop.trips) : Fin 3 → Nat :=
  let c0_150 : Index := 0#32
  let c0_151 : Index := 0#32
  let c0_i32_39 : BitVec 32 := 0#32
  let c1_i32_40 : BitVec 32 := 1#32
  let arg13 : BitVec 32 := Scf.iv c0_i32_39 c1_i32_40 k0_t1
  let c8_i32_149 : BitVec 32 := 8#32
  let v157 : BitVec 32 := Scalar.muli arg13 c8_i32_149
  let c5_i32 : BitVec 32 := 5#32
  let v158 : BitVec 32 := Scalar.addi v157 c5_i32
  let v159 : Index := Scalar.indexCast v158
  ![0, 0, v159.toNat]
def k0_off32 (k0_t1 : Fin k0_t1_loop.trips) : Fin 5 → Nat :=
  let c0_i32_152 : BitVec 32 := 0#32
  let c0_i32_153 : BitVec 32 := 0#32
  let c0_i32_39 : BitVec 32 := 0#32
  let c1_i32_40 : BitVec 32 := 1#32
  let arg13 : BitVec 32 := Scf.iv c0_i32_39 c1_i32_40 k0_t1
  let c5_i32_156 : BitVec 32 := 5#32
  let c0_i32_157 : BitVec 32 := 0#32
  ![0, 0, arg13.toNat, 5, 0]
def k0_off33 (v160 : BitVec 32) : Fin 2 → Nat :=
  let c0_i32_158 : BitVec 32 := 0#32
  ![v160.toNat, 0]

def k0_chk11 (i : grid0.Coords) (v160 : BitVec 32) : Prop :=
  (∀ (k0_h1 : k0_cond1 i = 1#1), ∀ a, (k0_off33 v160) a + S1x512.size a ≤ S36864x512.size a)
theorem k0_off33_inb : ∀ (i : grid0.Coords) (v160 : BitVec 32) (k0_hw11 : k0_chk11 i v160), ∀ (k0_h1 : k0_cond1 i = 1#1), ∀ a, (k0_off33 v160) a + S1x512.size a ≤ S36864x512.size a := fun i v160 k0_hw11 k0_h1 => k0_hw11 k0_h1

def k0_off34 (k0_t1 : Fin k0_t1_loop.trips) : Fin 3 → Nat :=
  let c0_161 : Index := 0#32
  let c0_162 : Index := 0#32
  let c0_i32_39 : BitVec 32 := 0#32
  let c1_i32_40 : BitVec 32 := 1#32
  let arg13 : BitVec 32 := Scf.iv c0_i32_39 c1_i32_40 k0_t1
  let c8_i32_159 : BitVec 32 := 8#32
  let v166 : BitVec 32 := Scalar.muli arg13 c8_i32_159
  let c5_i32_160 : BitVec 32 := 5#32
  let v167 : BitVec 32 := Scalar.addi v166 c5_i32_160
  let v168 : Index := Scalar.indexCast v167
  ![0, 0, v168.toNat]
def k0_off35 (k0_t1 : Fin k0_t1_loop.trips) : Fin 5 → Nat :=
  let c0_i32_163 : BitVec 32 := 0#32
  let c1_i32_164 : BitVec 32 := 1#32
  let c0_i32_39 : BitVec 32 := 0#32
  let c1_i32_40 : BitVec 32 := 1#32
  let arg13 : BitVec 32 := Scf.iv c0_i32_39 c1_i32_40 k0_t1
  let c5_i32_167 : BitVec 32 := 5#32
  let c0_i32_168 : BitVec 32 := 0#32
  ![0, 1, arg13.toNat, 5, 0]
def k0_off36 (v169 : BitVec 32) : Fin 2 → Nat :=
  let c0_i32_169 : BitVec 32 := 0#32
  ![v169.toNat, 0]

def k0_chk12 (i : grid0.Coords) (v169 : BitVec 32) : Prop :=
  (∀ (k0_h1 : k0_cond1 i = 1#1), ∀ a, (k0_off36 v169) a + S1x512.size a ≤ S36864x512.size a)
theorem k0_off36_inb : ∀ (i : grid0.Coords) (v169 : BitVec 32) (k0_hw12 : k0_chk12 i v169), ∀ (k0_h1 : k0_cond1 i = 1#1), ∀ a, (k0_off36 v169) a + S1x512.size a ≤ S36864x512.size a := fun i v169 k0_hw12 k0_h1 => k0_hw12 k0_h1

def k0_off37 (k0_t1 : Fin k0_t1_loop.trips) : Fin 3 → Nat :=
  let c0_171 : Index := 0#32
  let c0_172 : Index := 0#32
  let c0_i32_39 : BitVec 32 := 0#32
  let c1_i32_40 : BitVec 32 := 1#32
  let arg13 : BitVec 32 := Scf.iv c0_i32_39 c1_i32_40 k0_t1
  let c8_i32_170 : BitVec 32 := 8#32
  let v175 : BitVec 32 := Scalar.muli arg13 c8_i32_170
  let c6_i32 : BitVec 32 := 6#32
  let v176 : BitVec 32 := Scalar.addi v175 c6_i32
  let v177 : Index := Scalar.indexCast v176
  ![0, 0, v177.toNat]
def k0_off38 (k0_t1 : Fin k0_t1_loop.trips) : Fin 5 → Nat :=
  let c0_i32_173 : BitVec 32 := 0#32
  let c0_i32_174 : BitVec 32 := 0#32
  let c0_i32_39 : BitVec 32 := 0#32
  let c1_i32_40 : BitVec 32 := 1#32
  let arg13 : BitVec 32 := Scf.iv c0_i32_39 c1_i32_40 k0_t1
  let c6_i32_177 : BitVec 32 := 6#32
  let c0_i32_178 : BitVec 32 := 0#32
  ![0, 0, arg13.toNat, 6, 0]
def k0_off39 (v178 : BitVec 32) : Fin 2 → Nat :=
  let c0_i32_179 : BitVec 32 := 0#32
  ![v178.toNat, 0]

def k0_chk13 (i : grid0.Coords) (v178 : BitVec 32) : Prop :=
  (∀ (k0_h1 : k0_cond1 i = 1#1), ∀ a, (k0_off39 v178) a + S1x512.size a ≤ S36864x512.size a)
theorem k0_off39_inb : ∀ (i : grid0.Coords) (v178 : BitVec 32) (k0_hw13 : k0_chk13 i v178), ∀ (k0_h1 : k0_cond1 i = 1#1), ∀ a, (k0_off39 v178) a + S1x512.size a ≤ S36864x512.size a := fun i v178 k0_hw13 k0_h1 => k0_hw13 k0_h1

def k0_off40 (k0_t1 : Fin k0_t1_loop.trips) : Fin 3 → Nat :=
  let c0_182 : Index := 0#32
  let c0_183 : Index := 0#32
  let c0_i32_39 : BitVec 32 := 0#32
  let c1_i32_40 : BitVec 32 := 1#32
  let arg13 : BitVec 32 := Scf.iv c0_i32_39 c1_i32_40 k0_t1
  let c8_i32_180 : BitVec 32 := 8#32
  let v184 : BitVec 32 := Scalar.muli arg13 c8_i32_180
  let c6_i32_181 : BitVec 32 := 6#32
  let v185 : BitVec 32 := Scalar.addi v184 c6_i32_181
  let v186 : Index := Scalar.indexCast v185
  ![0, 0, v186.toNat]
def k0_off41 (k0_t1 : Fin k0_t1_loop.trips) : Fin 5 → Nat :=
  let c0_i32_184 : BitVec 32 := 0#32
  let c1_i32_185 : BitVec 32 := 1#32
  let c0_i32_39 : BitVec 32 := 0#32
  let c1_i32_40 : BitVec 32 := 1#32
  let arg13 : BitVec 32 := Scf.iv c0_i32_39 c1_i32_40 k0_t1
  let c6_i32_188 : BitVec 32 := 6#32
  let c0_i32_189 : BitVec 32 := 0#32
  ![0, 1, arg13.toNat, 6, 0]
def k0_off42 (v187 : BitVec 32) : Fin 2 → Nat :=
  let c0_i32_190 : BitVec 32 := 0#32
  ![v187.toNat, 0]

def k0_chk14 (i : grid0.Coords) (v187 : BitVec 32) : Prop :=
  (∀ (k0_h1 : k0_cond1 i = 1#1), ∀ a, (k0_off42 v187) a + S1x512.size a ≤ S36864x512.size a)
theorem k0_off42_inb : ∀ (i : grid0.Coords) (v187 : BitVec 32) (k0_hw14 : k0_chk14 i v187), ∀ (k0_h1 : k0_cond1 i = 1#1), ∀ a, (k0_off42 v187) a + S1x512.size a ≤ S36864x512.size a := fun i v187 k0_hw14 k0_h1 => k0_hw14 k0_h1

def k0_off43 (k0_t1 : Fin k0_t1_loop.trips) : Fin 3 → Nat :=
  let c0_192 : Index := 0#32
  let c0_193 : Index := 0#32
  let c0_i32_39 : BitVec 32 := 0#32
  let c1_i32_40 : BitVec 32 := 1#32
  let arg13 : BitVec 32 := Scf.iv c0_i32_39 c1_i32_40 k0_t1
  let c8_i32_191 : BitVec 32 := 8#32
  let v193 : BitVec 32 := Scalar.muli arg13 c8_i32_191
  let c7_i32 : BitVec 32 := 7#32
  let v194 : BitVec 32 := Scalar.addi v193 c7_i32
  let v195 : Index := Scalar.indexCast v194
  ![0, 0, v195.toNat]
def k0_off44 (k0_t1 : Fin k0_t1_loop.trips) : Fin 5 → Nat :=
  let c0_i32_194 : BitVec 32 := 0#32
  let c0_i32_195 : BitVec 32 := 0#32
  let c0_i32_39 : BitVec 32 := 0#32
  let c1_i32_40 : BitVec 32 := 1#32
  let arg13 : BitVec 32 := Scf.iv c0_i32_39 c1_i32_40 k0_t1
  let c7_i32_198 : BitVec 32 := 7#32
  let c0_i32_199 : BitVec 32 := 0#32
  ![0, 0, arg13.toNat, 7, 0]
def k0_off45 (v196 : BitVec 32) : Fin 2 → Nat :=
  let c0_i32_200 : BitVec 32 := 0#32
  ![v196.toNat, 0]

def k0_chk15 (i : grid0.Coords) (v196 : BitVec 32) : Prop :=
  (∀ (k0_h1 : k0_cond1 i = 1#1), ∀ a, (k0_off45 v196) a + S1x512.size a ≤ S36864x512.size a)
theorem k0_off45_inb : ∀ (i : grid0.Coords) (v196 : BitVec 32) (k0_hw15 : k0_chk15 i v196), ∀ (k0_h1 : k0_cond1 i = 1#1), ∀ a, (k0_off45 v196) a + S1x512.size a ≤ S36864x512.size a := fun i v196 k0_hw15 k0_h1 => k0_hw15 k0_h1

def k0_off46 (k0_t1 : Fin k0_t1_loop.trips) : Fin 3 → Nat :=
  let c0_203 : Index := 0#32
  let c0_204 : Index := 0#32
  let c0_i32_39 : BitVec 32 := 0#32
  let c1_i32_40 : BitVec 32 := 1#32
  let arg13 : BitVec 32 := Scf.iv c0_i32_39 c1_i32_40 k0_t1
  let c8_i32_201 : BitVec 32 := 8#32
  let v202 : BitVec 32 := Scalar.muli arg13 c8_i32_201
  let c7_i32_202 : BitVec 32 := 7#32
  let v203 : BitVec 32 := Scalar.addi v202 c7_i32_202
  let v204 : Index := Scalar.indexCast v203
  ![0, 0, v204.toNat]
def k0_off47 (k0_t1 : Fin k0_t1_loop.trips) : Fin 5 → Nat :=
  let c0_i32_205 : BitVec 32 := 0#32
  let c1_i32_206 : BitVec 32 := 1#32
  let c0_i32_39 : BitVec 32 := 0#32
  let c1_i32_40 : BitVec 32 := 1#32
  let arg13 : BitVec 32 := Scf.iv c0_i32_39 c1_i32_40 k0_t1
  let c7_i32_209 : BitVec 32 := 7#32
  let c0_i32_210 : BitVec 32 := 0#32
  ![0, 1, arg13.toNat, 7, 0]
def k0_off48 (v205 : BitVec 32) : Fin 2 → Nat :=
  let c0_i32_211 : BitVec 32 := 0#32
  ![v205.toNat, 0]

def k0_chk16 (i : grid0.Coords) (v205 : BitVec 32) : Prop :=
  (∀ (k0_h1 : k0_cond1 i = 1#1), ∀ a, (k0_off48 v205) a + S1x512.size a ≤ S36864x512.size a)
theorem k0_off48_inb : ∀ (i : grid0.Coords) (v205 : BitVec 32) (k0_hw16 : k0_chk16 i v205), ∀ (k0_h1 : k0_cond1 i = 1#1), ∀ a, (k0_off48 v205) a + S1x512.size a ≤ S36864x512.size a := fun i v205 k0_hw16 k0_h1 => k0_hw16 k0_h1

def k0_cond2 (i : grid0.Coords) : BitVec 1 :=
  let arg0 : BitVec 32 := BitVec.ofNat 32 (i 0).val
  let c1_i32 : BitVec 32 := 1#32
  let v3 : BitVec 32 := Scalar.addi arg0 c1_i32
  let c32_i32 : BitVec 32 := 32#32
  let v4 : BitVec 1 := Scalar.cmpi .slt v3 c32_i32
  let v5 : BitVec 32 := Scalar.extui v4
  let c0_i32_1 : BitVec 32 := 0#32
  let v6 : BitVec 1 := Scalar.cmpi .ne v5 c0_i32_1
  v6

@[reducible] def k0_t2_loop : Scf.Loop 32 :=
  let c0_i32_46 : BitVec 32 := 0#32
  let c64_i32 : BitVec 32 := 64#32
  let v77 : BitVec 32 := Scalar.addi c0_i32_46 c64_i32
  let c1_i32_47 : BitVec 32 := 1#32
  ⟨c0_i32_46, v77, c1_i32_47⟩
def k0_off49 (k0_t2 : Fin k0_t2_loop.trips) : Fin 3 → Nat :=
  let c0_50 : Index := 0#32
  let c0_51 : Index := 0#32
  let c0_i32_46 : BitVec 32 := 0#32
  let c1_i32_47 : BitVec 32 := 1#32
  let arg13 : BitVec 32 := Scf.iv c0_i32_46 c1_i32_47 k0_t2
  let c8_i32 : BitVec 32 := 8#32
  let v78 : BitVec 32 := Scalar.muli arg13 c8_i32
  let c0_i32_49 : BitVec 32 := 0#32
  let v79 : BitVec 32 := Scalar.addi v78 c0_i32_49
  let v80 : Index := Scalar.indexCast v79
  ![0, 0, v80.toNat]
def k0_off50 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_53 : BitVec 32 := 0#32
  ![v76.toNat, 0]
def k0_off51 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_52 : BitVec 32 := 0#32
  let c0_i32_46 : BitVec 32 := 0#32
  let c1_i32_47 : BitVec 32 := 1#32
  let arg13 : BitVec 32 := Scf.iv c0_i32_46 c1_i32_47 k0_t2
  let c0_i32_54 : BitVec 32 := 0#32
  let c0_i32_55 : BitVec 32 := 0#32
  ![v76.toNat, 0, arg13.toNat, 0, 0]
def k0_off52 (v81 : BitVec 32) : Fin 2 → Nat :=
  let c0_i32_56 : BitVec 32 := 0#32
  ![v81.toNat, 0]

def k0_chk17 (i : grid0.Coords) (v81 : BitVec 32) : Prop :=
  (∀ (k0_h2 : k0_cond2 i = 1#1), ∀ a, (k0_off52 v81) a + S1x512.size a ≤ S36864x512.size a)
theorem k0_off52_inb : ∀ (i : grid0.Coords) (v81 : BitVec 32) (k0_hw17 : k0_chk17 i v81), ∀ (k0_h2 : k0_cond2 i = 1#1), ∀ a, (k0_off52 v81) a + S1x512.size a ≤ S36864x512.size a := fun i v81 k0_hw17 k0_h2 => k0_hw17 k0_h2

def k0_off53 (k0_t2 : Fin k0_t2_loop.trips) : Fin 3 → Nat :=
  let c0_59 : Index := 0#32
  let c0_60 : Index := 0#32
  let c0_i32_46 : BitVec 32 := 0#32
  let c1_i32_47 : BitVec 32 := 1#32
  let arg13 : BitVec 32 := Scf.iv c0_i32_46 c1_i32_47 k0_t2
  let c8_i32_57 : BitVec 32 := 8#32
  let v87 : BitVec 32 := Scalar.muli arg13 c8_i32_57
  let c0_i32_58 : BitVec 32 := 0#32
  let v88 : BitVec 32 := Scalar.addi v87 c0_i32_58
  let v89 : Index := Scalar.indexCast v88
  ![0, 0, v89.toNat]
def k0_off54 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_62 : BitVec 32 := 1#32
  ![v76.toNat, 1]
def k0_off55 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_61 : BitVec 32 := 1#32
  let c0_i32_46 : BitVec 32 := 0#32
  let c1_i32_47 : BitVec 32 := 1#32
  let arg13 : BitVec 32 := Scf.iv c0_i32_46 c1_i32_47 k0_t2
  let c0_i32_63 : BitVec 32 := 0#32
  let c0_i32_64 : BitVec 32 := 0#32
  ![v76.toNat, 1, arg13.toNat, 0, 0]
def k0_off56 (v90 : BitVec 32) : Fin 2 → Nat :=
  let c0_i32_65 : BitVec 32 := 0#32
  ![v90.toNat, 0]

def k0_chk18 (i : grid0.Coords) (v90 : BitVec 32) : Prop :=
  (∀ (k0_h2 : k0_cond2 i = 1#1), ∀ a, (k0_off56 v90) a + S1x512.size a ≤ S36864x512.size a)
theorem k0_off56_inb : ∀ (i : grid0.Coords) (v90 : BitVec 32) (k0_hw18 : k0_chk18 i v90), ∀ (k0_h2 : k0_cond2 i = 1#1), ∀ a, (k0_off56 v90) a + S1x512.size a ≤ S36864x512.size a := fun i v90 k0_hw18 k0_h2 => k0_hw18 k0_h2

def k0_off57 (k0_t2 : Fin k0_t2_loop.trips) : Fin 3 → Nat :=
  let c0_68 : Index := 0#32
  let c0_69 : Index := 0#32
  let c0_i32_46 : BitVec 32 := 0#32
  let c1_i32_47 : BitVec 32 := 1#32
  let arg13 : BitVec 32 := Scf.iv c0_i32_46 c1_i32_47 k0_t2
  let c8_i32_66 : BitVec 32 := 8#32
  let v96 : BitVec 32 := Scalar.muli arg13 c8_i32_66
  let c1_i32_67 : BitVec 32 := 1#32
  let v97 : BitVec 32 := Scalar.addi v96 c1_i32_67
  let v98 : Index := Scalar.indexCast v97
  ![0, 0, v98.toNat]
def k0_off58 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_71 : BitVec 32 := 0#32
  ![v76.toNat, 0]
def k0_off59 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_70 : BitVec 32 := 0#32
  let c0_i32_46 : BitVec 32 := 0#32
  let c1_i32_47 : BitVec 32 := 1#32
  let arg13 : BitVec 32 := Scf.iv c0_i32_46 c1_i32_47 k0_t2
  let c1_i32_72 : BitVec 32 := 1#32
  let c0_i32_73 : BitVec 32 := 0#32
  ![v76.toNat, 0, arg13.toNat, 1, 0]
def k0_off60 (v99 : BitVec 32) : Fin 2 → Nat :=
  let c0_i32_74 : BitVec 32 := 0#32
  ![v99.toNat, 0]

def k0_chk19 (i : grid0.Coords) (v99 : BitVec 32) : Prop :=
  (∀ (k0_h2 : k0_cond2 i = 1#1), ∀ a, (k0_off60 v99) a + S1x512.size a ≤ S36864x512.size a)
theorem k0_off60_inb : ∀ (i : grid0.Coords) (v99 : BitVec 32) (k0_hw19 : k0_chk19 i v99), ∀ (k0_h2 : k0_cond2 i = 1#1), ∀ a, (k0_off60 v99) a + S1x512.size a ≤ S36864x512.size a := fun i v99 k0_hw19 k0_h2 => k0_hw19 k0_h2

def k0_off61 (k0_t2 : Fin k0_t2_loop.trips) : Fin 3 → Nat :=
  let c0_77 : Index := 0#32
  let c0_78 : Index := 0#32
  let c0_i32_46 : BitVec 32 := 0#32
  let c1_i32_47 : BitVec 32 := 1#32
  let arg13 : BitVec 32 := Scf.iv c0_i32_46 c1_i32_47 k0_t2
  let c8_i32_75 : BitVec 32 := 8#32
  let v105 : BitVec 32 := Scalar.muli arg13 c8_i32_75
  let c1_i32_76 : BitVec 32 := 1#32
  let v106 : BitVec 32 := Scalar.addi v105 c1_i32_76
  let v107 : Index := Scalar.indexCast v106
  ![0, 0, v107.toNat]
def k0_off62 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_80 : BitVec 32 := 1#32
  ![v76.toNat, 1]
def k0_off63 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_79 : BitVec 32 := 1#32
  let c0_i32_46 : BitVec 32 := 0#32
  let c1_i32_47 : BitVec 32 := 1#32
  let arg13 : BitVec 32 := Scf.iv c0_i32_46 c1_i32_47 k0_t2
  let c1_i32_81 : BitVec 32 := 1#32
  let c0_i32_82 : BitVec 32 := 0#32
  ![v76.toNat, 1, arg13.toNat, 1, 0]
def k0_off64 (v108 : BitVec 32) : Fin 2 → Nat :=
  let c0_i32_83 : BitVec 32 := 0#32
  ![v108.toNat, 0]

def k0_chk20 (i : grid0.Coords) (v108 : BitVec 32) : Prop :=
  (∀ (k0_h2 : k0_cond2 i = 1#1), ∀ a, (k0_off64 v108) a + S1x512.size a ≤ S36864x512.size a)
theorem k0_off64_inb : ∀ (i : grid0.Coords) (v108 : BitVec 32) (k0_hw20 : k0_chk20 i v108), ∀ (k0_h2 : k0_cond2 i = 1#1), ∀ a, (k0_off64 v108) a + S1x512.size a ≤ S36864x512.size a := fun i v108 k0_hw20 k0_h2 => k0_hw20 k0_h2

def k0_off65 (k0_t2 : Fin k0_t2_loop.trips) : Fin 3 → Nat :=
  let c0_86 : Index := 0#32
  let c0_87 : Index := 0#32
  let c0_i32_46 : BitVec 32 := 0#32
  let c1_i32_47 : BitVec 32 := 1#32
  let arg13 : BitVec 32 := Scf.iv c0_i32_46 c1_i32_47 k0_t2
  let c8_i32_84 : BitVec 32 := 8#32
  let v114 : BitVec 32 := Scalar.muli arg13 c8_i32_84
  let c2_i32_85 : BitVec 32 := 2#32
  let v115 : BitVec 32 := Scalar.addi v114 c2_i32_85
  let v116 : Index := Scalar.indexCast v115
  ![0, 0, v116.toNat]
def k0_off66 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_89 : BitVec 32 := 0#32
  ![v76.toNat, 0]
def k0_off67 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_88 : BitVec 32 := 0#32
  let c0_i32_46 : BitVec 32 := 0#32
  let c1_i32_47 : BitVec 32 := 1#32
  let arg13 : BitVec 32 := Scf.iv c0_i32_46 c1_i32_47 k0_t2
  let c2_i32_90 : BitVec 32 := 2#32
  let c0_i32_91 : BitVec 32 := 0#32
  ![v76.toNat, 0, arg13.toNat, 2, 0]
def k0_off68 (v117 : BitVec 32) : Fin 2 → Nat :=
  let c0_i32_92 : BitVec 32 := 0#32
  ![v117.toNat, 0]

def k0_chk21 (i : grid0.Coords) (v117 : BitVec 32) : Prop :=
  (∀ (k0_h2 : k0_cond2 i = 1#1), ∀ a, (k0_off68 v117) a + S1x512.size a ≤ S36864x512.size a)
theorem k0_off68_inb : ∀ (i : grid0.Coords) (v117 : BitVec 32) (k0_hw21 : k0_chk21 i v117), ∀ (k0_h2 : k0_cond2 i = 1#1), ∀ a, (k0_off68 v117) a + S1x512.size a ≤ S36864x512.size a := fun i v117 k0_hw21 k0_h2 => k0_hw21 k0_h2

def k0_off69 (k0_t2 : Fin k0_t2_loop.trips) : Fin 3 → Nat :=
  let c0_95 : Index := 0#32
  let c0_96 : Index := 0#32
  let c0_i32_46 : BitVec 32 := 0#32
  let c1_i32_47 : BitVec 32 := 1#32
  let arg13 : BitVec 32 := Scf.iv c0_i32_46 c1_i32_47 k0_t2
  let c8_i32_93 : BitVec 32 := 8#32
  let v123 : BitVec 32 := Scalar.muli arg13 c8_i32_93
  let c2_i32_94 : BitVec 32 := 2#32
  let v124 : BitVec 32 := Scalar.addi v123 c2_i32_94
  let v125 : Index := Scalar.indexCast v124
  ![0, 0, v125.toNat]
def k0_off70 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_98 : BitVec 32 := 1#32
  ![v76.toNat, 1]
def k0_off71 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_97 : BitVec 32 := 1#32
  let c0_i32_46 : BitVec 32 := 0#32
  let c1_i32_47 : BitVec 32 := 1#32
  let arg13 : BitVec 32 := Scf.iv c0_i32_46 c1_i32_47 k0_t2
  let c2_i32_99 : BitVec 32 := 2#32
  let c0_i32_100 : BitVec 32 := 0#32
  ![v76.toNat, 1, arg13.toNat, 2, 0]
def k0_off72 (v126 : BitVec 32) : Fin 2 → Nat :=
  let c0_i32_101 : BitVec 32 := 0#32
  ![v126.toNat, 0]

def k0_chk22 (i : grid0.Coords) (v126 : BitVec 32) : Prop :=
  (∀ (k0_h2 : k0_cond2 i = 1#1), ∀ a, (k0_off72 v126) a + S1x512.size a ≤ S36864x512.size a)
theorem k0_off72_inb : ∀ (i : grid0.Coords) (v126 : BitVec 32) (k0_hw22 : k0_chk22 i v126), ∀ (k0_h2 : k0_cond2 i = 1#1), ∀ a, (k0_off72 v126) a + S1x512.size a ≤ S36864x512.size a := fun i v126 k0_hw22 k0_h2 => k0_hw22 k0_h2

def k0_off73 (k0_t2 : Fin k0_t2_loop.trips) : Fin 3 → Nat :=
  let c0_103 : Index := 0#32
  let c0_104 : Index := 0#32
  let c0_i32_46 : BitVec 32 := 0#32
  let c1_i32_47 : BitVec 32 := 1#32
  let arg13 : BitVec 32 := Scf.iv c0_i32_46 c1_i32_47 k0_t2
  let c8_i32_102 : BitVec 32 := 8#32
  let v132 : BitVec 32 := Scalar.muli arg13 c8_i32_102
  let c3_i32 : BitVec 32 := 3#32
  let v133 : BitVec 32 := Scalar.addi v132 c3_i32
  let v134 : Index := Scalar.indexCast v133
  ![0, 0, v134.toNat]
def k0_off74 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_106 : BitVec 32 := 0#32
  ![v76.toNat, 0]
def k0_off75 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_105 : BitVec 32 := 0#32
  let c0_i32_46 : BitVec 32 := 0#32
  let c1_i32_47 : BitVec 32 := 1#32
  let arg13 : BitVec 32 := Scf.iv c0_i32_46 c1_i32_47 k0_t2
  let c3_i32_107 : BitVec 32 := 3#32
  let c0_i32_108 : BitVec 32 := 0#32
  ![v76.toNat, 0, arg13.toNat, 3, 0]
def k0_off76 (v135 : BitVec 32) : Fin 2 → Nat :=
  let c0_i32_109 : BitVec 32 := 0#32
  ![v135.toNat, 0]

def k0_chk23 (i : grid0.Coords) (v135 : BitVec 32) : Prop :=
  (∀ (k0_h2 : k0_cond2 i = 1#1), ∀ a, (k0_off76 v135) a + S1x512.size a ≤ S36864x512.size a)
theorem k0_off76_inb : ∀ (i : grid0.Coords) (v135 : BitVec 32) (k0_hw23 : k0_chk23 i v135), ∀ (k0_h2 : k0_cond2 i = 1#1), ∀ a, (k0_off76 v135) a + S1x512.size a ≤ S36864x512.size a := fun i v135 k0_hw23 k0_h2 => k0_hw23 k0_h2

def k0_off77 (k0_t2 : Fin k0_t2_loop.trips) : Fin 3 → Nat :=
  let c0_112 : Index := 0#32
  let c0_113 : Index := 0#32
  let c0_i32_46 : BitVec 32 := 0#32
  let c1_i32_47 : BitVec 32 := 1#32
  let arg13 : BitVec 32 := Scf.iv c0_i32_46 c1_i32_47 k0_t2
  let c8_i32_110 : BitVec 32 := 8#32
  let v141 : BitVec 32 := Scalar.muli arg13 c8_i32_110
  let c3_i32_111 : BitVec 32 := 3#32
  let v142 : BitVec 32 := Scalar.addi v141 c3_i32_111
  let v143 : Index := Scalar.indexCast v142
  ![0, 0, v143.toNat]
def k0_off78 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_115 : BitVec 32 := 1#32
  ![v76.toNat, 1]
def k0_off79 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_114 : BitVec 32 := 1#32
  let c0_i32_46 : BitVec 32 := 0#32
  let c1_i32_47 : BitVec 32 := 1#32
  let arg13 : BitVec 32 := Scf.iv c0_i32_46 c1_i32_47 k0_t2
  let c3_i32_116 : BitVec 32 := 3#32
  let c0_i32_117 : BitVec 32 := 0#32
  ![v76.toNat, 1, arg13.toNat, 3, 0]
def k0_off80 (v144 : BitVec 32) : Fin 2 → Nat :=
  let c0_i32_118 : BitVec 32 := 0#32
  ![v144.toNat, 0]

def k0_chk24 (i : grid0.Coords) (v144 : BitVec 32) : Prop :=
  (∀ (k0_h2 : k0_cond2 i = 1#1), ∀ a, (k0_off80 v144) a + S1x512.size a ≤ S36864x512.size a)
theorem k0_off80_inb : ∀ (i : grid0.Coords) (v144 : BitVec 32) (k0_hw24 : k0_chk24 i v144), ∀ (k0_h2 : k0_cond2 i = 1#1), ∀ a, (k0_off80 v144) a + S1x512.size a ≤ S36864x512.size a := fun i v144 k0_hw24 k0_h2 => k0_hw24 k0_h2

def k0_off81 (k0_t2 : Fin k0_t2_loop.trips) : Fin 3 → Nat :=
  let c0_120 : Index := 0#32
  let c0_121 : Index := 0#32
  let c0_i32_46 : BitVec 32 := 0#32
  let c1_i32_47 : BitVec 32 := 1#32
  let arg13 : BitVec 32 := Scf.iv c0_i32_46 c1_i32_47 k0_t2
  let c8_i32_119 : BitVec 32 := 8#32
  let v150 : BitVec 32 := Scalar.muli arg13 c8_i32_119
  let c4_i32 : BitVec 32 := 4#32
  let v151 : BitVec 32 := Scalar.addi v150 c4_i32
  let v152 : Index := Scalar.indexCast v151
  ![0, 0, v152.toNat]
def k0_off82 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_123 : BitVec 32 := 0#32
  ![v76.toNat, 0]
def k0_off83 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_122 : BitVec 32 := 0#32
  let c0_i32_46 : BitVec 32 := 0#32
  let c1_i32_47 : BitVec 32 := 1#32
  let arg13 : BitVec 32 := Scf.iv c0_i32_46 c1_i32_47 k0_t2
  let c4_i32_124 : BitVec 32 := 4#32
  let c0_i32_125 : BitVec 32 := 0#32
  ![v76.toNat, 0, arg13.toNat, 4, 0]
def k0_off84 (v153 : BitVec 32) : Fin 2 → Nat :=
  let c0_i32_126 : BitVec 32 := 0#32
  ![v153.toNat, 0]

def k0_chk25 (i : grid0.Coords) (v153 : BitVec 32) : Prop :=
  (∀ (k0_h2 : k0_cond2 i = 1#1), ∀ a, (k0_off84 v153) a + S1x512.size a ≤ S36864x512.size a)
theorem k0_off84_inb : ∀ (i : grid0.Coords) (v153 : BitVec 32) (k0_hw25 : k0_chk25 i v153), ∀ (k0_h2 : k0_cond2 i = 1#1), ∀ a, (k0_off84 v153) a + S1x512.size a ≤ S36864x512.size a := fun i v153 k0_hw25 k0_h2 => k0_hw25 k0_h2

def k0_off85 (k0_t2 : Fin k0_t2_loop.trips) : Fin 3 → Nat :=
  let c0_129 : Index := 0#32
  let c0_130 : Index := 0#32
  let c0_i32_46 : BitVec 32 := 0#32
  let c1_i32_47 : BitVec 32 := 1#32
  let arg13 : BitVec 32 := Scf.iv c0_i32_46 c1_i32_47 k0_t2
  let c8_i32_127 : BitVec 32 := 8#32
  let v159 : BitVec 32 := Scalar.muli arg13 c8_i32_127
  let c4_i32_128 : BitVec 32 := 4#32
  let v160 : BitVec 32 := Scalar.addi v159 c4_i32_128
  let v161 : Index := Scalar.indexCast v160
  ![0, 0, v161.toNat]
def k0_off86 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_132 : BitVec 32 := 1#32
  ![v76.toNat, 1]
def k0_off87 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_131 : BitVec 32 := 1#32
  let c0_i32_46 : BitVec 32 := 0#32
  let c1_i32_47 : BitVec 32 := 1#32
  let arg13 : BitVec 32 := Scf.iv c0_i32_46 c1_i32_47 k0_t2
  let c4_i32_133 : BitVec 32 := 4#32
  let c0_i32_134 : BitVec 32 := 0#32
  ![v76.toNat, 1, arg13.toNat, 4, 0]
def k0_off88 (v162 : BitVec 32) : Fin 2 → Nat :=
  let c0_i32_135 : BitVec 32 := 0#32
  ![v162.toNat, 0]

def k0_chk26 (i : grid0.Coords) (v162 : BitVec 32) : Prop :=
  (∀ (k0_h2 : k0_cond2 i = 1#1), ∀ a, (k0_off88 v162) a + S1x512.size a ≤ S36864x512.size a)
theorem k0_off88_inb : ∀ (i : grid0.Coords) (v162 : BitVec 32) (k0_hw26 : k0_chk26 i v162), ∀ (k0_h2 : k0_cond2 i = 1#1), ∀ a, (k0_off88 v162) a + S1x512.size a ≤ S36864x512.size a := fun i v162 k0_hw26 k0_h2 => k0_hw26 k0_h2

def k0_off89 (k0_t2 : Fin k0_t2_loop.trips) : Fin 3 → Nat :=
  let c0_137 : Index := 0#32
  let c0_138 : Index := 0#32
  let c0_i32_46 : BitVec 32 := 0#32
  let c1_i32_47 : BitVec 32 := 1#32
  let arg13 : BitVec 32 := Scf.iv c0_i32_46 c1_i32_47 k0_t2
  let c8_i32_136 : BitVec 32 := 8#32
  let v168 : BitVec 32 := Scalar.muli arg13 c8_i32_136
  let c5_i32 : BitVec 32 := 5#32
  let v169 : BitVec 32 := Scalar.addi v168 c5_i32
  let v170 : Index := Scalar.indexCast v169
  ![0, 0, v170.toNat]
def k0_off90 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_140 : BitVec 32 := 0#32
  ![v76.toNat, 0]
def k0_off91 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_139 : BitVec 32 := 0#32
  let c0_i32_46 : BitVec 32 := 0#32
  let c1_i32_47 : BitVec 32 := 1#32
  let arg13 : BitVec 32 := Scf.iv c0_i32_46 c1_i32_47 k0_t2
  let c5_i32_141 : BitVec 32 := 5#32
  let c0_i32_142 : BitVec 32 := 0#32
  ![v76.toNat, 0, arg13.toNat, 5, 0]
def k0_off92 (v171 : BitVec 32) : Fin 2 → Nat :=
  let c0_i32_143 : BitVec 32 := 0#32
  ![v171.toNat, 0]

def k0_chk27 (i : grid0.Coords) (v171 : BitVec 32) : Prop :=
  (∀ (k0_h2 : k0_cond2 i = 1#1), ∀ a, (k0_off92 v171) a + S1x512.size a ≤ S36864x512.size a)
theorem k0_off92_inb : ∀ (i : grid0.Coords) (v171 : BitVec 32) (k0_hw27 : k0_chk27 i v171), ∀ (k0_h2 : k0_cond2 i = 1#1), ∀ a, (k0_off92 v171) a + S1x512.size a ≤ S36864x512.size a := fun i v171 k0_hw27 k0_h2 => k0_hw27 k0_h2

def k0_off93 (k0_t2 : Fin k0_t2_loop.trips) : Fin 3 → Nat :=
  let c0_146 : Index := 0#32
  let c0_147 : Index := 0#32
  let c0_i32_46 : BitVec 32 := 0#32
  let c1_i32_47 : BitVec 32 := 1#32
  let arg13 : BitVec 32 := Scf.iv c0_i32_46 c1_i32_47 k0_t2
  let c8_i32_144 : BitVec 32 := 8#32
  let v177 : BitVec 32 := Scalar.muli arg13 c8_i32_144
  let c5_i32_145 : BitVec 32 := 5#32
  let v178 : BitVec 32 := Scalar.addi v177 c5_i32_145
  let v179 : Index := Scalar.indexCast v178
  ![0, 0, v179.toNat]
def k0_off94 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_149 : BitVec 32 := 1#32
  ![v76.toNat, 1]
def k0_off95 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_148 : BitVec 32 := 1#32
  let c0_i32_46 : BitVec 32 := 0#32
  let c1_i32_47 : BitVec 32 := 1#32
  let arg13 : BitVec 32 := Scf.iv c0_i32_46 c1_i32_47 k0_t2
  let c5_i32_150 : BitVec 32 := 5#32
  let c0_i32_151 : BitVec 32 := 0#32
  ![v76.toNat, 1, arg13.toNat, 5, 0]
def k0_off96 (v180 : BitVec 32) : Fin 2 → Nat :=
  let c0_i32_152 : BitVec 32 := 0#32
  ![v180.toNat, 0]

def k0_chk28 (i : grid0.Coords) (v180 : BitVec 32) : Prop :=
  (∀ (k0_h2 : k0_cond2 i = 1#1), ∀ a, (k0_off96 v180) a + S1x512.size a ≤ S36864x512.size a)
theorem k0_off96_inb : ∀ (i : grid0.Coords) (v180 : BitVec 32) (k0_hw28 : k0_chk28 i v180), ∀ (k0_h2 : k0_cond2 i = 1#1), ∀ a, (k0_off96 v180) a + S1x512.size a ≤ S36864x512.size a := fun i v180 k0_hw28 k0_h2 => k0_hw28 k0_h2

def k0_off97 (k0_t2 : Fin k0_t2_loop.trips) : Fin 3 → Nat :=
  let c0_154 : Index := 0#32
  let c0_155 : Index := 0#32
  let c0_i32_46 : BitVec 32 := 0#32
  let c1_i32_47 : BitVec 32 := 1#32
  let arg13 : BitVec 32 := Scf.iv c0_i32_46 c1_i32_47 k0_t2
  let c8_i32_153 : BitVec 32 := 8#32
  let v186 : BitVec 32 := Scalar.muli arg13 c8_i32_153
  let c6_i32 : BitVec 32 := 6#32
  let v187 : BitVec 32 := Scalar.addi v186 c6_i32
  let v188 : Index := Scalar.indexCast v187
  ![0, 0, v188.toNat]
def k0_off98 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_157 : BitVec 32 := 0#32
  ![v76.toNat, 0]
def k0_off99 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_156 : BitVec 32 := 0#32
  let c0_i32_46 : BitVec 32 := 0#32
  let c1_i32_47 : BitVec 32 := 1#32
  let arg13 : BitVec 32 := Scf.iv c0_i32_46 c1_i32_47 k0_t2
  let c6_i32_158 : BitVec 32 := 6#32
  let c0_i32_159 : BitVec 32 := 0#32
  ![v76.toNat, 0, arg13.toNat, 6, 0]
def k0_off100 (v189 : BitVec 32) : Fin 2 → Nat :=
  let c0_i32_160 : BitVec 32 := 0#32
  ![v189.toNat, 0]

def k0_chk29 (i : grid0.Coords) (v189 : BitVec 32) : Prop :=
  (∀ (k0_h2 : k0_cond2 i = 1#1), ∀ a, (k0_off100 v189) a + S1x512.size a ≤ S36864x512.size a)
theorem k0_off100_inb : ∀ (i : grid0.Coords) (v189 : BitVec 32) (k0_hw29 : k0_chk29 i v189), ∀ (k0_h2 : k0_cond2 i = 1#1), ∀ a, (k0_off100 v189) a + S1x512.size a ≤ S36864x512.size a := fun i v189 k0_hw29 k0_h2 => k0_hw29 k0_h2

def k0_off101 (k0_t2 : Fin k0_t2_loop.trips) : Fin 3 → Nat :=
  let c0_163 : Index := 0#32
  let c0_164 : Index := 0#32
  let c0_i32_46 : BitVec 32 := 0#32
  let c1_i32_47 : BitVec 32 := 1#32
  let arg13 : BitVec 32 := Scf.iv c0_i32_46 c1_i32_47 k0_t2
  let c8_i32_161 : BitVec 32 := 8#32
  let v195 : BitVec 32 := Scalar.muli arg13 c8_i32_161
  let c6_i32_162 : BitVec 32 := 6#32
  let v196 : BitVec 32 := Scalar.addi v195 c6_i32_162
  let v197 : Index := Scalar.indexCast v196
  ![0, 0, v197.toNat]
def k0_off102 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_166 : BitVec 32 := 1#32
  ![v76.toNat, 1]
def k0_off103 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_165 : BitVec 32 := 1#32
  let c0_i32_46 : BitVec 32 := 0#32
  let c1_i32_47 : BitVec 32 := 1#32
  let arg13 : BitVec 32 := Scf.iv c0_i32_46 c1_i32_47 k0_t2
  let c6_i32_167 : BitVec 32 := 6#32
  let c0_i32_168 : BitVec 32 := 0#32
  ![v76.toNat, 1, arg13.toNat, 6, 0]
def k0_off104 (v198 : BitVec 32) : Fin 2 → Nat :=
  let c0_i32_169 : BitVec 32 := 0#32
  ![v198.toNat, 0]

def k0_chk30 (i : grid0.Coords) (v198 : BitVec 32) : Prop :=
  (∀ (k0_h2 : k0_cond2 i = 1#1), ∀ a, (k0_off104 v198) a + S1x512.size a ≤ S36864x512.size a)
theorem k0_off104_inb : ∀ (i : grid0.Coords) (v198 : BitVec 32) (k0_hw30 : k0_chk30 i v198), ∀ (k0_h2 : k0_cond2 i = 1#1), ∀ a, (k0_off104 v198) a + S1x512.size a ≤ S36864x512.size a := fun i v198 k0_hw30 k0_h2 => k0_hw30 k0_h2

def k0_off105 (k0_t2 : Fin k0_t2_loop.trips) : Fin 3 → Nat :=
  let c0_171 : Index := 0#32
  let c0_172 : Index := 0#32
  let c0_i32_46 : BitVec 32 := 0#32
  let c1_i32_47 : BitVec 32 := 1#32
  let arg13 : BitVec 32 := Scf.iv c0_i32_46 c1_i32_47 k0_t2
  let c8_i32_170 : BitVec 32 := 8#32
  let v204 : BitVec 32 := Scalar.muli arg13 c8_i32_170
  let c7_i32 : BitVec 32 := 7#32
  let v205 : BitVec 32 := Scalar.addi v204 c7_i32
  let v206 : Index := Scalar.indexCast v205
  ![0, 0, v206.toNat]
def k0_off106 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_174 : BitVec 32 := 0#32
  ![v76.toNat, 0]
def k0_off107 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c0_i32_173 : BitVec 32 := 0#32
  let c0_i32_46 : BitVec 32 := 0#32
  let c1_i32_47 : BitVec 32 := 1#32
  let arg13 : BitVec 32 := Scf.iv c0_i32_46 c1_i32_47 k0_t2
  let c7_i32_175 : BitVec 32 := 7#32
  let c0_i32_176 : BitVec 32 := 0#32
  ![v76.toNat, 0, arg13.toNat, 7, 0]
def k0_off108 (v207 : BitVec 32) : Fin 2 → Nat :=
  let c0_i32_177 : BitVec 32 := 0#32
  ![v207.toNat, 0]

def k0_chk31 (i : grid0.Coords) (v207 : BitVec 32) : Prop :=
  (∀ (k0_h2 : k0_cond2 i = 1#1), ∀ a, (k0_off108 v207) a + S1x512.size a ≤ S36864x512.size a)
theorem k0_off108_inb : ∀ (i : grid0.Coords) (v207 : BitVec 32) (k0_hw31 : k0_chk31 i v207), ∀ (k0_h2 : k0_cond2 i = 1#1), ∀ a, (k0_off108 v207) a + S1x512.size a ≤ S36864x512.size a := fun i v207 k0_hw31 k0_h2 => k0_hw31 k0_h2

def k0_off109 (k0_t2 : Fin k0_t2_loop.trips) : Fin 3 → Nat :=
  let c0_180 : Index := 0#32
  let c0_181 : Index := 0#32
  let c0_i32_46 : BitVec 32 := 0#32
  let c1_i32_47 : BitVec 32 := 1#32
  let arg13 : BitVec 32 := Scf.iv c0_i32_46 c1_i32_47 k0_t2
  let c8_i32_178 : BitVec 32 := 8#32
  let v213 : BitVec 32 := Scalar.muli arg13 c8_i32_178
  let c7_i32_179 : BitVec 32 := 7#32
  let v214 : BitVec 32 := Scalar.addi v213 c7_i32_179
  let v215 : Index := Scalar.indexCast v214
  ![0, 0, v215.toNat]
def k0_off110 (i : grid0.Coords) : Fin 2 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_183 : BitVec 32 := 1#32
  ![v76.toNat, 1]
def k0_off111 (i : grid0.Coords) (k0_t2 : Fin k0_t2_loop.trips) : Fin 5 → Nat :=
  let arg0 : BitVec 32 := BitVec.ofNat 32 (i 0).val
  let c1_i32_39 : BitVec 32 := 1#32
  let v66 : BitVec 32 := Scalar.addi arg0 c1_i32_39
  let c2_i32_40 : BitVec 32 := 2#32
  let c0_i32_41 : BitVec 32 := 0#32
  let v67 : BitVec 1 := Scalar.cmpi .eq c2_i32_40 c0_i32_41
  let c1_i32_42 : BitVec 32 := 1#32
  let v68 : BitVec 32 := Scalar.select v67 c1_i32_42 c2_i32_40
  let v69 : BitVec 32 := Scalar.remsi v66 v68
  let c0_i32_44 : BitVec 32 := 0#32
  let v71 : BitVec 1 := Scalar.cmpi .slt v69 c0_i32_44
  let c0_i32_45 : BitVec 32 := 0#32
  let v72 : BitVec 1 := Scalar.cmpi .slt v68 c0_i32_45
  let v73 : BitVec 1 := Scalar.xori v71 v72
  let c0_i32_43 : BitVec 32 := 0#32
  let v70 : BitVec 1 := Scalar.cmpi .ne v69 c0_i32_43
  let v74 : BitVec 1 := Scalar.andi v73 v70
  let v75 : BitVec 32 := Scalar.addi v69 v68
  let v76 : BitVec 32 := Scalar.select v74 v75 v69
  let c1_i32_182 : BitVec 32 := 1#32
  let c0_i32_46 : BitVec 32 := 0#32
  let c1_i32_47 : BitVec 32 := 1#32
  let arg13 : BitVec 32 := Scf.iv c0_i32_46 c1_i32_47 k0_t2
  let c7_i32_184 : BitVec 32 := 7#32
  let c0_i32_185 : BitVec 32 := 0#32
  ![v76.toNat, 1, arg13.toNat, 7, 0]
def k0_off112 (v216 : BitVec 32) : Fin 2 → Nat :=
  let c0_i32_186 : BitVec 32 := 0#32
  ![v216.toNat, 0]

def k0_chk32 (i : grid0.Coords) (v216 : BitVec 32) : Prop :=
  (∀ (k0_h2 : k0_cond2 i = 1#1), ∀ a, (k0_off112 v216) a + S1x512.size a ≤ S36864x512.size a)
theorem k0_off112_inb : ∀ (i : grid0.Coords) (v216 : BitVec 32) (k0_hw32 : k0_chk32 i v216), ∀ (k0_h2 : k0_cond2 i = 1#1), ∀ a, (k0_off112 v216) a + S1x512.size a ≤ S36864x512.size a := fun i v216 k0_hw32 k0_h2 => k0_hw32 k0_h2

def k0_off113 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_8 : BitVec 32 := 0#32
  ![v16.toNat, 0]
def k0_off114 (i : grid0.Coords) : Fin 5 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let c0_i32_9 : BitVec 32 := 0#32
  let c0_i32_10 : BitVec 32 := 0#32
  let c0_i32_11 : BitVec 32 := 0#32
  ![v16.toNat, 0, 0, 0, 0]
def k0_off115 (i : grid0.Coords) : Fin 2 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_16 : BitVec 32 := 1#32
  ![v16.toNat, 1]
def k0_off116 (i : grid0.Coords) : Fin 5 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c1_i32_15 : BitVec 32 := 1#32
  let c0_i32_17 : BitVec 32 := 0#32
  let c0_i32_18 : BitVec 32 := 0#32
  let c0_i32_19 : BitVec 32 := 0#32
  ![v16.toNat, 1, 0, 0, 0]
def k0_off117 (i : grid0.Coords) : Fin 5 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v30 : Index := Scalar.indexCast v16
  let c0_26 : Index := 0#32
  let c0_27 : Index := 0#32
  let c0_28 : Index := 0#32
  let c0_29 : Index := 0#32
  ![v30.toNat, 0, 0, 0, 0]
def k0_off118 (i : grid0.Coords) : Fin 5 → Nat :=
  let arg0 : BitVec 32 := BitVec.ofNat 32 (i 0).val
  let c2_i32 : BitVec 32 := 2#32
  let c0_i32_2 : BitVec 32 := 0#32
  let v7 : BitVec 1 := Scalar.cmpi .eq c2_i32 c0_i32_2
  let c1_i32_3 : BitVec 32 := 1#32
  let v8 : BitVec 32 := Scalar.select v7 c1_i32_3 c2_i32
  let v9 : BitVec 32 := Scalar.remsi arg0 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let v41 : Index := Scalar.indexCast v16
  let c1 : Index := 1#32
  let c0_30 : Index := 0#32
  let c0_31 : Index := 0#32
  let c0_32 : Index := 0#32
  ![v41.toNat, 1, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c32_i32 : BitVec 32 := 32#32
  let c0_i32 : BitVec 32 := 0#32
  let c0_i32_0 : BitVec 32 := 0#32
  let c0_i32_1 : BitVec 32 := 0#32
  ![c32_i32.toNat, c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c32_i32 : BitVec 32 := 32#32
  let v2 : BitVec 32 := Scalar.addi c32_i32 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .smem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16384x1024 : Shape := ⟨2, ![16384, 1024]⟩
abbrev S16384x128 : Shape := ⟨2, ![16384, 128]⟩
abbrev S2x16384 : Shape := ⟨2, ![2, 16384]⟩
abbrev S36864x512 : Shape := ⟨2, ![36864, 512]⟩
abbrev S1024 : Shape := ⟨1, ![1024]⟩
abbrev S36864x512x2 : Shape := ⟨3, ![36864, 512, 2]⟩
abbrev S36864x512x1 : Shape := ⟨3, ![36864, 512, 1]⟩
abbrev S36864x1024 : Shape := ⟨2, ![36864, 1024]⟩
abbrev S16384x1 : Shape := ⟨2, ![16384, 1]⟩
abbrev S1x16384 : Shape := ⟨2, ![1, 16384]⟩
abbrev S16384 : Shape := ⟨1, ![16384]⟩
abbrev S_ : Shape := ⟨0, ![]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S2x16384, .i32⟩
  | .hbm, ⟨3, _⟩ => ⟨S36864x512, .i32⟩
  | .hbm, ⟨4, _⟩ => ⟨S1024, .f32⟩
  | .hbm, ⟨5, _⟩ => ⟨S36864x512x2, .bf16⟩
  | .hbm, ⟨6, _⟩ => ⟨S36864x512x2, .f32⟩
  | .hbm, ⟨7, _⟩ => ⟨S36864x512x1, .f32⟩
  | .hbm, ⟨8, _⟩ => ⟨S36864x512, .f32⟩
  | .hbm, ⟨9, _⟩ => ⟨S36864x512x1, .f32⟩
  | .hbm, ⟨10, _⟩ => ⟨S36864x512, .f32⟩
  | .hbm, ⟨11, _⟩ => ⟨S36864x1024, .f32⟩
  | .hbm, ⟨12, _⟩ => ⟨S16384x1, .f32⟩
  | .hbm, ⟨13, _⟩ => ⟨S1x16384, .i32⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1, .f32⟩
  | .hbm, ⟨27, _⟩ => ⟨S1x16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩

abbrev nD : Nat := 1
abbrev τ : Topo := Topo.v7x

variable {F : FTy → Type} [FloatOps F]
-- ==== Kernel2.lean ====
abbrev S36864x1024 : Shape := ⟨2, ![36864, 1024]⟩
abbrev S1024 : Shape := ⟨1, ![1024]⟩
abbrev S8x1024x3584 : Shape := ⟨3, ![8, 1024, 3584]⟩
abbrev S8x3584x1024 : Shape := ⟨3, ![8, 3584, 1024]⟩
abbrev S2x72 : Shape := ⟨2, ![2, 72]⟩
abbrev S1 : Shape := ⟨1, ![1]⟩
abbrev S1x1024 : Shape := ⟨2, ![1, 1024]⟩
abbrev S36864x512 : Shape := ⟨2, ![36864, 512]⟩
abbrev S512x1024 : Shape := ⟨2, ![512, 1024]⟩
abbrev S1x1024x3584 : Shape := ⟨3, ![1, 1024, 3584]⟩
abbrev S1x1 : Shape := ⟨2, ![1, 1]⟩
abbrev S1x3584x1024 : Shape := ⟨3, ![1, 3584, 1024]⟩
abbrev S512x512 : Shape := ⟨2, ![512, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 11
  | .vmem => 15
  | .smem => 2
  | _ => 0

abbrev bufTy : (tb : Table) → Fin (tcTables nBuf tb) → BufTy
  | .hbm, ⟨0, _⟩ => ⟨S36864x1024, .f32⟩
  | .hbm, ⟨1, _⟩ => ⟨S1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S1x1024, .f32⟩
  | .hbm, ⟨9, _⟩ => ⟨S36864x512, .i32⟩
  | .hbm, ⟨10, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x1024x3584, .bf16⟩
  | .local _ .vmem, ⟨7, _⟩ => ⟨S1x3584x1024, .bf16⟩
  | .local _ .vmem, ⟨8, _⟩ => ⟨S1x3584x1024, .bf16⟩
  | .local _ .vmem, ⟨9, _⟩ => ⟨S512x512, .i32⟩
  | .local _ .vmem, ⟨10, _⟩ => ⟨S512x512, .i32⟩
  | .local _ .vmem, ⟨11, _⟩ => ⟨S512x512, .i32⟩
  | .local _ .vmem, ⟨12, _⟩ => ⟨S512x512, .i32⟩
  | .local _ .vmem, ⟨13, _⟩ => ⟨S512x1024, .f32⟩
  | .local _ .vmem, ⟨14, _⟩ => ⟨S512x1024, .f32⟩
  | .local _ .smem, ⟨0, _⟩ => ⟨S2x72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14

abbrev nD : Nat := 1
abbrev τ : Topo := Topo.v7x

variable {F : FTy → Type} [BitOps F]

abbrev grid0 : Pipeline.Grid := ⟨1, ![72], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_cond1 (i : grid0.Coords) (v0 : BitVec 32) (v3 : BitVec 32) : BitVec 1 :=
  let arg0 : BitVec 32 := BitVec.ofNat 32 (i 0).val
  let v1 : BitVec 1 := Scalar.cmpi .slt arg0 v0
  let c256_i32 : BitVec 32 := 256#32
  let v4 : BitVec 1 := Scalar.cmpi .sgt v3 c256_i32
  let v5 : BitVec 1 := Scalar.andi v1 v4
  let v6 : BitVec 32 := Scalar.extui v5
  let c0_i32 : BitVec 32 := 0#32
  let v7 : BitVec 1 := Scalar.cmpi .ne v6 c0_i32
  v7

def k0_cond2 (i : grid0.Coords) (v0 : BitVec 32) (v3 : BitVec 32) : BitVec 1 :=
  let arg0 : BitVec 32 := BitVec.ofNat 32 (i 0).val
  let v1 : BitVec 1 := Scalar.cmpi .slt arg0 v0
  let c256_i32_0 : BitVec 32 := 256#32
  let v8 : BitVec 1 := Scalar.cmpi .sle v3 c256_i32_0
  let v9 : BitVec 1 := Scalar.andi v1 v8
  let v10 : BitVec 32 := Scalar.extui v9
  let c0_i32_1 : BitVec 32 := 0#32
  let v11 : BitVec 1 := Scalar.cmpi .ne v10 c0_i32_1
  v11

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3584x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Kernel2Ideal.lean ====
abbrev S36864x1024 : Shape := ⟨2, ![36864, 1024]⟩
abbrev S1024 : Shape := ⟨1, ![1024]⟩
abbrev S8x1024x3584 : Shape := ⟨3, ![8, 1024, 3584]⟩
abbrev S8x3584x1024 : Shape := ⟨3, ![8, 3584, 1024]⟩
abbrev S2x72 : Shape := ⟨2, ![2, 72]⟩
abbrev S1 : Shape := ⟨1, ![1]⟩
abbrev S1x1024 : Shape := ⟨2, ![1, 1024]⟩
abbrev S36864x2x512 : Shape := ⟨3, ![36864, 2, 512]⟩
abbrev S36864x1x512 : Shape := ⟨3, ![36864, 1, 512]⟩
abbrev S36864x512 : Shape := ⟨2, ![36864, 512]⟩
abbrev S512x1024 : Shape := ⟨2, ![512, 1024]⟩
abbrev S1x1024x3584 : Shape := ⟨3, ![1, 1024, 3584]⟩
abbrev S1x1 : Shape := ⟨2, ![1, 1]⟩
abbrev S1x3584x1024 : Shape := ⟨3, ![1, 3584, 1024]⟩
abbrev S512x512 : Shape := ⟨2, ![512, 512]⟩
abbrev S512x2x512 : Shape := ⟨3, ![512, 2, 512]⟩
abbrev S512x1x512 : Shape := ⟨3, ![512, 1, 512]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S1x512x1024 : Shape := ⟨3, ![1, 512, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩
abbrev S256x2x512 : Shape := ⟨3, ![256, 2, 512]⟩
abbrev S256x1x512 : Shape := ⟨3, ![256, 1, 512]⟩

abbrev nBuf : Space → Nat
  | .hbm => 11
  | .vmem => 15
  | .smem => 2
  | _ => 0

abbrev bufTy : (tb : Table) → Fin (tcTables nBuf tb) → BufTy
  | .hbm, ⟨0, _⟩ => ⟨S36864x1024, .f32⟩
  | .hbm, ⟨1, _⟩ => ⟨S1024, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S1x1024, .f32⟩
  | .hbm, ⟨9, _⟩ => ⟨S36864x2x512, .bf16⟩
  | .hbm, ⟨10, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3584, .bf16⟩
  | .local _ .vmem, ⟨4, _⟩ => ⟨S1x1024x3584, .bf16⟩
  | .local _ .vmem, ⟨5, _⟩ => ⟨S1x1024x3584, .bf16⟩
  | .local _ .vmem, ⟨6, _⟩ => ⟨S1x1024x3584, .bf16⟩
  | .local _ .vmem, ⟨7, _⟩ => ⟨S1x3584x1024, .bf16⟩
  | .local _ .vmem, ⟨8, _⟩ => ⟨S1x3584x1024, .bf16⟩
  | .local _ .vmem, ⟨9, _⟩ => ⟨S512x2x512, .bf16⟩
  | .local _ .vmem, ⟨10, _⟩ => ⟨S512x2x512, .bf16⟩
  | .local _ .vmem, ⟨11, _⟩ => ⟨S512x2x512, .bf16⟩
  | .local _ .vmem, ⟨12, _⟩ => ⟨S512x2x512, .bf16⟩
  | .local _ .vmem, ⟨13, _⟩ => ⟨S512x1024, .f32⟩
  | .local _ .vmem, ⟨14, _⟩ => ⟨S512x1024, .f32⟩
  | .local _ .smem, ⟨0, _⟩ => ⟨S2x72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 2 → Nat :=
  let c0 : Index := 0#32
  let arg0 : BitVec 32 := BitVec.ofNat 32 (i 0).val
  let v0 : Index := Scalar.indexCast arg0
  ![0, v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_cond1 (i : grid0.Coords) (v0 : BitVec 32) (v3 : BitVec 32) : BitVec 1 :=
  let arg0 : BitVec 32 := BitVec.ofNat 32 (i 0).val
  let v1 : BitVec 1 := Scalar.cmpi .slt arg0 v0
  let c256_i32 : BitVec 32 := 256#32
  let v4 : BitVec 1 := Scalar.cmpi .sgt v3 c256_i32
  let v5 : BitVec 1 := Scalar.andi v1 v4
  let v6 : BitVec 32 := Scalar.extui v5
  let c0_i32 : BitVec 32 := 0#32
  let v7 : BitVec 1 := Scalar.cmpi .ne v6 c0_i32
  v7

def k0_cond2 (i : grid0.Coords) (v0 : BitVec 32) (v3 : BitVec 32) : BitVec 1 :=
  let arg0 : BitVec 32 := BitVec.ofNat 32 (i 0).val
  let v1 : BitVec 1 := Scalar.cmpi .slt arg0 v0
  let c256_i32_0 : BitVec 32 := 256#32
  let v8 : BitVec 1 := Scalar.cmpi .sle v3 c256_i32_0
  let v9 : BitVec 1 := Scalar.andi v1 v8
  let v10 : BitVec 32 := Scalar.extui v9
  let c0_i32_1 : BitVec 32 := 0#32
  let v11 : BitVec 1 := Scalar.cmpi .ne v10 c0_i32_1
  v11

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1x1.size a ≤ S2x72.size a) (numel1_S1x1 : S1x1.numel = 1) (pf : pre0.Contents (Elt F)) (i : grid0.Coords) : Fin 3 → Nat :=
  let arg0 : BitVec 32 := BitVec.ofNat 32 (i 0).val
  let c0 : Index := 0#32
  let v0 : Index := Scalar.indexCast arg0
  let v1 : BitVec 32 := pf.at 0 (Rect.unit (s := S2x72) ![0, v0.toNat] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3584x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![72], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== Reference2Ideal.lean ====
abbrev S36864x1024 : Shape := ⟨2, ![36864, 1024]⟩
abbrev S1024 : Shape := ⟨1, ![1024]⟩
abbrev S8x1024x3584 : Shape := ⟨3, ![8, 1024, 3584]⟩
abbrev S8x3584x1024 : Shape := ⟨3, ![8, 3584, 1024]⟩
abbrev S2x72 : Shape := ⟨2, ![2, 72]⟩
abbrev S1 : Shape := ⟨1, ![1]⟩
abbrev S_ : Shape := ⟨0, ![]⟩
abbrev S36864 : Shape := ⟨1, ![36864]⟩
abbrev S36864x1 : Shape := ⟨2, ![36864, 1]⟩
abbrev S1x1024 : Shape := ⟨2, ![1, 1024]⟩
abbrev S1x72 : Shape := ⟨2, ![1, 72]⟩
abbrev S72 : Shape := ⟨1, ![72]⟩
abbrev S72x512 : Shape := ⟨2, ![72, 512]⟩
abbrev S1x8 : Shape := ⟨2, ![1, 8]⟩
abbrev S36864x8 : Shape := ⟨2, ![36864, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 219
  | .vmem => 0
  | .smem => 0
  | _ => 0

abbrev hbmTy0_0 (i : Nat) : BufTy := match i % 128 with
  | 0 => ⟨S36864x1024, .f32⟩
  | 1 => ⟨S1024, .f32⟩
  | 2 => ⟨S8x1024x3584, .f32⟩
  | 3 => ⟨S8x1024x3584, .f32⟩
  | 4 => ⟨S8x3584x1024, .f32⟩
  | 5 => ⟨S2x72, .i32⟩
  | 6 => ⟨S1, .i32⟩
  | 7 => ⟨S36864x1024, .f32⟩
  | 8 => ⟨S_, .f32⟩
  | 9 => ⟨S36864, .f32⟩
  | 10 => ⟨S36864x1, .f32⟩
  | 11 => ⟨S_, .f32⟩
  | 12 => ⟨S36864x1, .f32⟩
  | 13 => ⟨S36864x1, .f32⟩
  | 14 => ⟨S_, .f32⟩
  | 15 => ⟨S36864x1, .f32⟩
  | 16 => ⟨S36864x1, .f32⟩
  | 17 => ⟨S36864x1, .f32⟩
  | 18 => ⟨S36864x1024, .f32⟩
  | 19 => ⟨S36864x1024, .f32⟩
  | 20 => ⟨S1x1024, .f32⟩
  | 21 => ⟨S36864x1024, .f32⟩
  | 22 => ⟨S36864x1024, .f32⟩
  | 23 => ⟨S1x72, .i32⟩
  | 24 => ⟨S72, .i32⟩
  | 25 => ⟨S72x512, .i32⟩
  | 26 => ⟨S36864, .i32⟩
  | 27 => ⟨S36864x1, .i32⟩
  | 28 => ⟨S1x8, .i32⟩
  | 29 => ⟨S36864x8, .i32⟩
  | 30 => ⟨S36864x8, .i32⟩
  | 31 => ⟨S36864x8, .i1⟩
  | 32 => ⟨S36864x8, .f32⟩
  | 33 => ⟨S_, .f32⟩
  | 34 => ⟨S36864x1024, .f32⟩
  | 35 => ⟨S36864x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S36864x3584, .f32⟩
  | 43 => ⟨S36864x3584, .f32⟩
  | 44 => ⟨S36864x3584, .f32⟩
  | 45 => ⟨S_, .f32⟩
  | 46 => ⟨S36864x3584, .f32⟩
  | 47 => ⟨S36864x3584, .f32⟩
  | 48 => ⟨S_, .f32⟩
  | 49 => ⟨S36864x3584, .f32⟩
  | 50 => ⟨S36864x3584, .f32⟩
  | 51 => ⟨S36864x3584, .f32⟩
  | 52 => ⟨S36864x3584, .f32⟩
  | 53 => ⟨S36864x3584, .f32⟩
  | 54 => ⟨S36864x1024, .f32⟩
  | 55 => ⟨S36864x1024, .f32⟩
  | 56 => ⟨S36864x1024, .f32⟩
  | 57 => ⟨S36864x1024, .f32⟩
  | 58 => ⟨S36864x1, .f32⟩
  | 59 => ⟨S1x1024x3584, .f32⟩
  | 60 => ⟨S1024x3584, .f32⟩
  | 61 => ⟨S1x1024x3584, .f32⟩
  | 62 => ⟨S1024x3584, .f32⟩
  | 63 => ⟨S1x3584x1024, .f32⟩
  | 64 => ⟨S3584x1024, .f32⟩
  | 65 => ⟨S36864x3584, .f32⟩
  | 66 => ⟨S36864x3584, .f32⟩
  | 67 => ⟨S36864x3584, .f32⟩
  | 68 => ⟨S_, .f32⟩
  | 69 => ⟨S36864x3584, .f32⟩
  | 70 => ⟨S36864x3584, .f32⟩
  | 71 => ⟨S_, .f32⟩
  | 72 => ⟨S36864x3584, .f32⟩
  | 73 => ⟨S36864x3584, .f32⟩
  | 74 => ⟨S36864x3584, .f32⟩
  | 75 => ⟨S36864x3584, .f32⟩
  | 76 => ⟨S36864x3584, .f32⟩
  | 77 => ⟨S36864x1024, .f32⟩
  | 78 => ⟨S36864x1024, .f32⟩
  | 79 => ⟨S36864x1024, .f32⟩
  | 80 => ⟨S36864x1024, .f32⟩
  | 81 => ⟨S36864x1, .f32⟩
  | 82 => ⟨S1x1024x3584, .f32⟩
  | 83 => ⟨S1024x3584, .f32⟩
  | 84 => ⟨S1x1024x3584, .f32⟩
  | 85 => ⟨S1024x3584, .f32⟩
  | 86 => ⟨S1x3584x1024, .f32⟩
  | 87 => ⟨S3584x1024, .f32⟩
  | 88 => ⟨S36864x3584, .f32⟩
  | 89 => ⟨S36864x3584, .f32⟩
  | 90 => ⟨S36864x3584, .f32⟩
  | 91 => ⟨S_, .f32⟩
  | 92 => ⟨S36864x3584, .f32⟩
  | 93 => ⟨S36864x3584, .f32⟩
  | 94 => ⟨S_, .f32⟩
  | 95 => ⟨S36864x3584, .f32⟩
  | 96 => ⟨S36864x3584, .f32⟩
  | 97 => ⟨S36864x3584, .f32⟩
  | 98 => ⟨S36864x3584, .f32⟩
  | 99 => ⟨S36864x3584, .f32⟩
  | 100 => ⟨S36864x1024, .f32⟩
  | 101 => ⟨S36864x1024, .f32⟩
  | 102 => ⟨S36864x1024, .f32⟩
  | 103 => ⟨S36864x1024, .f32⟩
  | 104 => ⟨S36864x1, .f32⟩
  | 105 => ⟨S1x1024x3584, .f32⟩
  | 106 => ⟨S1024x3584, .f32⟩
  | 107 => ⟨S1x1024x3584, .f32⟩
  | 108 => ⟨S1024x3584, .f32⟩
  | 109 => ⟨S1x3584x1024, .f32⟩
  | 110 => ⟨S3584x1024, .f32⟩
  | 111 => ⟨S36864x3584, .f32⟩
  | 112 => ⟨S36864x3584, .f32⟩
  | 113 => ⟨S36864x3584, .f32⟩
  | 114 => ⟨S_, .f32⟩
  | 115 => ⟨S36864x3584, .f32⟩
  | 116 => ⟨S36864x3584, .f32⟩
  | 117 => ⟨S_, .f32⟩
  | 118 => ⟨S36864x3584, .f32⟩
  | 119 => ⟨S36864x3584, .f32⟩
  | 120 => ⟨S36864x3584, .f32⟩
  | 121 => ⟨S36864x3584, .f32⟩
  | 122 => ⟨S36864x3584, .f32⟩
  | 123 => ⟨S36864x1024, .f32⟩
  | 124 => ⟨S36864x1024, .f32⟩
  | 125 => ⟨S36864x1024, .f32⟩
  | 126 => ⟨S36864x1024, .f32⟩
  | 127 => ⟨S36864x1, .f32⟩
  | _ => ⟨S36864x1024, .f32⟩

abbrev hbmTy0_1 (i : Nat) : BufTy := match i % 128 with
  | 0 => ⟨S1x1024x3584, .f32⟩
  | 1 => ⟨S1024x3584, .f32⟩
  | 2 => ⟨S1x1024x3584, .f32⟩
  | 3 => ⟨S1024x3584, .f32⟩
  | 4 => ⟨S1x3584x1024, .f32⟩
  | 5 => ⟨S3584x1024, .f32⟩
  | 6 => ⟨S36864x3584, .f32⟩
  | 7 => ⟨S36864x3584, .f32⟩
  | 8 => ⟨S36864x3584, .f32⟩
  | 9 => ⟨S_, .f32⟩
  | 10 => ⟨S36864x3584, .f32⟩
  | 11 => ⟨S36864x3584, .f32⟩
  | 12 => ⟨S_, .f32⟩
  | 13 => ⟨S36864x3584, .f32⟩
  | 14 => ⟨S36864x3584, .f32⟩
  | 15 => ⟨S36864x3584, .f32⟩
  | 16 => ⟨S36864x3584, .f32⟩
  | 17 => ⟨S36864x3584, .f32⟩
  | 18 => ⟨S36864x1024, .f32⟩
  | 19 => ⟨S36864x1024, .f32⟩
  | 20 => ⟨S36864x1024, .f32⟩
  | 21 => ⟨S36864x1024, .f32⟩
  | 22 => ⟨S36864x1, .f32⟩
  | 23 => ⟨S1x1024x3584, .f32⟩
  | 24 => ⟨S1024x3584, .f32⟩
  | 25 => ⟨S1x1024x3584, .f32⟩
  | 26 => ⟨S1024x3584, .f32⟩
  | 27 => ⟨S1x3584x1024, .f32⟩
  | 28 => ⟨S3584x1024, .f32⟩
  | 29 => ⟨S36864x3584, .f32⟩
  | 30 => ⟨S36864x3584, .f32⟩
  | 31 => ⟨S36864x3584, .f32⟩
  | 32 => ⟨S_, .f32⟩
  | 33 => ⟨S36864x3584, .f32⟩
  | 34 => ⟨S36864x3584, .f32⟩
  | 35 => ⟨S_, .f32⟩
  | 36 => ⟨S36864x3584, .f32⟩
  | 37 => ⟨S36864x3584, .f32⟩
  | 38 => ⟨S36864x3584, .f32⟩
  | 39 => ⟨S36864x3584, .f32⟩
  | 40 => ⟨S36864x3584, .f32⟩
  | 41 => ⟨S36864x1024, .f32⟩
  | 42 => ⟨S36864x1024, .f32⟩
  | 43 => ⟨S36864x1024, .f32⟩
  | 44 => ⟨S36864x1024, .f32⟩
  | 45 => ⟨S36864x1, .f32⟩
  | 46 => ⟨S1x1024x3584, .f32⟩
  | 47 => ⟨S1024x3584, .f32⟩
  | 48 => ⟨S1x1024x3584, .f32⟩
  | 49 => ⟨S1024x3584, .f32⟩
  | 50 => ⟨S1x3584x1024, .f32⟩
  | 51 => ⟨S3584x1024, .f32⟩
  | 52 => ⟨S36864x3584, .f32⟩
  | 53 => ⟨S36864x3584, .f32⟩
  | 54 => ⟨S36864x3584, .f32⟩
  | 55 => ⟨S_, .f32⟩
  | 56 => ⟨S36864x3584, .f32⟩
  | 57 => ⟨S36864x3584, .f32⟩
  | 58 => ⟨S_, .f32⟩
  | 59 => ⟨S36864x3584, .f32⟩
  | 60 => ⟨S36864x3584, .f32⟩
  | 61 => ⟨S36864x3584, .f32⟩
  | 62 => ⟨S36864x3584, .f32⟩
  | 63 => ⟨S36864x3584, .f32⟩
  | 64 => ⟨S36864x1024, .f32⟩
  | 65 => ⟨S36864x1024, .f32⟩
  | 66 => ⟨S36864x1024, .f32⟩
  | 67 => ⟨S36864x1024, .f32⟩
  | 68 => ⟨S36864x1, .f32⟩
  | 69 => ⟨S1x1024x3584, .f32⟩
  | 70 => ⟨S1024x3584, .f32⟩
  | 71 => ⟨S1x1024x3584, .f32⟩
  | 72 => ⟨S1024x3584, .f32⟩
  | 73 => ⟨S1x3584x1024, .f32⟩
  | 74 => ⟨S3584x1024, .f32⟩
  | 75 => ⟨S36864x3584, .f32⟩
  | 76 => ⟨S36864x3584, .f32⟩
  | 77 => ⟨S36864x3584, .f32⟩
  | 78 => ⟨S_, .f32⟩
  | 79 => ⟨S36864x3584, .f32⟩
  | 80 => ⟨S36864x3584, .f32⟩
  | 81 => ⟨S_, .f32⟩
  | 82 => ⟨S36864x3584, .f32⟩
  | 83 => ⟨S36864x3584, .f32⟩
  | 84 => ⟨S36864x3584, .f32⟩
  | 85 => ⟨S36864x3584, .f32⟩
  | 86 => ⟨S36864x3584, .f32⟩
  | 87 => ⟨S36864x1024, .f32⟩
  | 88 => ⟨S36864x1024, .f32⟩
  | 89 => ⟨S36864x1024, .f32⟩
  | 90 => ⟨S36864x1024, .f32⟩
  | _ => ⟨S36864x1024, .f32⟩

abbrev hbmTy (i : Nat) : BufTy := match i / 128 with
  | 0 => hbmTy0_0 i
  | 1 => hbmTy0_1 i
  | _ => ⟨S36864x1024, .f32⟩

abbrev bufTy : (tb : Table) → Fin (tcTables nBuf tb) → BufTy
  | .hbm, ⟨i, _⟩ => hbmTy i
  | _, _ => ⟨S36864x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call6_v0 : Ref sig .tc := ⟨.hbm, 158, rfl⟩
abbrev main_call6_v1 : Ref sig .tc := ⟨.hbm, 159, rfl⟩
abbrev main_call6_cst : Ref sig .tc := ⟨.hbm, 160, rfl⟩
abbrev main_call6_v2 : Ref sig .tc := ⟨.hbm, 161, rfl⟩
abbrev main_call6_v3 : Ref sig .tc := ⟨.hbm, 162, rfl⟩
abbrev main_call6_cst_0 : Ref sig .tc := ⟨.hbm, 163, rfl⟩
abbrev main_call6_v4 : Ref sig .tc := ⟨.hbm, 164, rfl⟩
abbrev main_call6_v5 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_call7_v0 : Ref sig .tc := ⟨.hbm, 181, rfl⟩
abbrev main_call7_v1 : Ref sig .tc := ⟨.hbm, 182, rfl⟩
abbrev main_call7_cst : Ref sig .tc := ⟨.hbm, 183, rfl⟩
abbrev main_call7_v2 : Ref sig .tc := ⟨.hbm, 184, rfl⟩
abbrev main_call7_v3 : Ref sig .tc := ⟨.hbm, 185, rfl⟩
abbrev main_call7_cst_0 : Ref sig .tc := ⟨.hbm, 186, rfl⟩
abbrev main_call7_v4 : Ref sig .tc := ⟨.hbm, 187, rfl⟩
abbrev main_call7_v5 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_call8_v0 : Ref sig .tc := ⟨.hbm, 204, rfl⟩
abbrev main_call8_v1 : Ref sig .tc := ⟨.hbm, 205, rfl⟩
abbrev main_call8_cst : Ref sig .tc := ⟨.hbm, 206, rfl⟩
abbrev main_call8_v2 : Ref sig .tc := ⟨.hbm, 207, rfl⟩
abbrev main_call8_v3 : Ref sig .tc := ⟨.hbm, 208, rfl⟩
abbrev main_call8_cst_0 : Ref sig .tc := ⟨.hbm, 209, rfl⟩
abbrev main_call8_v4 : Ref sig .tc := ⟨.hbm, 210, rfl⟩
abbrev main_call8_v5 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3584 : Shape := ⟨2, ![1024, 3584]⟩
abbrev S3584x1024 : Shape := ⟨2, ![3584, 1024]⟩
abbrev S8x1024x3584 : Shape := ⟨3, ![8, 1024, 3584]⟩
abbrev S8x3584x1024 : Shape := ⟨3, ![8, 3584, 1024]⟩
abbrev S2x1024x2560 : Shape := ⟨3, ![2, 1024, 2560]⟩
abbrev S2x1024x1024 : Shape := ⟨3, ![2, 1024, 1024]⟩
abbrev S8192x3584 : Shape := ⟨2, ![8192, 3584]⟩
abbrev S28672x1024 : Shape := ⟨2, ![28672, 1024]⟩
abbrev S1x1024 : Shape := ⟨2, ![1, 1024]⟩
abbrev S1024x2560 : Shape := ⟨2, ![1024, 2560]⟩
abbrev S1024x1024 : Shape := ⟨2, ![1024, 1024]⟩
abbrev S512x1024 : Shape := ⟨2, ![512, 1024]⟩
abbrev S256x3584 : Shape := ⟨2, ![256, 3584]⟩
abbrev S896x1024 : Shape := ⟨2, ![896, 1024]⟩
abbrev S1x32x2560 : Shape := ⟨3, ![1, 32, 2560]⟩
abbrev S1x32x1024 : Shape := ⟨3, ![1, 32, 1024]⟩
abbrev S32x2560 : Shape := ⟨2, ![32, 2560]⟩
abbrev S32x1024 : Shape := ⟨2, ![32, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 20
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S8x1024x3584, .f32⟩
  | .hbm, ⟨6, _⟩ => ⟨S8x3584x1024, .f32⟩
  | .hbm, ⟨7, _⟩ => ⟨S2x1024x2560, .f32⟩
  | .hbm, ⟨8, _⟩ => ⟨S2x1024x1024, .f32⟩
  | .hbm, ⟨9, _⟩ => ⟨S1024x3584, .bf16⟩
  | .hbm, ⟨10, _⟩ => ⟨S1024x3584, .bf16⟩
  | .hbm, ⟨11, _⟩ => ⟨S3584x1024, .bf16⟩
  | .hbm, ⟨12, _⟩ => ⟨S8192x3584, .f32⟩
  | .hbm, ⟨13, _⟩ => ⟨S28672x1024, .f32⟩
  | .hbm, ⟨14, _⟩ => ⟨S1x1024, .f32⟩
  | .hbm, ⟨15, _⟩ => ⟨S16384x1024, .f32⟩
  | .hbm, ⟨16, _⟩ => ⟨S8192x3584, .bf16⟩
  | .hbm, ⟨17, _⟩ => ⟨S28672x1024, .bf16⟩
  | .hbm, ⟨18, _⟩ => ⟨S1024x2560, .bf16⟩
  | .hbm, ⟨19, _⟩ => ⟨S1024x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x3584, .bf16⟩
  | .local _ .vmem, ⟨5, _⟩ => ⟨S3584x1024, .bf16⟩
  | .local _ .vmem, ⟨6, _⟩ => ⟨S256x3584, .f32⟩
  | .local _ .vmem, ⟨7, _⟩ => ⟨S256x3584, .f32⟩
  | .local _ .vmem, ⟨8, _⟩ => ⟨S896x1024, .f32⟩
  | .local _ .vmem, ⟨9, _⟩ => ⟨S896x1024, .f32⟩
  | .local _ .vmem, ⟨10, _⟩ => ⟨S1x32x2560, .f32⟩
  | .local _ .vmem, ⟨11, _⟩ => ⟨S1x32x2560, .f32⟩
  | .local _ .vmem, ⟨12, _⟩ => ⟨S1x32x1024, .f32⟩
  | .local _ .vmem, ⟨13, _⟩ => ⟨S1x32x1024, .f32⟩
  | .local _ .vmem, ⟨14, _⟩ => ⟨S512x1024, .f32⟩
  | .local _ .vmem, ⟨15, _⟩ => ⟨S512x1024, .f32⟩
  | .local _ .vmem, ⟨16, _⟩ => ⟨S256x3584, .bf16⟩
  | .local _ .vmem, ⟨17, _⟩ => ⟨S256x3584, .bf16⟩
  | .local _ .vmem, ⟨18, _⟩ => ⟨S896x1024, .bf16⟩
  | .local _ .vmem, ⟨19, _⟩ => ⟨S896x1024, .bf16⟩
  | .local _ .vmem, ⟨20, _⟩ => ⟨S32x2560, .bf16⟩
  | .local _ .vmem, ⟨21, _⟩ => ⟨S32x2560, .bf16⟩
  | .local _ .vmem, ⟨22, _⟩ => ⟨S32x1024, .bf16⟩
  | .local _ .vmem, ⟨23, _⟩ => ⟨S32x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_8 (i : grid0.Coords) : Fin 3 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  let c0_i32_0 : BitVec 32 := 0#32
  ![c1_i32.toNat, v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3584x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S896x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S896x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16384x1024 : Shape := ⟨2, ![16384, 1024]⟩
abbrev S1024 : Shape := ⟨1, ![1024]⟩
abbrev S1024x3584 : Shape := ⟨2, ![1024, 3584]⟩
abbrev S3584x1024 : Shape := ⟨2, ![3584, 1024]⟩
abbrev S8x1024x3584 : Shape := ⟨3, ![8, 1024, 3584]⟩
abbrev S8x3584x1024 : Shape := ⟨3, ![8, 3584, 1024]⟩
abbrev S2x1024x2560 : Shape := ⟨3, ![2, 1024, 2560]⟩
abbrev S2x1024x1024 : Shape := ⟨3, ![2, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3584 : Shape := ⟨2, ![16384, 3584]⟩
abbrev S8192x3584 : Shape := ⟨2, ![8192, 3584]⟩
abbrev S28672x1024 : Shape := ⟨2, ![28672, 1024]⟩
abbrev S1x1024x2560 : Shape := ⟨3, ![1, 1024, 2560]⟩
abbrev S1024x2560 : Shape := ⟨2, ![1024, 2560]⟩
abbrev S1x1024x1024 : Shape := ⟨3, ![1, 1024, 1024]⟩
abbrev S1024x1024 : Shape := ⟨2, ![1024, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S8x1024x3584, .f32⟩
  | .hbm, ⟨6, _⟩ => ⟨S8x3584x1024, .f32⟩
  | .hbm, ⟨7, _⟩ => ⟨S2x1024x2560, .f32⟩
  | .hbm, ⟨8, _⟩ => ⟨S2x1024x1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x3584, .f32⟩
  | .hbm, ⟨26, _⟩ => ⟨S16384x3584, .f32⟩
  | .hbm, ⟨27, _⟩ => ⟨S16384x3584, .f32⟩
  | .hbm, ⟨28, _⟩ => ⟨S_, .f32⟩
  | .hbm, ⟨29, _⟩ => ⟨S16384x3584, .f32⟩
  | .hbm, ⟨30, _⟩ => ⟨S16384x3584, .f32⟩
  | .hbm, ⟨31, _⟩ => ⟨S_, .f32⟩
  | .hbm, ⟨32, _⟩ => ⟨S16384x3584, .f32⟩
  | .hbm, ⟨33, _⟩ => ⟨S16384x3584, .f32⟩
  | .hbm, ⟨34, _⟩ => ⟨S16384x3584, .f32⟩
  | .hbm, ⟨35, _⟩ => ⟨S16384x3584, .f32⟩
  | .hbm, ⟨36, _⟩ => ⟨S16384x3584, .f32⟩
  | .hbm, ⟨37, _⟩ => ⟨S16384x1024, .f32⟩
  | .hbm, ⟨38, _⟩ => ⟨S16384x1024, .f32⟩
  | .hbm, ⟨39, _⟩ => ⟨S8192x3584, .f32⟩
  | .hbm, ⟨40, _⟩ => ⟨S8192x3584, .bf16⟩
  | .hbm, ⟨41, _⟩ => ⟨S28672x1024, .f32⟩
  | .hbm, ⟨42, _⟩ => ⟨S28672x1024, .bf16⟩
  | .hbm, ⟨43, _⟩ => ⟨S1x1024x2560, .f32⟩
  | .hbm, ⟨44, _⟩ => ⟨S1024x2560, .f32⟩
  | .hbm, ⟨45, _⟩ => ⟨S1024x2560, .bf16⟩
  | .hbm, ⟨46, _⟩ => ⟨S1x1024x1024, .f32⟩
  | .hbm, ⟨47, _⟩ => ⟨S1024x1024, .f32⟩
  | .hbm, ⟨48, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]
-- ==== Proof.Rows.lean ====
/-
  The combine call's ring of packed rows: the places of its scratch, what a row's copy delivers, and the rule that
  issues one copy. The scratch `cc0_scratch0` holds two slots; a slot holds, for each of the two experts of a token
  (`k`), the 512 packed rows of one tile of tokens. Row `t` of the half `(s, k)` is the element set `rowSet s k t`.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Batch
public import Idealize.ShloMosaic.Lib.ShareLeaves
public import Idealize.ShloMosaic.Lib.Ring
public import Idealize.ShloMosaic.Lib.Tactic

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-! ## Places -/

abbrev scM : Memref sig .tc .vmem S2x2x64x8x512 .i32 := Memref.whole cc0_scratch0
abbrev hbM : Memref sig .tc .hbm S36864x512 .i32 := Memref.whole main_arg3
abbrev vwM : Memref sig .tc .hbm S4608x8x512 .i32 := Memref.whole main_v2

/-- One row of the scratch, as the kernel names it. -/
abbrev rowM (off : Fin 5 → ℕ) (h : ∀ a, off a + S1x1x1x1x512.size a ≤ S2x2x64x8x512.size a) : Memref sig .tc .vmem S1x512 .i32 :=
  (scM.slice (Rect.unit (s := S2x2x64x8x512) off S1x1x1x1x512.size h) (fun _ => rfl)).squeeze S1x512 squeezes_S1x1x1x1x512_S1x512
/-- One packed row of the expert outputs, as the kernel names it. -/
abbrev srcM (off : Fin 2 → ℕ) (h : ∀ a, off a + S1x512.size a ≤ S36864x512.size a) : Memref sig .tc .hbm S1x512 .i32 :=
  hbM.slice (Rect.unit (s := S36864x512) off S1x512.size h) (fun _ => rfl)

/-- The elements of row `t` of the half `(s, k)` of the scratch. -/
def rowSet (s k t : ℕ) : Finset S2x2x64x8x512.Idx :=
  Finset.univ.filter fun x => (x 0).val = s ∧ (x 1).val = k ∧ (x 2).val = t / 8 ∧ (x 3).val = t % 8

theorem mem_rowSet {s k t : ℕ} {x : S2x2x64x8x512.Idx} :
    x ∈ rowSet s k t ↔ (x 0).val = s ∧ (x 1).val = k ∧ (x 2).val = t / 8 ∧ (x 3).val = t % 8 := by
  simp [rowSet]

theorem rowM_set {s k t : ℕ} (off : Fin 5 → ℕ) (h) (hoff : off = ![s, k, t / 8, t % 8, 0]) :
    (rowM off h).view.set = rowSet s k t := by
  refine (View.set_reshape _ _).trans ((View.set_slice_whole _ _).trans ?_)
  ext x
  rw [Rect.mem_set_unit, mem_rowSet]
  subst hoff
  change (∀ a : Fin 5, (![s, k, t / 8, t % 8, 0] : Fin 5 → ℕ) a ≤ (x a).val ∧ (x a).val < (![s, k, t / 8, t % 8, 0] : Fin 5 → ℕ) a + (![1, 1, 1, 1, 512] : Fin 5 → ℕ) a) ↔ _
  have h4 : (x 4).val < 512 := (x 4).isLt
  constructor
  · intro H
    have h0 := H 0
    have h1 := H 1
    have h2 := H 2
    have h3 := H 3
    simp at h0 h1 h2 h3
    omega
  · rintro ⟨h0, h1, h2, h3⟩ a
    fin_cases a <;> simp <;> omega

/-- The index of word `b` of packed row `n` of the expert outputs. -/
def ysIdx (n : ℕ) (b : Fin 512) : S36864x512.Idx := fun a => match a with
  | 0 => ⟨n % 36864, Nat.mod_lt _ (by decide)⟩
  | 1 => b

/-- The scratch contents at which every half holds the rows the position words `pw` name: word `b` of row `t` of
    half `(s, k)` is word `b` of the packed row `pw k t`. -/
def gath (ys : S36864x512.Idx → Elt F .i32) (pw : Fin 2 → ℕ → BitVec 32) : S2x2x64x8x512.Idx → Elt F .i32 :=
  fun x => ys (ysIdx (pw (x 1) (8 * (x 2).val + (x 3).val)).toNat (x 4))

theorem rowM_emb_last (off : Fin 5 → ℕ) (h) (h0 : off 4 = 0) (y : S1x512.Idx) :
    ((((rowM off h).view.emb y : S2x2x64x8x512.Idx) 4).val) = (y 1).val := by
  set z : S1x1x1x1x512.Idx := Shape.reshapeEquiv squeezes_S1x1x1x1x512_S1x512.numel_eq y with hz
  have hr := Shape.rowMajor_reshapeEquiv squeezes_S1x1x1x1x512_S1x512.numel_eq y
  rw [← hz] at hr
  have e : (((rowM off h).view.emb y : S2x2x64x8x512.Idx) 4).val = off 4 + 1 * (z 4).val := rfl
  rw [e, h0]
  have h5 := Shape.rowMajor_val_five z
  have h2 := Shape.rowMajor_val_two y
  have z0 := (z 0).isLt
  have z1 := (z 1).isLt
  have z2 := (z 2).isLt
  have z3 := (z 3).isLt
  have y0 := (y 0).isLt
  rw [h5, h2] at hr
  simp at hr z0 z1 z2 z3 y0
  simp [z0, z1, z2, z3, y0] at hr
  omega

theorem row_written (c : Dev nD) {s : ℕ} {k : Fin 2} {t : ℕ} (ys : S36864x512.Idx → Elt F .i32) (pw : Fin 2 → ℕ → BitVec 32)
    (off : Fin 5 → ℕ) (h) (hoff : off = ![s, k.val, t / 8, t % 8, 0]) (off' : Fin 2 → ℕ) (h') (hoff' : off' = ![(pw k t).toNat, 0])
    (fd : S2x2x64x8x512.Idx → Elt F .i32) (x : S2x2x64x8x512.Idx) (hx : x ∈ rowSet s k.val t) :
    (rowM off h).view.write (Elt F) fd ((srcM off' h').view.read (Elt F) ys) Finset.univ x = gath ys pw x := by
  have hx' := mem_rowSet.mp hx
  rw [← rowM_set off h hoff] at hx
  obtain ⟨y, -, rfl⟩ := Finset.mem_map.mp hx
  have h4 := rowM_emb_last off h (by rw [hoff]; rfl) y
  generalize hX : ((rowM off h).view.emb y : S2x2x64x8x512.Idx) = X at *
  rw [← hX]
  refine (View.write_emb_of_mem _ _ (Finset.mem_univ y)).trans ?_
  refine (cast_eq _ _).trans ?_
  rw [hX]
  unfold gath
  refine (View.read_apply _ _).trans ?_
  refine (cast_eq _ _).trans ?_
  refine congrArg ys ?_
  obtain ⟨-, hk, h2, h3⟩ := hx'
  have hk' : (X 1 : Fin 2) = k := Fin.ext hk
  have ht : 8 * (X 2).val + (X 3).val = t := by rw [h2, h3]; omega
  subst hoff'
  have hb := h' 0
  have y0 : (y 0).val < 1 := (y 0).isLt
  funext a
  apply Fin.ext
  rw [hk', ht]
  match a with
  | 0 =>
    change (pw k t).toNat + 1 * (y 0).val = (pw k t).toNat % 36864
    change (pw k t).toNat + 1 ≤ 36864 at hb
    omega
  | 1 =>
    change 0 + 1 * (y 1).val = (X 4).val
    omega

/-! ## Issuing one row's copy -/

section Issue

variable (c : Dev nD)

/-- The scratch, on an element set; the packed expert outputs, at a share. -/
abbrev scPt (I : Finset S2x2x64x8x512.Idx) (f : S2x2x64x8x512.Idx → Elt F .i32) : sProp 𝕄 :=
  ((c : Thread nD τ).loc cc0_scratch0) ↦[I]{fullShare} f
abbrev ysPt (q : PosShare TreeShare) (ys : S36864x512.Idx → Elt F .i32) : sProp 𝕄 :=
  ((c : Thread nD τ).loc main_arg3) ↦{q} ys

/-- The quarter of the expert outputs' share that the copies of half `(s, k)` read under, and row `t`'s part of it. -/
def quarter (s k : ℕ) : PosShare TreeShare :=
  if s = 0 then (if k = 0 then fullShare.left.left else fullShare.left.right)
  else (if k = 0 then fullShare.right.left else fullShare.right.right)
def rowShare (s k : ℕ) (t : Fin 512) : PosShare TreeShare := ShareLeaves.leaf 9 (quarter s k) t

/-- What row `t` of half `(s, k)` needs before its copy: the row at some contents, the row's part of the share. -/
def rowFree (ys : S36864x512.Idx → Elt F .i32) (s k : ℕ) (t : Fin 512) : sProp 𝕄 :=
  iprop((∃ f, scPt c (rowSet s k t.val) f) ∗ ysPt c (rowShare s k t) ys)
/-- What its copy delivers: the row as gathered, the share back. -/
def rowDone (ys : S36864x512.Idx → Elt F .i32) (pw : Fin 2 → ℕ → BitVec 32) (s k : ℕ) (t : Fin 512) : sProp 𝕄 :=
  iprop(scPt c (rowSet s k t.val) (gath ys pw) ∗ ysPt c (rowShare s k t) ys)

instance rowDone_storable (ys : S36864x512.Idx → Elt F .i32) (pw : Fin 2 → ℕ → BitVec 32) (s k : ℕ) (t : Fin 512) :
    Storable (upEmb : UEmb _ 𝕄) (rowDone c ys pw s k t) := by unfold rowDone; infer_instance

/-- Half `(s, k)`'s copy cell. -/
def cell (s k : ℕ) : DmaSem sig := if s = 0 then (if k = 0 then 13 else 14) else (if k = 0 then 15 else 16)

abbrev EC : UEmb Counters 𝕄 := countersEmb (U := Pipeline.UD sig nD τ)

/-- Half `(s, k)` with the copies of its first `j` rows issued. -/
def issuing (ys : S36864x512.Idx → Elt F .i32) (pw : Fin 2 → ℕ → BitVec 32) (s k j : ℕ) : sProp 𝕄 :=
  iprop(Batch EC (c : Thread nD τ) (.dma (cell s k)) () 64 (rowDone c ys pw s k) j 0
    ∗ bigSep (pending j) (rowFree c ys s k))

theorem row_amount (off : Fin 5 → ℕ) (h) (sm : DmaSem sig) : (rowM off h).view.amount (.dma sm) = 64 := by
  rfl

theorem wp_issue {α : Type} {Q : α → sProp 𝕄} {ys : S36864x512.Idx → Elt F .i32} {pw : Fin 2 → ℕ → BitVec 32} {s : ℕ} {k : Fin 2} {j : ℕ}
    (hj : j < 512) {sm : DmaSem sig} (hsm : sm = cell s k.val)
    {off : Fin 5 → ℕ} {h} (hoff : off = ![s, k.val, j / 8, j % 8, 0]) {off' : Fin 2 → ℕ} {h'} (hoff' : off' = ![(pw k j).toNat, 0])
    {hsrc : (srcM off' h').view.WordExact} {hdst : (rowM off h).view.WordExact}
    {hsem : DmaTarget.Typed (nD := nD) (p := (.tc : Proc τ)) .hbm (.dma sm) (.here (rowM off h))}
    {kk : PUnit → Prog (TpuEff nD τ sig (Elt F) Λ₀ .tc) α} :
    issuing c ys pw s k.val j ⊢ iprop((issuing c ys pw s k.val (j + 1) -∗ wp frame (wpE (defs₀ (F := F)) Variants.none (c : Thread nD τ) none) Set.univ (kk ⟨⟩) Q)
      -∗ wp frame (wpE (defs₀ (F := F)) Variants.none (c : Thread nD τ) none) Set.univ
          (Prog.lift (TpuEff.enqueueDma (srcM off' h') (.here (rowM off h)) (.dma sm) hsrc hdst hsem) >>= kk) Q) := by
  subst hsm
  unfold issuing
  rw [bigSep_pending_step _ j hj]
  unfold rowFree
  iintro ⟨HB, ⟨⟨%f, Hsc⟩, Hys⟩, Hp⟩ Hk
  ihave Hys' := (pointsTo_split_subset (Finset.subset_univ (srcM off' h').view.set)).1 $$ Hys
  icases Hys' with ⟨Hs, Hrest⟩
  unfold Batch
  icases HB with ⟨%γ, %γ₀, %κ, #Hinv, HI, H0, Hcred⟩
  ihave HI' := (Entails.of_eq (bigSep_pending_step (fun t => count EC (γ t) 0) j hj)) $$ HI
  icases HI' with ⟨Ht, HI⟩
  have hD : iprop((((c : Thread nD τ).loc main_arg3) ↦[Finset.univ \ (srcM off' h').view.set]{rowShare s k.val ⟨j, hj⟩} ys)
      ∗ (((rowM off h).view.loc (c : Thread nD τ) ↦[rowSet s k.val j]{fullShare}
          ((rowM off h).view.write (Elt F) f (ReadAs.same.apply ((srcM off' h').view.read (Elt F) ys)) Finset.univ))
        ∗ ((srcM off' h').view.loc (c : Thread nD τ) ↦[(srcM off' h').view.set]{rowShare s k.val ⟨j, hj⟩} ys)))
      ⊢ (rowDone c ys pw s k.val ⟨j, hj⟩ : sProp 𝕄) := by
    unfold rowDone
    iintro ⟨Hrest, Hd, Hs⟩
    isplitl [Hd]
    · iapply (Entails.of_eq (pointsTo_congr fun x hx => row_written c ys pw off h hoff off' h' hoff' f x hx))
      iexact Hd
    · iapply (pointsTo_split_subset (Finset.subset_univ (srcM off' h').view.set)).2
      isplitl [Hs]; · iexact Hs
      iexact Hrest
  have hsub : (rowM off h).view.set ⊆ rowSet s k.val j := by rw [rowM_set off h hoff]
  iapply (wp_enqueueDmaAs Variants.none (c : Thread nD τ) none Set.univ (src := srcM off' h') (dst := rowM off h) () 64 (row_amount off h (cell s k.val)) (via := .same)) $$ [Hs Hsc] [Ht Hrest]
  · isplitl [Hs]; · iexact Hs
    iapply (pointsTo_writeUpdate (c : Thread nD τ) (v := (rowM off h).view) (S := rowSet s k.val j) (fd := f) hsub) $$ Hsc
  · iapply (batch_creditUpdate_with EC (⟨j, hj⟩ : Fin 512) hD)
    isplitr; · iexact Hinv
    isplitl [Ht]; · iexact Ht
    iexact Hrest
  iintro Hcred'
  iapply Hk
  isplitl [HI H0 Hcred Hcred']
  · iexists γ, γ₀, κ
    isplitr; · iexact Hinv
    isplitl [HI]; · iexact HI
    isplitl [H0]; · iexact H0
    rw [show (j + 1) * 64 - 0 = (j * 64 - 0) + 64 by omega, ← tallyAt_add]
    icombine Hcred Hcred' as H
    iexact H
  · iexact Hp

/-- The place of word `j` in a block of 512 position words. -/
def wIx (j : ℕ) : S1x1x512.Idx := fun a => match a with
  | 0 => ⟨0, by decide⟩
  | 1 => ⟨0, by decide⟩
  | 2 => ⟨j % 512, Nat.mod_lt _ (by decide)⟩

/-- A position word read from its block: word `j`, the block as it was. -/
theorem wp_word {α : Type} {Q : α → sProp 𝕄} {arg : Memref sig .tc .smem S1x1x512 .i32} {q : PosShare TreeShare}
    {d : S1x1x512.Idx → Elt F .i32} {off : Fin 3 → ℕ} {h} {h1 hp} (j : ℕ) (hoff : off = ![0, 0, j])
    {kk : Elt F .i32 → Prog (TpuEff nD τ sig (Elt F) Λ₀ .tc) α} :
    (owns (c : Thread nD τ) arg q d : sProp 𝕄) ⊢ iprop((owns (c : Thread nD τ) arg q d -∗ wp frame (wpE (defs₀ (F := F)) Variants.none (c : Thread nD τ) none) Set.univ (kk (d (wIx j))) Q)
      -∗ wp frame (wpE (defs₀ (F := F)) Variants.none (c : Thread nD τ) none) Set.univ
          (smemLoad arg (Rect.unit (s := S1x1x512) off S1x1x1.size h) h1 hp >>= kk) Q) := by
  unfold owns
  iintro ⟨%f, %hf, H⟩ Hk
  have hr : (arg.access (Rect.unit (s := S1x1x512) off S1x1x1.size h)).read (Elt F) f (Shape.Idx.first (h1.symm ▸ Nat.one_pos)) = d (wIx j) := by
    subst hf
    subst hoff
    refine congrArg (arg.view.read (Elt F) f) ?_
    funext a
    apply Fin.ext
    have hb : j + 1 ≤ 512 := h 2
    match a with
    | 0 => rfl
    | 1 => rfl
    | 2 =>
      change j + 1 * 0 = j % 512
      omega
  iapply (wp_load_rect Variants.none (c : Thread nD τ) none Set.univ (m := arg) (r := Rect.unit (s := S1x1x512) off S1x1x1.size h) (q := q) (f := f)
    (S := arg.view.set) (View.set_slice_subset _ _)) $$ H
  iintro H
  rw [← hr]
  iapply Hk
  iexists f
  isplitr; · ipureintro; exact hf
  iexact H

/-- An assumed side condition that holds is passed. -/
theorem wp_check {α : Type} {Q : α → sProp 𝕄} {P : Prop} {d : Decidable P} (hP : P)
    {kk : PLift P → Prog (TpuEff nD τ sig (Elt F) Λ₀ .tc) α} :
    (wp frame (wpE (defs₀ (F := F)) Variants.none (c : Thread nD τ) none) Set.univ (kk ⟨hP⟩) Q : sProp 𝕄)
      ⊢ wp frame (wpE (defs₀ (F := F)) Variants.none (c : Thread nD τ) none) Set.univ (Prog.lift (TpuEff.assume P d) >>= kk) Q :=
  wp_assume Variants.none (c : Thread nD τ) none Set.univ hP

end Issue

end Cert.Combine
-- ==== Proof.Trips.lean ====
/-
  One trip of each of the combine call's two copy loops: sixteen rows' copies issued, eight for each expert of a token.
-/
module

public import proofs.«01_k».proof.Proof.Rows

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

theorem word_ok (v : BitVec 32) (hv : v.toNat < 36864) : ∀ a, (![v.toNat, 0] : Fin 2 → ℕ) a + S1x512.size a ≤ S36864x512.size a := by
  intro a
  match a with
  | 0 => change v.toNat + 1 ≤ 36864; omega
  | 1 => change 0 + 512 ≤ 512; omega

theorem off_row {s k a b : ℕ} (j : ℕ) (ha : j / 8 = a) (hb : j % 8 = b) : (![s, k, a, b, 0] : Fin 5 → ℕ) = ![s, k, j / 8, j % 8, 0] := by
  rw [ha, hb]

theorem cell_eq {s k : ℕ} (hs : s < 2) (hk : k < 2) (off : Fin 2 → ℕ) (h) (hoff : off = ![s, k]) :
    ((cc0_scratch1.slice (Rect.unit (s := S2x2) off S1x1.size h)).squeeze S_ squeezes_S1x1_S_).sem = cell s k := by
  subst hoff
  obtain rfl | rfl : s = 0 ∨ s = 1 := by omega
  all_goals obtain rfl | rfl : k = 0 ∨ k = 1 := by omega
  all_goals revert h; decide +kernel

/-- The slot of the next tile, as the second loop computes it. -/
theorem next_slot : ∀ i : grid0.Coords, k0_off50 i = ![((i 0).val + 1) % 2, 0] := by decide +kernel

/-- The position words of a tile as the two blocks `d0`, `d1` give them. -/
def pwOf (d0 d1 : S1x1x512.Idx → Elt F .i32) (k : Fin 2) (j : ℕ) : BitVec 32 :=
  match k with
  | 0 => d0 (wIx j)
  | 1 => d1 (wIx j)

theorem off54_eq (i : grid0.Coords) : k0_off54 i = ![((i 0).val + 1) % 2, 1] := by
  have h : k0_off54 i = ![k0_off50 i 0, 1] := rfl
  rw [h, next_slot]; rfl
theorem off51_eq (i : grid0.Coords) (T : Fin k0_t2_loop.trips) : k0_off51 i T = ![((i 0).val + 1) % 2, 0, T.val, 0, 0] := by
  have h : k0_off51 i T = ![k0_off50 i 0, 0, (Scf.iv 0#32 1#32 T.val : BitVec 32).toNat, 0, 0] := rfl
  have h2 : (Scf.iv 0#32 1#32 T.val : BitVec 32).toNat = T.val := by
    have := congrFun (k0_off2_eq T) 2; exact this
  rw [h, next_slot, h2]; rfl
theorem off55_eq (i : grid0.Coords) (T : Fin k0_t2_loop.trips) : k0_off55 i T = ![((i 0).val + 1) % 2, 1, T.val, 0, 0] := by
  have h : k0_off55 i T = ![k0_off50 i 0, 1, (Scf.iv 0#32 1#32 T.val : BitVec 32).toNat, 0, 0] := rfl
  have h2 : (Scf.iv 0#32 1#32 T.val : BitVec 32).toNat = T.val := by
    have := congrFun (k0_off2_eq T) 2; exact this
  rw [h, next_slot, h2]; rfl
theorem off58_eq (i : grid0.Coords) : k0_off58 i = ![((i 0).val + 1) % 2, 0] := next_slot i
theorem off62_eq (i : grid0.Coords) : k0_off62 i = ![((i 0).val + 1) % 2, 1] := by
  have h : k0_off62 i = ![k0_off50 i 0, 1] := rfl
  rw [h, next_slot]; rfl
theorem off59_eq (i : grid0.Coords) (T : Fin k0_t2_loop.trips) : k0_off59 i T = ![((i 0).val + 1) % 2, 0, T.val, 1, 0] := by
  have h : k0_off59 i T = ![k0_off50 i 0, 0, (Scf.iv 0#32 1#32 T.val : BitVec 32).toNat, 1, 0] := rfl
  have h2 : (Scf.iv 0#32 1#32 T.val : BitVec 32).toNat = T.val := by
    have := congrFun (k0_off2_eq T) 2; exact this
  rw [h, next_slot, h2]; rfl
theorem off63_eq (i : grid0.Coords) (T : Fin k0_t2_loop.trips) : k0_off63 i T = ![((i 0).val + 1) % 2, 1, T.val, 1, 0] := by
  have h : k0_off63 i T = ![k0_off50 i 0, 1, (Scf.iv 0#32 1#32 T.val : BitVec 32).toNat, 1, 0] := rfl
  have h2 : (Scf.iv 0#32 1#32 T.val : BitVec 32).toNat = T.val := by
    have := congrFun (k0_off2_eq T) 2; exact this
  rw [h, next_slot, h2]; rfl
theorem off66_eq (i : grid0.Coords) : k0_off66 i = ![((i 0).val + 1) % 2, 0] := next_slot i
theorem off70_eq (i : grid0.Coords) : k0_off70 i = ![((i 0).val + 1) % 2, 1] := by
  have h : k0_off70 i = ![k0_off50 i 0, 1] := rfl
  rw [h, next_slot]; rfl
theorem off67_eq (i : grid0.Coords) (T : Fin k0_t2_loop.trips) : k0_off67 i T = ![((i 0).val + 1) % 2, 0, T.val, 2, 0] := by
  have h : k0_off67 i T = ![k0_off50 i 0, 0, (Scf.iv 0#32 1#32 T.val : BitVec 32).toNat, 2, 0] := rfl
  have h2 : (Scf.iv 0#32 1#32 T.val : BitVec 32).toNat = T.val := by
    have := congrFun (k0_off2_eq T) 2; exact this
  rw [h, next_slot, h2]; rfl
theorem off71_eq (i : grid0.Coords) (T : Fin k0_t2_loop.trips) : k0_off71 i T = ![((i 0).val + 1) % 2, 1, T.val, 2, 0] := by
  have h : k0_off71 i T = ![k0_off50 i 0, 1, (Scf.iv 0#32 1#32 T.val : BitVec 32).toNat, 2, 0] := rfl
  have h2 : (Scf.iv 0#32 1#32 T.val : BitVec 32).toNat = T.val := by
    have := congrFun (k0_off2_eq T) 2; exact this
  rw [h, next_slot, h2]; rfl
theorem off74_eq (i : grid0.Coords) : k0_off74 i = ![((i 0).val + 1) % 2, 0] := next_slot i
theorem off78_eq (i : grid0.Coords) : k0_off78 i = ![((i 0).val + 1) % 2, 1] := by
  have h : k0_off78 i = ![k0_off50 i 0, 1] := rfl
  rw [h, next_slot]; rfl
theorem off75_eq (i : grid0.Coords) (T : Fin k0_t2_loop.trips) : k0_off75 i T = ![((i 0).val + 1) % 2, 0, T.val, 3, 0] := by
  have h : k0_off75 i T = ![k0_off50 i 0, 0, (Scf.iv 0#32 1#32 T.val : BitVec 32).toNat, 3, 0] := rfl
  have h2 : (Scf.iv 0#32 1#32 T.val : BitVec 32).toNat = T.val := by
    have := congrFun (k0_off2_eq T) 2; exact this
  rw [h, next_slot, h2]; rfl
theorem off79_eq (i : grid0.Coords) (T : Fin k0_t2_loop.trips) : k0_off79 i T = ![((i 0).val + 1) % 2, 1, T.val, 3, 0] := by
  have h : k0_off79 i T = ![k0_off50 i 0, 1, (Scf.iv 0#32 1#32 T.val : BitVec 32).toNat, 3, 0] := rfl
  have h2 : (Scf.iv 0#32 1#32 T.val : BitVec 32).toNat = T.val := by
    have := congrFun (k0_off2_eq T) 2; exact this
  rw [h, next_slot, h2]; rfl
theorem off82_eq (i : grid0.Coords) : k0_off82 i = ![((i 0).val + 1) % 2, 0] := next_slot i
theorem off86_eq (i : grid0.Coords) : k0_off86 i = ![((i 0).val + 1) % 2, 1] := by
  have h : k0_off86 i = ![k0_off50 i 0, 1] := rfl
  rw [h, next_slot]; rfl
theorem off83_eq (i : grid0.Coords) (T : Fin k0_t2_loop.trips) : k0_off83 i T = ![((i 0).val + 1) % 2, 0, T.val, 4, 0] := by
  have h : k0_off83 i T = ![k0_off50 i 0, 0, (Scf.iv 0#32 1#32 T.val : BitVec 32).toNat, 4, 0] := rfl
  have h2 : (Scf.iv 0#32 1#32 T.val : BitVec 32).toNat = T.val := by
    have := congrFun (k0_off2_eq T) 2; exact this
  rw [h, next_slot, h2]; rfl
theorem off87_eq (i : grid0.Coords) (T : Fin k0_t2_loop.trips) : k0_off87 i T = ![((i 0).val + 1) % 2, 1, T.val, 4, 0] := by
  have h : k0_off87 i T = ![k0_off50 i 0, 1, (Scf.iv 0#32 1#32 T.val : BitVec 32).toNat, 4, 0] := rfl
  have h2 : (Scf.iv 0#32 1#32 T.val : BitVec 32).toNat = T.val := by
    have := congrFun (k0_off2_eq T) 2; exact this
  rw [h, next_slot, h2]; rfl
theorem off90_eq (i : grid0.Coords) : k0_off90 i = ![((i 0).val + 1) % 2, 0] := next_slot i
theorem off94_eq (i : grid0.Coords) : k0_off94 i = ![((i 0).val + 1) % 2, 1] := by
  have h : k0_off94 i = ![k0_off50 i 0, 1] := rfl
  rw [h, next_slot]; rfl
theorem off91_eq (i : grid0.Coords) (T : Fin k0_t2_loop.trips) : k0_off91 i T = ![((i 0).val + 1) % 2, 0, T.val, 5, 0] := by
  have h : k0_off91 i T = ![k0_off50 i 0, 0, (Scf.iv 0#32 1#32 T.val : BitVec 32).toNat, 5, 0] := rfl
  have h2 : (Scf.iv 0#32 1#32 T.val : BitVec 32).toNat = T.val := by
    have := congrFun (k0_off2_eq T) 2; exact this
  rw [h, next_slot, h2]; rfl
theorem off95_eq (i : grid0.Coords) (T : Fin k0_t2_loop.trips) : k0_off95 i T = ![((i 0).val + 1) % 2, 1, T.val, 5, 0] := by
  have h : k0_off95 i T = ![k0_off50 i 0, 1, (Scf.iv 0#32 1#32 T.val : BitVec 32).toNat, 5, 0] := rfl
  have h2 : (Scf.iv 0#32 1#32 T.val : BitVec 32).toNat = T.val := by
    have := congrFun (k0_off2_eq T) 2; exact this
  rw [h, next_slot, h2]; rfl
theorem off98_eq (i : grid0.Coords) : k0_off98 i = ![((i 0).val + 1) % 2, 0] := next_slot i
theorem off102_eq (i : grid0.Coords) : k0_off102 i = ![((i 0).val + 1) % 2, 1] := by
  have h : k0_off102 i = ![k0_off50 i 0, 1] := rfl
  rw [h, next_slot]; rfl
theorem off99_eq (i : grid0.Coords) (T : Fin k0_t2_loop.trips) : k0_off99 i T = ![((i 0).val + 1) % 2, 0, T.val, 6, 0] := by
  have h : k0_off99 i T = ![k0_off50 i 0, 0, (Scf.iv 0#32 1#32 T.val : BitVec 32).toNat, 6, 0] := rfl
  have h2 : (Scf.iv 0#32 1#32 T.val : BitVec 32).toNat = T.val := by
    have := congrFun (k0_off2_eq T) 2; exact this
  rw [h, next_slot, h2]; rfl
theorem off103_eq (i : grid0.Coords) (T : Fin k0_t2_loop.trips) : k0_off103 i T = ![((i 0).val + 1) % 2, 1, T.val, 6, 0] := by
  have h : k0_off103 i T = ![k0_off50 i 0, 1, (Scf.iv 0#32 1#32 T.val : BitVec 32).toNat, 6, 0] := rfl
  have h2 : (Scf.iv 0#32 1#32 T.val : BitVec 32).toNat = T.val := by
    have := congrFun (k0_off2_eq T) 2; exact this
  rw [h, next_slot, h2]; rfl
theorem off106_eq (i : grid0.Coords) : k0_off106 i = ![((i 0).val + 1) % 2, 0] := next_slot i
theorem off110_eq (i : grid0.Coords) : k0_off110 i = ![((i 0).val + 1) % 2, 1] := by
  have h : k0_off110 i = ![k0_off50 i 0, 1] := rfl
  rw [h, next_slot]; rfl
theorem off107_eq (i : grid0.Coords) (T : Fin k0_t2_loop.trips) : k0_off107 i T = ![((i 0).val + 1) % 2, 0, T.val, 7, 0] := by
  have h : k0_off107 i T = ![k0_off50 i 0, 0, (Scf.iv 0#32 1#32 T.val : BitVec 32).toNat, 7, 0] := rfl
  have h2 : (Scf.iv 0#32 1#32 T.val : BitVec 32).toNat = T.val := by
    have := congrFun (k0_off2_eq T) 2; exact this
  rw [h, next_slot, h2]; rfl
theorem off111_eq (i : grid0.Coords) (T : Fin k0_t2_loop.trips) : k0_off111 i T = ![((i 0).val + 1) % 2, 1, T.val, 7, 0] := by
  have h : k0_off111 i T = ![k0_off50 i 0, 1, (Scf.iv 0#32 1#32 T.val : BitVec 32).toNat, 7, 0] := rfl
  have h2 : (Scf.iv 0#32 1#32 T.val : BitVec 32).toNat = T.val := by
    have := congrFun (k0_off2_eq T) 2; exact this
  rw [h, next_slot, h2]; rfl

section Trip

variable (c : Dev nD)

/-- One trip of loop 1: rows `8 T … 8 T + 7` of both halves issued. -/
theorem trip1 (i : grid0.Coords) (arg1 : Memref sig .tc .smem S1x1x512 .i32) (harg1 : arg1.IsWhole) (arg2 : Memref sig .tc .smem S1x1x512 .i32) (harg2 : arg2.IsWhole) (arg3 : Memref sig .tc .smem S1x1x512 .i32) (harg3 : arg3.IsWhole) (arg4 : Memref sig .tc .smem S1x1x512 .i32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x1024 .f32) (harg7 : arg7.IsWhole) (arg10 : Memref sig .tc .vmem S512x1024 .f32) (harg10 : arg10.IsWhole)
    (h1 : k0_cond1 i = 1#1) (T : Fin k0_t1_loop.trips) (ys : S36864x512.Idx → Elt F .i32) (d0 d1 : S1x1x512.Idx → Elt F .i32)
    (hb : ∀ k j, (pwOf d0 d1 k j).toNat < 36864) (u : Unit) :
    iprop(owns (c : Thread nD τ) arg1 fullShare d0 ∗ owns (c : Thread nD τ) arg2 fullShare d1
      ∗ issuing c ys (pwOf d0 d1) 0 (0 : Fin 2).val (8 * T.val) ∗ issuing c ys (pwOf d0 d1) 0 (1 : Fin 2).val (8 * T.val))
      ⊢ wp frame (wpE (defs₀ (F := F)) Variants.none (c : Thread nD τ) none) Set.univ
          (k0_t1_body i arg1 harg1 arg2 harg2 arg3 harg3 arg4 harg4 arg5 harg5 arg6 harg6 arg7 harg7 hbM (Memref.isWhole_whole _) vwM (Memref.isWhole_whole _) arg10 harg10 scM (Memref.isWhole_whole _) cc0_scratch1 h1 T u)
          (fun _ => iprop(owns (c : Thread nD τ) arg1 fullShare d0 ∗ owns (c : Thread nD τ) arg2 fullShare d1
      ∗ issuing c ys (pwOf d0 d1) 0 (0 : Fin 2).val (8 * (T.val + 1)) ∗ issuing c ys (pwOf d0 d1) 0 (1 : Fin 2).val (8 * (T.val + 1)))) := by
  have hT : T.val < 64 := T.isLt
  unfold k0_t1_body
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [bind_assoc, pure_bind]
  iintro ⟨H0, H1, I0, I1⟩
  iapply (wp_word c (8 * T.val) (k0_off1_eq T)) $$ H0
  iintro H0
  iapply (wp_check c (fun _ => word_ok _ (hb 0 (8 * T.val))))
  iapply (wp_issue c (pw := pwOf d0 d1) (s := 0) (k := 0) (j := 8 * T.val) (by omega) rfl (((k0_off2_eq T)).trans (off_row _ (by omega) (by omega))) rfl) $$ I0
  iintro I0
  iapply (wp_word c (8 * T.val) (k0_off4_eq T)) $$ H1
  iintro H1
  iapply (wp_check c (fun _ => word_ok _ (hb 1 (8 * T.val))))
  iapply (wp_issue c (pw := pwOf d0 d1) (s := 0) (k := 1) (j := 8 * T.val) (by omega) rfl (((k0_off5_eq T)).trans (off_row _ (by omega) (by omega))) rfl) $$ I1
  iintro I1
  iapply (wp_word c (8 * T.val + 1) (k0_off7_eq T)) $$ H0
  iintro H0
  iapply (wp_check c (fun _ => word_ok _ (hb 0 (8 * T.val + 1))))
  iapply (wp_issue c (pw := pwOf d0 d1) (s := 0) (k := 0) (j := 8 * T.val + 1) (by omega) rfl (((k0_off8_eq T)).trans (off_row _ (by omega) (by omega))) rfl) $$ I0
  iintro I0
  iapply (wp_word c (8 * T.val + 1) (k0_off10_eq T)) $$ H1
  iintro H1
  iapply (wp_check c (fun _ => word_ok _ (hb 1 (8 * T.val + 1))))
  iapply (wp_issue c (pw := pwOf d0 d1) (s := 0) (k := 1) (j := 8 * T.val + 1) (by omega) rfl (((k0_off11_eq T)).trans (off_row _ (by omega) (by omega))) rfl) $$ I1
  iintro I1
  iapply (wp_word c (8 * T.val + 2) (k0_off13_eq T)) $$ H0
  iintro H0
  iapply (wp_check c (fun _ => word_ok _ (hb 0 (8 * T.val + 2))))
  iapply (wp_issue c (pw := pwOf d0 d1) (s := 0) (k := 0) (j := 8 * T.val + 2) (by omega) rfl (((k0_off14_eq T)).trans (off_row _ (by omega) (by omega))) rfl) $$ I0
  iintro I0
  iapply (wp_word c (8 * T.val + 2) (k0_off16_eq T)) $$ H1
  iintro H1
  iapply (wp_check c (fun _ => word_ok _ (hb 1 (8 * T.val + 2))))
  iapply (wp_issue c (pw := pwOf d0 d1) (s := 0) (k := 1) (j := 8 * T.val + 2) (by omega) rfl (((k0_off17_eq T)).trans (off_row _ (by omega) (by omega))) rfl) $$ I1
  iintro I1
  iapply (wp_word c (8 * T.val + 3) (k0_off19_eq T)) $$ H0
  iintro H0
  iapply (wp_check c (fun _ => word_ok _ (hb 0 (8 * T.val + 3))))
  iapply (wp_issue c (pw := pwOf d0 d1) (s := 0) (k := 0) (j := 8 * T.val + 3) (by omega) rfl (((k0_off20_eq T)).trans (off_row _ (by omega) (by omega))) rfl) $$ I0
  iintro I0
  iapply (wp_word c (8 * T.val + 3) (k0_off22_eq T)) $$ H1
  iintro H1
  iapply (wp_check c (fun _ => word_ok _ (hb 1 (8 * T.val + 3))))
  iapply (wp_issue c (pw := pwOf d0 d1) (s := 0) (k := 1) (j := 8 * T.val + 3) (by omega) rfl (((k0_off23_eq T)).trans (off_row _ (by omega) (by omega))) rfl) $$ I1
  iintro I1
  iapply (wp_word c (8 * T.val + 4) (k0_off25_eq T)) $$ H0
  iintro H0
  iapply (wp_check c (fun _ => word_ok _ (hb 0 (8 * T.val + 4))))
  iapply (wp_issue c (pw := pwOf d0 d1) (s := 0) (k := 0) (j := 8 * T.val + 4) (by omega) rfl (((k0_off26_eq T)).trans (off_row _ (by omega) (by omega))) rfl) $$ I0
  iintro I0
  iapply (wp_word c (8 * T.val + 4) (k0_off28_eq T)) $$ H1
  iintro H1
  iapply (wp_check c (fun _ => word_ok _ (hb 1 (8 * T.val + 4))))
  iapply (wp_issue c (pw := pwOf d0 d1) (s := 0) (k := 1) (j := 8 * T.val + 4) (by omega) rfl (((k0_off29_eq T)).trans (off_row _ (by omega) (by omega))) rfl) $$ I1
  iintro I1
  iapply (wp_word c (8 * T.val + 5) (k0_off31_eq T)) $$ H0
  iintro H0
  iapply (wp_check c (fun _ => word_ok _ (hb 0 (8 * T.val + 5))))
  iapply (wp_issue c (pw := pwOf d0 d1) (s := 0) (k := 0) (j := 8 * T.val + 5) (by omega) rfl (((k0_off32_eq T)).trans (off_row _ (by omega) (by omega))) rfl) $$ I0
  iintro I0
  iapply (wp_word c (8 * T.val + 5) (k0_off34_eq T)) $$ H1
  iintro H1
  iapply (wp_check c (fun _ => word_ok _ (hb 1 (8 * T.val + 5))))
  iapply (wp_issue c (pw := pwOf d0 d1) (s := 0) (k := 1) (j := 8 * T.val + 5) (by omega) rfl (((k0_off35_eq T)).trans (off_row _ (by omega) (by omega))) rfl) $$ I1
  iintro I1
  iapply (wp_word c (8 * T.val + 6) (k0_off37_eq T)) $$ H0
  iintro H0
  iapply (wp_check c (fun _ => word_ok _ (hb 0 (8 * T.val + 6))))
  iapply (wp_issue c (pw := pwOf d0 d1) (s := 0) (k := 0) (j := 8 * T.val + 6) (by omega) rfl (((k0_off38_eq T)).trans (off_row _ (by omega) (by omega))) rfl) $$ I0
  iintro I0
  iapply (wp_word c (8 * T.val + 6) (k0_off40_eq T)) $$ H1
  iintro H1
  iapply (wp_check c (fun _ => word_ok _ (hb 1 (8 * T.val + 6))))
  iapply (wp_issue c (pw := pwOf d0 d1) (s := 0) (k := 1) (j := 8 * T.val + 6) (by omega) rfl (((k0_off41_eq T)).trans (off_row _ (by omega) (by omega))) rfl) $$ I1
  iintro I1
  iapply (wp_word c (8 * T.val + 7) (k0_off43_eq T)) $$ H0
  iintro H0
  iapply (wp_check c (fun _ => word_ok _ (hb 0 (8 * T.val + 7))))
  iapply (wp_issue c (pw := pwOf d0 d1) (s := 0) (k := 0) (j := 8 * T.val + 7) (by omega) rfl (((k0_off44_eq T)).trans (off_row _ (by omega) (by omega))) rfl) $$ I0
  iintro I0
  iapply (wp_word c (8 * T.val + 7) (k0_off46_eq T)) $$ H1
  iintro H1
  iapply (wp_check c (fun _ => word_ok _ (hb 1 (8 * T.val + 7))))
  iapply (wp_issue c (pw := pwOf d0 d1) (s := 0) (k := 1) (j := 8 * T.val + 7) (by omega) rfl (((k0_off47_eq T)).trans (off_row _ (by omega) (by omega))) rfl) $$ I1
  iintro I1
  rw [wp_pure]
  imodintro
  rw [show 8 * (T.val + 1) = 8 * T.val + 7 + 1 by omega]
  isplitl [H0]; · iexact H0
  isplitl [H1]; · iexact H1
  isplitl [I0]; · iexact I0
  iexact I1

/-- One trip of loop 2: rows `8 T … 8 T + 7` of both halves issued. -/
theorem trip2 (i : grid0.Coords) (arg1 : Memref sig .tc .smem S1x1x512 .i32) (harg1 : arg1.IsWhole) (arg2 : Memref sig .tc .smem S1x1x512 .i32) (harg2 : arg2.IsWhole) (arg3 : Memref sig .tc .smem S1x1x512 .i32) (harg3 : arg3.IsWhole) (arg4 : Memref sig .tc .smem S1x1x512 .i32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x1024 .f32) (harg7 : arg7.IsWhole) (arg10 : Memref sig .tc .vmem S512x1024 .f32) (harg10 : arg10.IsWhole)
    (h2 : k0_cond2 i = 1#1) (T : Fin k0_t2_loop.trips) (ys : S36864x512.Idx → Elt F .i32) (d0 d1 : S1x1x512.Idx → Elt F .i32)
    (hb : ∀ k j, (pwOf d0 d1 k j).toNat < 36864) (u : Unit) :
    iprop(owns (c : Thread nD τ) arg3 fullShare d0 ∗ owns (c : Thread nD τ) arg4 fullShare d1
      ∗ issuing c ys (pwOf d0 d1) (((i 0).val + 1) % 2) (0 : Fin 2).val (8 * T.val) ∗ issuing c ys (pwOf d0 d1) (((i 0).val + 1) % 2) (1 : Fin 2).val (8 * T.val))
      ⊢ wp frame (wpE (defs₀ (F := F)) Variants.none (c : Thread nD τ) none) Set.univ
          (k0_t2_body i arg1 harg1 arg2 harg2 arg3 harg3 arg4 harg4 arg5 harg5 arg6 harg6 arg7 harg7 hbM (Memref.isWhole_whole _) vwM (Memref.isWhole_whole _) arg10 harg10 scM (Memref.isWhole_whole _) cc0_scratch1 h2 T u)
          (fun _ => iprop(owns (c : Thread nD τ) arg3 fullShare d0 ∗ owns (c : Thread nD τ) arg4 fullShare d1
      ∗ issuing c ys (pwOf d0 d1) (((i 0).val + 1) % 2) (0 : Fin 2).val (8 * (T.val + 1)) ∗ issuing c ys (pwOf d0 d1) (((i 0).val + 1) % 2) (1 : Fin 2).val (8 * (T.val + 1)))) := by
  have hT : T.val < 64 := T.isLt
  unfold k0_t2_body
  simp only [k0_part6_eq_skeleton, k0_part7_eq_skeleton, k0_part8_eq_skeleton, k0_part9_eq_skeleton, k0_part10_eq_skeleton]
  unfold k0_part6_skel k0_part7_skel k0_part8_skel k0_part9_skel k0_part10_skel
  simp only [bind_assoc, pure_bind]
  iintro ⟨H0, H1, I0, I1⟩
  iapply (wp_word c (8 * T.val) (k0_off49_eq T)) $$ H0
  iintro H0
  iapply (wp_check c (fun _ => word_ok _ (hb 0 (8 * T.val))))
  iapply (wp_issue c (pw := pwOf d0 d1) (s := (((i 0).val + 1) % 2)) (k := 0) (j := 8 * T.val) (by omega) (cell_eq (Nat.mod_lt _ (by decide)) (by decide) _ _ (next_slot i)) (((off51_eq i T)).trans (off_row _ (by omega) (by omega))) rfl) $$ I0
  iintro I0
  iapply (wp_word c (8 * T.val) (k0_off53_eq T)) $$ H1
  iintro H1
  iapply (wp_check c (fun _ => word_ok _ (hb 1 (8 * T.val))))
  iapply (wp_issue c (pw := pwOf d0 d1) (s := (((i 0).val + 1) % 2)) (k := 1) (j := 8 * T.val) (by omega) (cell_eq (Nat.mod_lt _ (by decide)) (by decide) _ _ (off54_eq i)) (((off55_eq i T)).trans (off_row _ (by omega) (by omega))) rfl) $$ I1
  iintro I1
  iapply (wp_word c (8 * T.val + 1) (k0_off57_eq T)) $$ H0
  iintro H0
  iapply (wp_check c (fun _ => word_ok _ (hb 0 (8 * T.val + 1))))
  iapply (wp_issue c (pw := pwOf d0 d1) (s := (((i 0).val + 1) % 2)) (k := 0) (j := 8 * T.val + 1) (by omega) (cell_eq (Nat.mod_lt _ (by decide)) (by decide) _ _ (off58_eq i)) (((off59_eq i T)).trans (off_row _ (by omega) (by omega))) rfl) $$ I0
  iintro I0
  iapply (wp_word c (8 * T.val + 1) (k0_off61_eq T)) $$ H1
  iintro H1
  iapply (wp_check c (fun _ => word_ok _ (hb 1 (8 * T.val + 1))))
  iapply (wp_issue c (pw := pwOf d0 d1) (s := (((i 0).val + 1) % 2)) (k := 1) (j := 8 * T.val + 1) (by omega) (cell_eq (Nat.mod_lt _ (by decide)) (by decide) _ _ (off62_eq i)) (((off63_eq i T)).trans (off_row _ (by omega) (by omega))) rfl) $$ I1
  iintro I1
  iapply (wp_word c (8 * T.val + 2) (k0_off65_eq T)) $$ H0
  iintro H0
  iapply (wp_check c (fun _ => word_ok _ (hb 0 (8 * T.val + 2))))
  iapply (wp_issue c (pw := pwOf d0 d1) (s := (((i 0).val + 1) % 2)) (k := 0) (j := 8 * T.val + 2) (by omega) (cell_eq (Nat.mod_lt _ (by decide)) (by decide) _ _ (off66_eq i)) (((off67_eq i T)).trans (off_row _ (by omega) (by omega))) rfl) $$ I0
  iintro I0
  iapply (wp_word c (8 * T.val + 2) (k0_off69_eq T)) $$ H1
  iintro H1
  iapply (wp_check c (fun _ => word_ok _ (hb 1 (8 * T.val + 2))))
  iapply (wp_issue c (pw := pwOf d0 d1) (s := (((i 0).val + 1) % 2)) (k := 1) (j := 8 * T.val + 2) (by omega) (cell_eq (Nat.mod_lt _ (by decide)) (by decide) _ _ (off70_eq i)) (((off71_eq i T)).trans (off_row _ (by omega) (by omega))) rfl) $$ I1
  iintro I1
  iapply (wp_word c (8 * T.val + 3) (k0_off73_eq T)) $$ H0
  iintro H0
  iapply (wp_check c (fun _ => word_ok _ (hb 0 (8 * T.val + 3))))
  iapply (wp_issue c (pw := pwOf d0 d1) (s := (((i 0).val + 1) % 2)) (k := 0) (j := 8 * T.val + 3) (by omega) (cell_eq (Nat.mod_lt _ (by decide)) (by decide) _ _ (off74_eq i)) (((off75_eq i T)).trans (off_row _ (by omega) (by omega))) rfl) $$ I0
  iintro I0
  iapply (wp_word c (8 * T.val + 3) (k0_off77_eq T)) $$ H1
  iintro H1
  iapply (wp_check c (fun _ => word_ok _ (hb 1 (8 * T.val + 3))))
  iapply (wp_issue c (pw := pwOf d0 d1) (s := (((i 0).val + 1) % 2)) (k := 1) (j := 8 * T.val + 3) (by omega) (cell_eq (Nat.mod_lt _ (by decide)) (by decide) _ _ (off78_eq i)) (((off79_eq i T)).trans (off_row _ (by omega) (by omega))) rfl) $$ I1
  iintro I1
  iapply (wp_word c (8 * T.val + 4) (k0_off81_eq T)) $$ H0
  iintro H0
  iapply (wp_check c (fun _ => word_ok _ (hb 0 (8 * T.val + 4))))
  iapply (wp_issue c (pw := pwOf d0 d1) (s := (((i 0).val + 1) % 2)) (k := 0) (j := 8 * T.val + 4) (by omega) (cell_eq (Nat.mod_lt _ (by decide)) (by decide) _ _ (off82_eq i)) (((off83_eq i T)).trans (off_row _ (by omega) (by omega))) rfl) $$ I0
  iintro I0
  iapply (wp_word c (8 * T.val + 4) (k0_off85_eq T)) $$ H1
  iintro H1
  iapply (wp_check c (fun _ => word_ok _ (hb 1 (8 * T.val + 4))))
  iapply (wp_issue c (pw := pwOf d0 d1) (s := (((i 0).val + 1) % 2)) (k := 1) (j := 8 * T.val + 4) (by omega) (cell_eq (Nat.mod_lt _ (by decide)) (by decide) _ _ (off86_eq i)) (((off87_eq i T)).trans (off_row _ (by omega) (by omega))) rfl) $$ I1
  iintro I1
  iapply (wp_word c (8 * T.val + 5) (k0_off89_eq T)) $$ H0
  iintro H0
  iapply (wp_check c (fun _ => word_ok _ (hb 0 (8 * T.val + 5))))
  iapply (wp_issue c (pw := pwOf d0 d1) (s := (((i 0).val + 1) % 2)) (k := 0) (j := 8 * T.val + 5) (by omega) (cell_eq (Nat.mod_lt _ (by decide)) (by decide) _ _ (off90_eq i)) (((off91_eq i T)).trans (off_row _ (by omega) (by omega))) rfl) $$ I0
  iintro I0
  iapply (wp_word c (8 * T.val + 5) (k0_off93_eq T)) $$ H1
  iintro H1
  iapply (wp_check c (fun _ => word_ok _ (hb 1 (8 * T.val + 5))))
  iapply (wp_issue c (pw := pwOf d0 d1) (s := (((i 0).val + 1) % 2)) (k := 1) (j := 8 * T.val + 5) (by omega) (cell_eq (Nat.mod_lt _ (by decide)) (by decide) _ _ (off94_eq i)) (((off95_eq i T)).trans (off_row _ (by omega) (by omega))) rfl) $$ I1
  iintro I1
  iapply (wp_word c (8 * T.val + 6) (k0_off97_eq T)) $$ H0
  iintro H0
  iapply (wp_check c (fun _ => word_ok _ (hb 0 (8 * T.val + 6))))
  iapply (wp_issue c (pw := pwOf d0 d1) (s := (((i 0).val + 1) % 2)) (k := 0) (j := 8 * T.val + 6) (by omega) (cell_eq (Nat.mod_lt _ (by decide)) (by decide) _ _ (off98_eq i)) (((off99_eq i T)).trans (off_row _ (by omega) (by omega))) rfl) $$ I0
  iintro I0
  iapply (wp_word c (8 * T.val + 6) (k0_off101_eq T)) $$ H1
  iintro H1
  iapply (wp_check c (fun _ => word_ok _ (hb 1 (8 * T.val + 6))))
  iapply (wp_issue c (pw := pwOf d0 d1) (s := (((i 0).val + 1) % 2)) (k := 1) (j := 8 * T.val + 6) (by omega) (cell_eq (Nat.mod_lt _ (by decide)) (by decide) _ _ (off102_eq i)) (((off103_eq i T)).trans (off_row _ (by omega) (by omega))) rfl) $$ I1
  iintro I1
  iapply (wp_word c (8 * T.val + 7) (k0_off105_eq T)) $$ H0
  iintro H0
  iapply (wp_check c (fun _ => word_ok _ (hb 0 (8 * T.val + 7))))
  iapply (wp_issue c (pw := pwOf d0 d1) (s := (((i 0).val + 1) % 2)) (k := 0) (j := 8 * T.val + 7) (by omega) (cell_eq (Nat.mod_lt _ (by decide)) (by decide) _ _ (off106_eq i)) (((off107_eq i T)).trans (off_row _ (by omega) (by omega))) rfl) $$ I0
  iintro I0
  iapply (wp_word c (8 * T.val + 7) (k0_off109_eq T)) $$ H1
  iintro H1
  iapply (wp_check c (fun _ => word_ok _ (hb 1 (8 * T.val + 7))))
  iapply (wp_issue c (pw := pwOf d0 d1) (s := (((i 0).val + 1) % 2)) (k := 1) (j := 8 * T.val + 7) (by omega) (cell_eq (Nat.mod_lt _ (by decide)) (by decide) _ _ (off110_eq i)) (((off111_eq i T)).trans (off_row _ (by omega) (by omega))) rfl) $$ I1
  iintro I1
  rw [wp_pure]
  imodintro
  rw [show 8 * (T.val + 1) = 8 * T.val + 7 + 1 by omega]
  isplitl [H0]; · iexact H0
  isplitl [H1]; · iexact H1
  isplitl [I0]; · iexact I0
  iexact I1

end Trip

end Cert.Combine
-- ==== Proof.Body.lean ====
/-
  One grid point of the combine call: the copies of the next tile issued into the other slot, this tile's two halves
  awaited, and the block computed from their rows.
-/
module

public import proofs.«01_k».proof.Proof.Trips

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

/-! ## Whole-block loads and stores -/

section Mem

variable (c : Dev nD)

theorem wp_load_own {α : Type} {Q : α → sProp 𝕄} {cs : CoreSpace} {s : Shape} {e : EltTy} {m : Memref sig .tc cs s e} {q : PosShare TreeShare}
    {X : s.Idx → Elt F e} {off : Fin s.rank → ℕ} {h} (hoff : off = fun _ => 0) {hl}
    {kk : (s.Idx → Elt F e) → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ (kk X) Q)
      -∗ wp frame (wpE (defs₀ (F := F)) Variants.none (c : Thread nD τ) none) Set.univ
          (Prog.lift (.load m (Rect.unit (s := s) off s.size h).toLoadRect hl) >>= kk) Q) := by
  subst hoff
  unfold owns
  iintro ⟨%f, %hf, H⟩ Hk
  have hr : (m.access (Rect.unit (s := s) (fun _ => 0) s.size h)).read (Elt F) f = X := by
    subst hf
    funext y
    exact congrArg (m.view.read (Elt F) f) (Rect.emb_whole_apply s y)
  iapply (wp_load_rect Variants.none (c : Thread nD τ) none Set.univ (m := m) (r := Rect.unit (s := s) (fun _ => 0) s.size h) (q := q) (f := f)
    (S := m.view.set) (View.set_slice_subset _ _)) $$ H
  iintro H
  rw [hr]
  iapply Hk
  iexists f
  isplitr; · ipureintro; exact hf
  iexact H

theorem wp_store_own {α : Type} {Q : α → sProp 𝕄} {cs : CoreSpace} {s : Shape} {e : EltTy} {m : Memref sig .tc cs s e}
    {X : s.Idx → Elt F e} (w : s.Idx → Elt F e) {off : Fin s.rank → ℕ} {h} (hoff : off = fun _ => 0) {hl hm}
    {kk : PUnit → Prog (TpuEff nD τ sig (Elt F) Λ₀ .tc) α} :
    (owns (c : Thread nD τ) m fullShare X : sProp 𝕄) ⊢ iprop((owns (c : Thread nD τ) m fullShare w -∗ wp frame (wpE (defs₀ (F := F)) Variants.none (c : Thread nD τ) none) Set.univ (kk ⟨⟩) Q)
      -∗ wp frame (wpE (defs₀ (F := F)) Variants.none (c : Thread nD τ) none) Set.univ
          (Prog.lift (.store m (Rect.unit (s := s) off s.size h) w Finset.univ hl hm) >>= kk) Q) := by
  subst hoff
  unfold owns
  iintro ⟨%f, %hf, H⟩ Hk
  iapply (wp_store Variants.none (c : Thread nD τ) none Set.univ (m := m) (r := Rect.unit (s := s) (fun _ => 0) s.size h) (w := w) (Mk := Finset.univ) (f := f)
    (S := m.view.set) (View.set_slice_subset _ _)) $$ H
  iintro H
  iapply Hk
  iexists _
  isplitr
  swap
  · iexact H
  · ipureintro
    funext y
    refine Eq.trans ?_ (congrFun (View.read_write_univ (v := m.access (Rect.unit (s := s) (fun _ => 0) s.size h)) f w) y)
    exact congrArg (m.view.read (Elt F) _) (Rect.emb_whole_apply s y).symm

end Mem

/-! ## A half of the ring -/

/-- The elements of half `(s, k)` of the scratch. -/
def halfSet (s k : ℕ) : Finset S2x2x64x8x512.Idx :=
  Finset.univ.filter fun x => (x 0).val = s ∧ (x 1).val = k

theorem mem_halfSet {s k : ℕ} {x : S2x2x64x8x512.Idx} : x ∈ halfSet s k ↔ (x 0).val = s ∧ (x 1).val = k := by
  simp [halfSet]

theorem halfSet_rows (s k : ℕ) : halfSet s k = (Finset.univ : Finset (Fin 512)).biUnion fun t => rowSet s k t.val := by
  ext x
  have h2 : (x 2).val < 64 := (x 2).isLt
  have h3 : (x 3).val < 8 := (x 3).isLt
  simp only [mem_halfSet, Finset.mem_biUnion, Finset.mem_univ, true_and, mem_rowSet]
  constructor
  · rintro ⟨h0, h1⟩
    exact ⟨⟨8 * (x 2).val + (x 3).val, by omega⟩, h0, h1, by simp; omega, by simp; omega⟩
  · rintro ⟨t, h0, h1, -, -⟩
    exact ⟨h0, h1⟩

theorem rowSet_disjoint (s k : ℕ) : ∀ t ∈ (Finset.univ : Finset (Fin 512)), ∀ t' ∈ (Finset.univ : Finset (Fin 512)), t ≠ t' →
    Disjoint (rowSet s k t.val) (rowSet s k t'.val) := by
  intro t _ t' _ hne
  rw [Finset.disjoint_left]
  intro x hx hx'
  rw [mem_rowSet] at hx hx'
  exact hne (Fin.ext (by omega))

/-- The 512 packed rows that tile's position words name, as the kernel loads them from a half. -/
def rowsOf (ys : S36864x512.Idx → Elt F .i32) (pw : Fin 2 → ℕ → BitVec 32) (k : Fin 2) : S1x1x64x8x512.Idx → Elt F .i32 :=
  fun y => ys (ysIdx (pw k (8 * (y 2).val + (y 3).val)).toNat (y 4))

section Half

variable (c : Dev nD) (ys : S36864x512.Idx → Elt F .i32)

/-- A half with no copy in flight: its cell at zero, its rows at any contents. -/
def freeH (s k : ℕ) : sProp 𝕄 :=
  iprop(semVal ((c : Thread nD τ), .dma (cell s k)) 0 ∗ bigSep Finset.univ (rowFree c ys s k))
/-- A half with all 512 copies of a tile issued. -/
def flyH (pw : Fin 2 → ℕ → BitVec 32) (s k : ℕ) : sProp 𝕄 := issuing c ys pw s k 512
/-- A half whose 512 rows have arrived: the half as gathered and the shares of the packed rows. -/
def fullH (pw : Fin 2 → ℕ → BitVec 32) (s k : ℕ) : sProp 𝕄 :=
  iprop(semVal ((c : Thread nD τ), .dma (cell s k)) 0 ∗ scPt c (halfSet s k) (gath ys pw) ∗ bigSep Finset.univ fun t => ysPt c (rowShare s k t) ys)

theorem freeH_start (pw : Fin 2 → ℕ → BitVec 32) (s k : ℕ) : freeH c ys s k ⊢ (|={Set.univ}=> issuing c ys pw s k 0 : sProp 𝕄) := by
  unfold freeH issuing
  rw [bigSep_pending_zero]
  iintro ⟨Hq, H⟩
  imod (Transfers.batch_alloc' EC (c : Thread nD τ) () 64 (rowDone c ys pw s k) (sm := .dma (cell s k)) (E := Set.univ)) $$ Hq with HB
  imodintro
  isplitl [HB]; · iexact HB
  iexact H

theorem issuing_end (pw : Fin 2 → ℕ → BitVec 32) (s k k' T : ℕ) (hk : k = k') (hT : T = 64) : issuing c ys pw s k (8 * T) = (flyH c ys pw s k' : sProp 𝕄) := by
  subst hT hk; rfl

theorem rows_joined (pw : Fin 2 → ℕ → BitVec 32) (s k : ℕ) :
    (bigSep Finset.univ (rowDone c ys pw s k) : sProp 𝕄)
      = iprop(scPt c (halfSet s k) (gath ys pw) ∗ bigSep Finset.univ fun t => ysPt c (rowShare s k t) ys) := by
  unfold rowDone
  rw [bigSep_sep', halfSet_rows]
  unfold scPt
  rw [pointsTo_biUnion _ _ (rowSet_disjoint s k)]

theorem fullH_free (pw : Fin 2 → ℕ → BitVec 32) (s k : ℕ) : fullH c ys pw s k ⊢ (freeH c ys s k : sProp 𝕄) := by
  unfold fullH freeH
  rw [← rows_joined]
  iintro ⟨Hq, H⟩
  isplitl [Hq]; · iexact Hq
  have hm : ∀ t ∈ (Finset.univ : Finset (Fin 512)), rowDone c ys pw s k t ⊢ rowFree c ys s k t := by
    intro t _
    unfold rowDone rowFree
    iintro ⟨H, Hs⟩
    isplitl [H]; · iexists _; iexact H
    iexact Hs
  have hm' : bigSep Finset.univ (rowDone c ys pw s k) ⊢ (bigSep Finset.univ (rowFree c ys s k) : sProp 𝕄) := BI.bigSep_mono hm
  iapply hm' $$ H

/-- The window of half `(s, k)`, as the kernel names it. -/
abbrev halfM (off : Fin 5 → ℕ) (h : ∀ a, off a + S1x1x64x8x512.size a ≤ S2x2x64x8x512.size a) : Memref sig .tc .vmem S64x8x512 .i32 :=
  (scM.slice (Rect.unit (s := S2x2x64x8x512) off S1x1x64x8x512.size h) (fun _ => rfl)).squeeze S64x8x512 squeezes_S1x1x64x8x512_S64x8x512

/-- The wait of a half: its 512 copies have arrived. -/
theorem wp_half {α : Type} {Q : α → sProp 𝕄} {pw : Fin 2 → ℕ → BitVec 32} {s k : ℕ} {sm : DmaSem sig} (hsm : sm = cell s k)
    {off : Fin 5 → ℕ} {h} {W : Waits sig Unit} {src : Memref sig .tc .hbm S64x8x512 .i32} {hsrc : src.view.WordExact} {hdst : (halfM off h).view.WordExact}
    {kk : PUnit → Prog (TpuEff nD τ sig (Elt F) Λ₀ .tc) α} :
    iprop(flyH c ys pw s k ∗ owes (c : Thread nD τ) 0 W)
      ⊢ iprop(((∃ W', owes (c : Thread nD τ) 0 W') ∗ fullH c ys pw s k -∗ wp frame (wpE (defs₀ (F := F)) Variants.none (c : Thread nD τ) none) Set.univ (kk ⟨⟩) Q)
        -∗ wp frame (wpE (defs₀ (F := F)) Variants.none (c : Thread nD τ) none) Set.univ
            (Prog.lift (.waitDma2 sm src (halfM off h) hsrc hdst) >>= kk) Q) := by
  subst hsm
  unfold flyH issuing
  iintro ⟨⟨HB, -⟩, HW⟩ Hk
  iapply (wp_waitBatchAll EC Variants.none (c : Thread nD τ) none () (N := 64) (J := 32768) rfl (by decide) (D := rowDone c ys pw s k) (u := 0) (by decide)) $$ [HB HW]
  · isplitl [HB]; · iexact HB
    iexact HW
  iintro ⟨HD, Hq, HW⟩
  iapply Hk
  isplitl [HW]; · iexists _; iexact HW
  unfold fullH
  rw [← rows_joined]
  isplitl [Hq]; · iexact Hq
  iexact HD

/-- A load of an arrived half gives its rows. -/
theorem wp_load_half {α : Type} {Q : α → sProp 𝕄} {pw : Fin 2 → ℕ → BitVec 32} {s : ℕ} (k : Fin 2) (kn : ℕ) (hk : k.val = kn)
    {off : Fin 5 → ℕ} {h} (hoff : off = ![s, kn, 0, 0, 0]) {hl}
    {kk : (S1x1x64x8x512.Idx → Elt F .i32) → Prog (TpuEff nD τ sig (Elt F) Λ₀ .tc) α} :
    (fullH c ys pw s kn : sProp 𝕄) ⊢ iprop((fullH c ys pw s kn -∗ wp frame (wpE (defs₀ (F := F)) Variants.none (c : Thread nD τ) none) Set.univ (kk (rowsOf ys pw k)) Q)
      -∗ wp frame (wpE (defs₀ (F := F)) Variants.none (c : Thread nD τ) none) Set.univ
          (Prog.lift (.load scM (Rect.unit (s := S2x2x64x8x512) off S1x1x64x8x512.size h).toLoadRect hl) >>= kk) Q) := by
  unfold fullH
  subst hoff
  subst hk
  have hset : (scM.access (Rect.unit (s := S2x2x64x8x512) ![s, k.val, 0, 0, 0] S1x1x64x8x512.size h)).set ⊆ halfSet s k.val := by
    refine (View.set_slice_whole _ _).le.trans ?_
    intro x hx
    rw [Rect.mem_set_unit] at hx
    rw [mem_halfSet]
    have h0 : s ≤ (x 0).val ∧ (x 0).val < s + 1 := hx 0
    have h1 : k.val ≤ (x 1).val ∧ (x 1).val < k.val + 1 := hx 1
    omega
  have hr : (scM.access (Rect.unit (s := S2x2x64x8x512) ![s, k.val, 0, 0, 0] S1x1x64x8x512.size h)).read (Elt F) (gath ys pw) = rowsOf ys pw k := by
    funext y
    refine (View.read_apply _ _).trans ((cast_eq _ _).trans ?_)
    have y0 : (y 0).val < 1 := (y 0).isLt
    have y1 : (y 1).val < 1 := (y 1).isLt
    generalize hX : ((scM.access (Rect.unit (s := S2x2x64x8x512) ![s, k.val, 0, 0, 0] S1x1x64x8x512.size h)).emb y : S2x2x64x8x512.Idx) = X
    have e1 : (X 1).val = k.val + 1 * (y 1).val := by rw [← hX]; rfl
    have e2 : (X 2).val = 0 + 1 * (y 2).val := by rw [← hX]; rfl
    have e3 : (X 3).val = 0 + 1 * (y 3).val := by rw [← hX]; rfl
    have e4 : (X 4).val = 0 + 1 * (y 4).val := by rw [← hX]; rfl
    have f1 : (X 1 : Fin 2) = k := Fin.ext (by rw [e1]; omega)
    have f4 : (X 4 : Fin 512) = y 4 := Fin.ext (by rw [e4]; omega)
    change ys (ysIdx (pw (X 1) (8 * (X 2).val + (X 3).val)).toNat (X 4)) = ys (ysIdx (pw k (8 * (y 2).val + (y 3).val)).toNat (y 4))
    rw [f1, f4, e2, e3]
    simp
  iintro ⟨Hq, H, Hs⟩ Hk
  iapply (wp_load_rect Variants.none (c : Thread nD τ) none Set.univ (m := scM) (r := Rect.unit (s := S2x2x64x8x512) ![s, k.val, 0, 0, 0] S1x1x64x8x512.size h)
    (q := fullShare) (f := gath ys pw) (S := halfSet s k.val) hset) $$ H
  iintro H
  rw [hr]
  iapply Hk
  isplitl [Hq]; · iexact Hq
  isplitl [H]; · iexact H
  iexact Hs

/-! ## The ring between grid points -/

variable (pos : ℕ → Fin 2 → ℕ → BitVec 32)

/-- Half `k` of the slot of tile `n` before grid point `n`: its copies in flight, but before the first point and after
    the last the half is free. -/
def curH (n k : ℕ) : sProp 𝕄 := if n % 32 = 0 then freeH c ys (n % 2) k else flyH c ys (pos n) (n % 2) k
/-- The four halves before grid point `n`. -/
def ring (n : ℕ) : sProp 𝕄 :=
  iprop(curH c ys pos n 0 ∗ curH c ys pos n 1 ∗ freeH c ys ((n + 1) % 2) 0 ∗ freeH c ys ((n + 1) % 2) 1)

theorem cond1_iff : ∀ i : grid0.Coords, k0_cond1 i = 1#1 ↔ (i 0).val = 0 := by decide +kernel
theorem cond2_iff : ∀ i : grid0.Coords, k0_cond2 i = 1#1 ↔ (i 0).val + 1 < 32 := by decide +kernel

/-- Loop 1 issues all copies of a tile. -/
theorem loop1 {α : Type} {Q : α → sProp 𝕄} (i : grid0.Coords) (arg1 : Memref sig .tc .smem S1x1x512 .i32) (harg1 : arg1.IsWhole) (arg2 : Memref sig .tc .smem S1x1x512 .i32) (harg2 : arg2.IsWhole) (arg3 : Memref sig .tc .smem S1x1x512 .i32) (harg3 : arg3.IsWhole) (arg4 : Memref sig .tc .smem S1x1x512 .i32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x1024 .f32) (harg7 : arg7.IsWhole) (arg10 : Memref sig .tc .vmem S512x1024 .f32) (harg10 : arg10.IsWhole)
    (h : k0_cond1 i = 1#1) (n : ℕ) (hn : n % 2 = 0) (d0 d1 : S1x1x512.Idx → Elt F .i32) (hpos : pos n = pwOf d0 d1) (hb : ∀ n k j, (pos n k j).toNat < 36864)
    {kk : Unit → Prog (TpuEff nD τ sig (Elt F) Λ₀ .tc) α} :
    iprop(owns (c : Thread nD τ) arg1 fullShare d0 ∗ owns (c : Thread nD τ) arg2 fullShare d1
        ∗ freeH c ys (n % 2) 0 ∗ freeH c ys (n % 2) 1)
      ⊢ iprop((iprop(owns (c : Thread nD τ) arg1 fullShare d0 ∗ owns (c : Thread nD τ) arg2 fullShare d1
          ∗ flyH c ys (pos n) (n % 2) 0 ∗ flyH c ys (pos n) (n % 2) 1)
            -∗ wp frame (wpE (defs₀ (F := F)) Variants.none (c : Thread nD τ) none) Set.univ (kk ()) Q)
        -∗ wp frame (wpE (defs₀ (F := F)) Variants.none (c : Thread nD τ) none) Set.univ
            (Scf.Loop.for k0_t1_loop (k0_t1_ok i h) ⟨⟩ (k0_t1_body i arg1 harg1 arg2 harg2 arg3 harg3 arg4 harg4 arg5 harg5 arg6 harg6 arg7 harg7 hbM (Memref.isWhole_whole _) vwM (Memref.isWhole_whole _) arg10 harg10 scM (Memref.isWhole_whole _) cc0_scratch1 h) >>= kk) Q) := by
  have hb0 := hb n
  rw [hpos] at hb0
  rw [hpos, hn]
  iintro ⟨H0, H1, I0, I1⟩ Hk
  imod (freeH_start c ys (pwOf d0 d1) 0 0) $$ I0 with I0
  imod (freeH_start c ys (pwOf d0 d1) 0 1) $$ I1 with I1
  iapply (Scf.wp_for_bind frame (wpE (defs₀ (F := F)) Variants.none (c : Thread nD τ) none) Set.univ _ _ _ (k0_t1_ok i h) _ _
    (fun T _ => iprop(owns (c : Thread nD τ) arg1 fullShare d0 ∗ owns (c : Thread nD τ) arg2 fullShare d1
      ∗ issuing c ys (pwOf d0 d1) 0 (0 : Fin 2).val (8 * T) ∗ issuing c ys (pwOf d0 d1) 0 (1 : Fin 2).val (8 * T)))
    (fun T u => trip1 c i arg1 harg1 arg2 harg2 arg3 harg3 arg4 harg4 arg5 harg5 arg6 harg6 arg7 harg7 arg10 harg10 h T ys d0 d1 hb0 u)) $$ [H0 H1 I0 I1]
  · isplitl [H0]; · iexact H0
    isplitl [H1]; · iexact H1
    isplitl [I0]; · iexact I0
    iexact I1
  iintro %u ⟨H0, H1, I0, I1⟩
  iapply Hk
  isplitl [H0]; · iexact H0
  isplitl [H1]; · iexact H1
  isplitl [I0]
  · iapply (Entails.of_eq (issuing_end c ys (pwOf d0 d1) 0 ((0 : Fin 2) : ℕ) 0 (Scf.trips k0_t1_loop.lb k0_t1_loop.ub k0_t1_loop.st) rfl (by decide))) $$ I0
  · iapply (Entails.of_eq (issuing_end c ys (pwOf d0 d1) 0 ((1 : Fin 2) : ℕ) 1 (Scf.trips k0_t1_loop.lb k0_t1_loop.ub k0_t1_loop.st) rfl (by decide))) $$ I1

/-- Loop 2 issues all copies of a tile. -/
theorem loop2 {α : Type} {Q : α → sProp 𝕄} (i : grid0.Coords) (arg1 : Memref sig .tc .smem S1x1x512 .i32) (harg1 : arg1.IsWhole) (arg2 : Memref sig .tc .smem S1x1x512 .i32) (harg2 : arg2.IsWhole) (arg3 : Memref sig .tc .smem S1x1x512 .i32) (harg3 : arg3.IsWhole) (arg4 : Memref sig .tc .smem S1x1x512 .i32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x1024 .f32) (harg7 : arg7.IsWhole) (arg10 : Memref sig .tc .vmem S512x1024 .f32) (harg10 : arg10.IsWhole)
    (h : k0_cond2 i = 1#1) (n : ℕ) (hn : n % 2 = (((i 0).val + 1) % 2)) (d0 d1 : S1x1x512.Idx → Elt F .i32) (hpos : pos n = pwOf d0 d1) (hb : ∀ n k j, (pos n k j).toNat < 36864)
    {kk : Unit → Prog (TpuEff nD τ sig (Elt F) Λ₀ .tc) α} :
    iprop(owns (c : Thread nD τ) arg3 fullShare d0 ∗ owns (c : Thread nD τ) arg4 fullShare d1
        ∗ freeH c ys (n % 2) 0 ∗ freeH c ys (n % 2) 1)
      ⊢ iprop((iprop(owns (c : Thread nD τ) arg3 fullShare d0 ∗ owns (c : Thread nD τ) arg4 fullShare d1
          ∗ flyH c ys (pos n) (n % 2) 0 ∗ flyH c ys (pos n) (n % 2) 1)
            -∗ wp frame (wpE (defs₀ (F := F)) Variants.none (c : Thread nD τ) none) Set.univ (kk ()) Q)
        -∗ wp frame (wpE (defs₀ (F := F)) Variants.none (c : Thread nD τ) none) Set.univ
            (Scf.Loop.for k0_t2_loop (k0_t2_ok i h) ⟨⟩ (k0_t2_body i arg1 harg1 arg2 harg2 arg3 harg3 arg4 harg4 arg5 harg5 arg6 harg6 arg7 harg7 hbM (Memref.isWhole_whole _) vwM (Memref.isWhole_whole _) arg10 harg10 scM (Memref.isWhole_whole _) cc0_scratch1 h) >>= kk) Q) := by
  have hb0 := hb n
  rw [hpos] at hb0
  rw [hpos, hn]
  iintro ⟨H0, H1, I0, I1⟩ Hk
  imod (freeH_start c ys (pwOf d0 d1) (((i 0).val + 1) % 2) 0) $$ I0 with I0
  imod (freeH_start c ys (pwOf d0 d1) (((i 0).val + 1) % 2) 1) $$ I1 with I1
  iapply (Scf.wp_for_bind frame (wpE (defs₀ (F := F)) Variants.none (c : Thread nD τ) none) Set.univ _ _ _ (k0_t2_ok i h) _ _
    (fun T _ => iprop(owns (c : Thread nD τ) arg3 fullShare d0 ∗ owns (c : Thread nD τ) arg4 fullShare d1
      ∗ issuing c ys (pwOf d0 d1) (((i 0).val + 1) % 2) (0 : Fin 2).val (8 * T) ∗ issuing c ys (pwOf d0 d1) (((i 0).val + 1) % 2) (1 : Fin 2).val (8 * T)))
    (fun T u => trip2 c i arg1 harg1 arg2 harg2 arg3 harg3 arg4 harg4 arg5 harg5 arg6 harg6 arg7 harg7 arg10 harg10 h T ys d0 d1 hb0 u)) $$ [H0 H1 I0 I1]
  · isplitl [H0]; · iexact H0
    isplitl [H1]; · iexact H1
    isplitl [I0]; · iexact I0
    iexact I1
  iintro %u ⟨H0, H1, I0, I1⟩
  iapply Hk
  isplitl [H0]; · iexact H0
  isplitl [H1]; · iexact H1
  isplitl [I0]
  · iapply (Entails.of_eq (issuing_end c ys (pwOf d0 d1) (((i 0).val + 1) % 2) ((0 : Fin 2) : ℕ) 0 (Scf.trips k0_t2_loop.lb k0_t2_loop.ub k0_t2_loop.st) rfl (by decide))) $$ I0
  · iapply (Entails.of_eq (issuing_end c ys (pwOf d0 d1) (((i 0).val + 1) % 2) ((1 : Fin 2) : ℕ) 1 (Scf.trips k0_t2_loop.lb k0_t2_loop.ub k0_t2_loop.st) rfl (by decide))) $$ I1

theorem off113_eq : ∀ i : grid0.Coords, k0_off113 i = ![(i 0).val % 2, 0] := by decide +kernel
theorem off115_eq : ∀ i : grid0.Coords, k0_off115 i = ![(i 0).val % 2, 1] := by decide +kernel
theorem off117_eq : ∀ i : grid0.Coords, k0_off117 i = ![(i 0).val % 2, 0, 0, 0, 0] := by decide +kernel
theorem off118_eq : ∀ i : grid0.Coords, k0_off118 i = ![(i 0).val % 2, 1, 0, 0, 0] := by decide +kernel

/-- The body at one grid point: the inputs kept, the output block computed from the rows of this tile, the ring one tile
    further. -/
theorem body_run {Q : PUnit → sProp 𝕄} (i : grid0.Coords) (arg1 : Memref sig .tc .smem S1x1x512 .i32) (harg1 : arg1.IsWhole) (arg2 : Memref sig .tc .smem S1x1x512 .i32) (harg2 : arg2.IsWhole) (arg3 : Memref sig .tc .smem S1x1x512 .i32) (harg3 : arg3.IsWhole) (arg4 : Memref sig .tc .smem S1x1x512 .i32) (harg4 : arg4.IsWhole) (arg5 : Memref sig .tc .vmem S512x1024 .f32) (harg5 : arg5.IsWhole) (arg6 : Memref sig .tc .vmem S512x128 .f32) (harg6 : arg6.IsWhole) (arg7 : Memref sig .tc .vmem S1x1024 .f32) (harg7 : arg7.IsWhole) (arg10 : Memref sig .tc .vmem S512x1024 .f32) (harg10 : arg10.IsWhole)
    (d0 d1 e0 e1 : S1x1x512.Idx → Elt F .i32) (x o : S512x1024.Idx → Elt F .f32) (g : S512x128.Idx → Elt F .f32) (gf : S1x1024.Idx → Elt F .f32)
    (h0 : (i 0).val = 0 → pos 0 = pwOf d0 d1) (h1 : (i 0).val + 1 < 32 → pos ((i 0).val + 1) = pwOf e0 e1)
    (hb : ∀ n k j, (pos n k j).toNat < 36864) (W : Waits sig Unit) :
    iprop(ring c ys pos (i 0).val ∗ owes (c : Thread nD τ) 0 W ∗ owns (c : Thread nD τ) arg1 fullShare d0 ∗ owns (c : Thread nD τ) arg2 fullShare d1
        ∗ owns (c : Thread nD τ) arg3 fullShare e0 ∗ owns (c : Thread nD τ) arg4 fullShare e1 ∗ owns (c : Thread nD τ) arg5 fullShare x
        ∗ owns (c : Thread nD τ) arg6 fullShare g ∗ owns (c : Thread nD τ) arg7 fullShare gf ∗ owns (c : Thread nD τ) arg10 fullShare o)
      ⊢ iprop((iprop(ring c ys pos ((i 0).val + 1) ∗ (∃ W', owes (c : Thread nD τ) 0 W') ∗ owns (c : Thread nD τ) arg1 fullShare d0 ∗ owns (c : Thread nD τ) arg2 fullShare d1
        ∗ owns (c : Thread nD τ) arg3 fullShare e0 ∗ owns (c : Thread nD τ) arg4 fullShare e1 ∗ owns (c : Thread nD τ) arg5 fullShare x
        ∗ owns (c : Thread nD τ) arg6 fullShare g ∗ owns (c : Thread nD τ) arg7 fullShare gf
        ∗ owns (c : Thread nD τ) arg10 fullShare (k0_pay1 g x (rowsOf ys (pos (i 0).val) 0) (rowsOf ys (pos (i 0).val) 1) gf)) -∗ Q ⟨⟩)
        -∗ wp frame (wpE (defs₀ (F := F)) Variants.none (c : Thread nD τ) none) Set.univ
            (cc0_combine i arg1 harg1 arg2 harg2 arg3 harg3 arg4 harg4 arg5 harg5 arg6 harg6 arg7 harg7 hbM (Memref.isWhole_whole _) vwM (Memref.isWhole_whole _) arg10 harg10 scM (Memref.isWhole_whole _) cc0_scratch1) Q) := by
  rw [cc0_combine_eq_skeleton]
  unfold cc0_combine_skel
  rw [k0_part11_eq_skeleton]
  unfold k0_part11_skel
  have hi : (i 0).val < 32 := (i 0).isLt
  unfold ring curH
  rcases em (k0_cond1 i = 1#1) with hc1 | hc1 <;> rcases em (k0_cond2 i = 1#1) with hc2 | hc2
  case' inl.inl =>
    have g1 : (i 0).val % 32 = 0 := by have := cond1_iff i; have := (cond1_iff i).mp hc1; omega
    have g2 : ¬ ((i 0).val + 1) % 32 = 0 := by have := (cond2_iff i).mp hc2; omega
    have z : (i 0).val = 0 := (cond1_iff i).mp hc1
    simp only [dif_pos hc1, dif_pos hc2, if_pos g1, if_neg g2, bind_assoc, pure_bind]
    iintro ⟨⟨C0, C1, N0, N1⟩, HW, H1, H2, H3, H4, H5, H6, H7, H10⟩ Hk
    ihave C0 := (Entails.of_eq (show freeH c ys ((i 0).val % 2) 0 = freeH c ys (0 % 2) 0 by rw [z])) $$ C0
    ihave C1 := (Entails.of_eq (show freeH c ys ((i 0).val % 2) 1 = freeH c ys (0 % 2) 1 by rw [z])) $$ C1
    iapply (loop1 c ys pos i arg1 harg1 arg2 harg2 arg3 harg3 arg4 harg4 arg5 harg5 arg6 harg6 arg7 harg7 arg10 harg10 hc1 0 rfl d0 d1 (h0 ((cond1_iff i).mp hc1)) hb) $$ [H1 H2 C0 C1]
    · isplitl [H1]; · iexact H1
      isplitl [H2]; · iexact H2
      isplitl [C0]; · iexact C0
      iexact C1
    iintro ⟨H1, H2, C0, C1⟩
    ihave C0 := (Entails.of_eq (show flyH c ys (pos 0) (0 % 2) 0 = flyH c ys (pos (i 0).val) ((i 0).val % 2) 0 by rw [z])) $$ C0
    ihave C1 := (Entails.of_eq (show flyH c ys (pos 0) (0 % 2) 1 = flyH c ys (pos (i 0).val) ((i 0).val % 2) 1 by rw [z])) $$ C1
    iapply (loop2 c ys pos i arg1 harg1 arg2 harg2 arg3 harg3 arg4 harg4 arg5 harg5 arg6 harg6 arg7 harg7 arg10 harg10 hc2 ((i 0).val + 1) rfl e0 e1 (h1 ((cond2_iff i).mp hc2)) hb) $$ [H3 H4 N0 N1]
    · isplitl [H3]; · iexact H3
      isplitl [H4]; · iexact H4
      isplitl [N0]; · iexact N0
      iexact N1
    iintro ⟨H3, H4, N0, N1⟩
  case' inl.inr =>
    have g1 : (i 0).val % 32 = 0 := by have := cond1_iff i; have := (cond1_iff i).mp hc1; omega
    have g2 : ((i 0).val + 1) % 32 = 0 := by have : ¬ (i 0).val + 1 < 32 := fun e => hc2 ((cond2_iff i).mpr e); omega
    have z : (i 0).val = 0 := (cond1_iff i).mp hc1
    simp only [dif_pos hc1, dif_neg hc2, if_pos g1, if_pos g2, bind_assoc, pure_bind]
    iintro ⟨⟨C0, C1, N0, N1⟩, HW, H1, H2, H3, H4, H5, H6, H7, H10⟩ Hk
    ihave C0 := (Entails.of_eq (show freeH c ys ((i 0).val % 2) 0 = freeH c ys (0 % 2) 0 by rw [z])) $$ C0
    ihave C1 := (Entails.of_eq (show freeH c ys ((i 0).val % 2) 1 = freeH c ys (0 % 2) 1 by rw [z])) $$ C1
    iapply (loop1 c ys pos i arg1 harg1 arg2 harg2 arg3 harg3 arg4 harg4 arg5 harg5 arg6 harg6 arg7 harg7 arg10 harg10 hc1 0 rfl d0 d1 (h0 ((cond1_iff i).mp hc1)) hb) $$ [H1 H2 C0 C1]
    · isplitl [H1]; · iexact H1
      isplitl [H2]; · iexact H2
      isplitl [C0]; · iexact C0
      iexact C1
    iintro ⟨H1, H2, C0, C1⟩
    ihave C0 := (Entails.of_eq (show flyH c ys (pos 0) (0 % 2) 0 = flyH c ys (pos (i 0).val) ((i 0).val % 2) 0 by rw [z])) $$ C0
    ihave C1 := (Entails.of_eq (show flyH c ys (pos 0) (0 % 2) 1 = flyH c ys (pos (i 0).val) ((i 0).val % 2) 1 by rw [z])) $$ C1
  case' inr.inl =>
    have g1 : ¬ (i 0).val % 32 = 0 := by have := cond1_iff i; intro e; exact hc1 ((cond1_iff i).mpr (by omega))
    have g2 : ¬ ((i 0).val + 1) % 32 = 0 := by have := (cond2_iff i).mp hc2; omega
    simp only [dif_neg hc1, dif_pos hc2, if_neg g1, if_neg g2, bind_assoc, pure_bind]
    iintro ⟨⟨C0, C1, N0, N1⟩, HW, H1, H2, H3, H4, H5, H6, H7, H10⟩ Hk
    iapply (loop2 c ys pos i arg1 harg1 arg2 harg2 arg3 harg3 arg4 harg4 arg5 harg5 arg6 harg6 arg7 harg7 arg10 harg10 hc2 ((i 0).val + 1) rfl e0 e1 (h1 ((cond2_iff i).mp hc2)) hb) $$ [H3 H4 N0 N1]
    · isplitl [H3]; · iexact H3
      isplitl [H4]; · iexact H4
      isplitl [N0]; · iexact N0
      iexact N1
    iintro ⟨H3, H4, N0, N1⟩
  case' inr.inr =>
    have g1 : ¬ (i 0).val % 32 = 0 := by have := cond1_iff i; intro e; exact hc1 ((cond1_iff i).mpr (by omega))
    have g2 : ((i 0).val + 1) % 32 = 0 := by have : ¬ (i 0).val + 1 < 32 := fun e => hc2 ((cond2_iff i).mpr e); omega
    simp only [dif_neg hc1, dif_neg hc2, if_neg g1, if_pos g2, bind_assoc, pure_bind]
    iintro ⟨⟨C0, C1, N0, N1⟩, HW, H1, H2, H3, H4, H5, H6, H7, H10⟩ Hk
  all_goals
    iapply (wp_half c ys (cell_eq (Nat.mod_lt _ (by decide)) (by decide) _ _ (off113_eq i))) $$ [C0 HW]
    · isplitl [C0]; · iexact C0
      iexact HW
    iintro ⟨⟨%W1, HW⟩, C0⟩
    iapply (wp_half c ys (cell_eq (Nat.mod_lt _ (by decide)) (by decide) _ _ (off115_eq i))) $$ [C1 HW]
    · isplitl [C1]; · iexact C1
      iexact HW
    iintro ⟨⟨%W2, HW⟩, C1⟩
    iapply (wp_load_own c (by funext a; fin_cases a <;> rfl)) $$ H6
    iintro H6
    iapply (wp_load_own c (by funext a; fin_cases a <;> rfl)) $$ H5
    iintro H5
    iapply (wp_load_half c ys (0 : Fin 2) 0 rfl (off117_eq i)) $$ C0
    iintro C0
    iapply (wp_load_half c ys (1 : Fin 2) 1 rfl (off118_eq i)) $$ C1
    iintro C1
    iapply (wp_load_own c (by funext a; fin_cases a <;> rfl)) $$ H7
    iintro H7
    iapply (wp_load_own c (by funext a; fin_cases a <;> rfl)) $$ H10
    iintro H10
    iapply (wp_store_own c _ (by funext a; fin_cases a <;> rfl)) $$ H10
    iintro H10
    rw [wp_pure]
    imodintro
    iapply Hk
    isplitl [C0 C1 N0 N1]
    · isplitl [N0]; · iexact N0
      isplitl [N1]; · iexact N1
      rw [show ((i 0).val + 1 + 1) % 2 = (i 0).val % 2 by omega]
      isplitl [C0]
      · iapply (fullH_free c ys (pos (i 0).val)) $$ C0
      · iapply (fullH_free c ys (pos (i 0).val)) $$ C1
    isplitl [HW]; · iexists _; iexact HW
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H10

end Half

end Cert.Combine
-- ==== Proof.Ends.lean ====
/-
  The ring's two ends: before the first grid point the scratch, the packed rows' share and the four copy cells are taken
  apart into four halves with nothing in flight; after the last point they are put together again.
-/
module

public import proofs.«01_k».proof.Proof.Body

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (Pipeline.UD sig nD τ) ℕ

variable (c : Dev nD) (ys : S36864x512.Idx → Elt F .i32)

/-- The four halves, numbered. -/
def halfNo (j : Fin 4) : Finset S2x2x64x8x512.Idx := halfSet (j.val / 2) (j.val % 2)

theorem halves_univ : (Finset.univ : Finset S2x2x64x8x512.Idx) = (Finset.univ : Finset (Fin 4)).biUnion halfNo := by
  ext x
  have h0 : (x 0).val < 2 := (x 0).isLt
  have h1 : (x 1).val < 2 := (x 1).isLt
  simp only [Finset.mem_univ, true_iff, Finset.mem_biUnion, true_and]
  refine ⟨⟨2 * (x 0).val + (x 1).val, by omega⟩, ?_⟩
  unfold halfNo
  rw [mem_halfSet]
  constructor <;> simp <;> omega

theorem halves_disjoint : ∀ i ∈ (Finset.univ : Finset (Fin 4)), ∀ j ∈ (Finset.univ : Finset (Fin 4)), i ≠ j → Disjoint (halfNo i) (halfNo j) := by
  intro i _ j _ hne
  rw [Finset.disjoint_left]
  intro x hi hj
  unfold halfNo at hi hj
  rw [mem_halfSet] at hi hj
  exact hne (Fin.ext (by omega))

/-- The whole share of the packed rows is its four quarters. -/
theorem quarters : (ysPt c fullShare ys : sProp 𝕄)
    = iprop((ysPt c (quarter 0 0) ys ∗ ysPt c (quarter 0 1) ys) ∗ (ysPt c (quarter 1 0) ys ∗ ysPt c (quarter 1 1) ys)) := by
  have h (q : PosShare TreeShare) : (ysPt c q ys : sProp 𝕄) = iprop(ysPt c q.left ys ∗ ysPt c q.right ys) :=
    BI.Entails.antisymm (pointsTo_share (PosShare.mem_left_op_right q)).1 (pointsTo_share (PosShare.mem_left_op_right q)).2
  rw [h fullShare, h fullShare.left, h fullShare.right]
  rfl

theorem recount {n : ℕ} (P : Fin n → sProp 𝕄) (N : ℕ) (h : N = n) :
    bigSep Finset.univ P = bigSep Finset.univ fun i : Fin N => P (i.cast h) := by
  subst h; rfl

theorem leaves_at {ℓ : Loc nD τ sig} (f : Buf (Elt F) ℓ) (n N : ℕ) (h : N = 2 ^ n) (q : PosShare TreeShare) :
    (ℓ ↦{q} f : sProp 𝕄) = bigSep Finset.univ fun i : Fin N => ℓ ↦{ShareLeaves.leaf n q (i.cast h)} f :=
  (ShareLeaves.pointsTo_leaves Finset.univ f n q).trans (recount _ N h)

theorem quarter_leaves (s k : ℕ) : (ysPt c (quarter s k) ys : sProp 𝕄) = bigSep Finset.univ fun t => ysPt c (rowShare s k t) ys :=
  leaves_at (ℓ := (c : Thread nD τ).loc main_arg3) ys 9 512 (by decide) (quarter s k)

/-- Pieces of a buffer held each at its own contents are their union held at some contents. -/
theorem join_at {ℓ : Loc nD τ sig} {T : Type} [Fintype T] {q : PosShare TreeShare} (K : T → Finset (Idx ℓ)) (A : Finset (Idx ℓ))
    (hA : ∀ x, x ∈ A ↔ ∃ t, x ∈ K t) (fs : T → Buf (Elt F) ℓ) (f₀ : Buf (Elt F) ℓ)
    (h : ∀ t ∈ (Finset.univ : Finset T), ∀ t' ∈ (Finset.univ : Finset T), t ≠ t' → Disjoint (K t) (K t')) :
    bigSep Finset.univ (fun t => ℓ ↦[K t]{q} fs t) ⊢ (iprop(∃ g, ℓ ↦[A]{q} g) : sProp 𝕄) := by
  have e : A = Finset.univ.biUnion K := by
    ext x
    rw [hA]
    simp
  rw [e]
  refine (pointsTo_biUnion_join Finset.univ K fs f₀ h).trans ?_
  iintro ⟨%g, -, H⟩
  iexists g
  iexact H

theorem mem_half_rows (s k : ℕ) (x : S2x2x64x8x512.Idx) : x ∈ halfSet s k ↔ ∃ t : Fin 512, x ∈ rowSet s k t.val := by
  rw [halfSet_rows]
  simp

theorem mem_univ_halves (x : S2x2x64x8x512.Idx) : x ∈ (Finset.univ : Finset S2x2x64x8x512.Idx) ↔ ∃ j, x ∈ halfNo j := by
  rw [halves_univ]
  simp

/-- A half at any contents with its quarter of the packed rows' share is its 512 free rows. -/
theorem half_split (s k : ℕ) : iprop((∃ f, scPt c (halfSet s k) f) ∗ ysPt c (quarter s k) ys) ⊢ (bigSep Finset.univ (rowFree c ys s k) : sProp 𝕄) := by
  unfold rowFree
  rw [bigSep_sep', quarter_leaves]
  iintro ⟨⟨%f, H⟩, Hs⟩
  isplitl [H]
  · ihave H := (Entails.of_eq (show (scPt c (halfSet s k) f : sProp 𝕄) = bigSep Finset.univ fun t : Fin 512 => scPt c (rowSet s k t.val) f by
      rw [halfSet_rows]; exact pointsTo_biUnion _ _ (rowSet_disjoint s k))) $$ H
    have h1 (t : Fin 512) : scPt c (rowSet s k t.val) f ⊢ (iprop(∃ f, scPt c (rowSet s k t.val) f) : sProp 𝕄) := by
      iintro H; iexists f; iexact H
    have hm : bigSep Finset.univ (fun t : Fin 512 => scPt c (rowSet s k t.val) f) ⊢ (bigSep Finset.univ (fun t : Fin 512 => iprop(∃ f, scPt c (rowSet s k t.val) f)) : sProp 𝕄) :=
      BI.bigSep_mono fun t _ => h1 t
    iapply hm $$ H
  · iexact Hs

theorem half_join (s k : ℕ) : bigSep Finset.univ (rowFree c ys s k) ⊢ (iprop((∃ f, scPt c (halfSet s k) f) ∗ ysPt c (quarter s k) ys) : sProp 𝕄) := by
  unfold rowFree
  rw [bigSep_sep', quarter_leaves]
  iintro ⟨H, Hs⟩
  isplitl [H]
  · have hx : bigSep Finset.univ (fun t : Fin 512 => iprop(∃ f, scPt c (rowSet s k t.val) f))
        ⊢ (iprop(∃ fs : Fin 512 → S2x2x64x8x512.Idx → Elt F .i32, bigSep Finset.univ fun t : Fin 512 => scPt c (rowSet s k t.val) (fs t)) : sProp 𝕄) :=
      BI.bigSep_exists_pi (Y := fun _ : Fin 512 => S2x2x64x8x512.Idx → Elt F .i32) Finset.univ fun t f => scPt c (rowSet s k t.val) f
    ihave H := hx $$ H
    icases H with ⟨%fs, H⟩
    have hj : bigSep Finset.univ (fun t : Fin 512 => scPt c (rowSet s k t.val) (fs t)) ⊢ (iprop(∃ f, scPt c (halfSet s k) f) : sProp 𝕄) := by
      exact join_at (ℓ := (c : Thread nD τ).loc cc0_scratch0) (fun t : Fin 512 => rowSet s k t.val) (halfSet s k) (mem_half_rows s k) fs (fs 0) (rowSet_disjoint s k)
    iapply hj $$ H
  · iexact Hs

/-- Four halves with nothing in flight. -/
def allFree : sProp 𝕄 := iprop(freeH c ys 0 0 ∗ freeH c ys 0 1 ∗ freeH c ys 1 0 ∗ freeH c ys 1 1)

/-- The scratch at any contents, the packed rows whole, the four cells at zero. -/
def apart : sProp 𝕄 :=
  iprop((∃ f, scPt c Finset.univ f) ∗ ysPt c fullShare ys
    ∗ semVal ((c : Thread nD τ), .dma 13) 0 ∗ semVal ((c : Thread nD τ), .dma 14) 0 ∗ semVal ((c : Thread nD τ), .dma 15) 0
    ∗ semVal ((c : Thread nD τ), .dma 16) 0)

theorem apart_free : apart c ys ⊢ (allFree c ys : sProp 𝕄) := by
  unfold apart allFree freeH
  rw [quarters]
  iintro ⟨⟨%f, H⟩, ⟨⟨Y0, Y1⟩, ⟨Y2, Y3⟩⟩, S0, S1, S2, S3⟩
  ihave H := (Entails.of_eq (show (scPt c Finset.univ f : sProp 𝕄)
      = iprop(scPt c (halfSet 0 0) f ∗ scPt c (halfSet 0 1) f ∗ scPt c (halfSet 1 0) f ∗ scPt c (halfSet 1 1) f) by
    unfold scPt
    rw [halves_univ, pointsTo_biUnion _ _ halves_disjoint, BI.bigSep_eq_bigSepL_of_eq [0, 1, 2, 3] (by decide) (by decide)]
    rfl)) $$ H
  icases H with ⟨H0, H1, H2, H3⟩
  isplitl [S0 H0 Y0]
  · isplitl [S0]; · iexact S0
    iapply (half_split c ys 0 0)
    isplitl [H0]; · iexists f; iexact H0
    iexact Y0
  isplitl [S1 H1 Y1]
  · isplitl [S1]; · iexact S1
    iapply (half_split c ys 0 1)
    isplitl [H1]; · iexists f; iexact H1
    iexact Y1
  isplitl [S2 H2 Y2]
  · isplitl [S2]; · iexact S2
    iapply (half_split c ys 1 0)
    isplitl [H2]; · iexists f; iexact H2
    iexact Y2
  · isplitl [S3]; · iexact S3
    iapply (half_split c ys 1 1)
    isplitl [H3]; · iexists f; iexact H3
    iexact Y3

theorem free_apart : allFree c ys ⊢ (apart c ys : sProp 𝕄) := by
  unfold apart allFree freeH
  rw [quarters]
  iintro ⟨⟨S0, R0⟩, ⟨S1, R1⟩, ⟨S2, R2⟩, ⟨S3, R3⟩⟩
  ihave X0 := (half_join c ys 0 0) $$ R0
  ihave X1 := (half_join c ys 0 1) $$ R1
  ihave X2 := (half_join c ys 1 0) $$ R2
  ihave X3 := (half_join c ys 1 1) $$ R3
  icases X0 with ⟨⟨%f0, H0⟩, Y0⟩
  icases X1 with ⟨⟨%f1, H1⟩, Y1⟩
  icases X2 with ⟨⟨%f2, H2⟩, Y2⟩
  icases X3 with ⟨⟨%f3, H3⟩, Y3⟩
  isplitl [H0 H1 H2 H3]
  · have hj : iprop(scPt c (halfSet 0 0) f0 ∗ scPt c (halfSet 0 1) f1 ∗ scPt c (halfSet 1 0) f2 ∗ scPt c (halfSet 1 1) f3)
        ⊢ (iprop(∃ f, scPt c Finset.univ f) : sProp 𝕄) := by
      have e : (iprop(scPt c (halfSet 0 0) f0 ∗ scPt c (halfSet 0 1) f1 ∗ scPt c (halfSet 1 0) f2 ∗ scPt c (halfSet 1 1) f3) : sProp 𝕄)
          = bigSep Finset.univ fun j : Fin 4 => scPt c (halfNo j) ((![f0, f1, f2, f3] : Fin 4 → S2x2x64x8x512.Idx → Elt F .i32) j) := by
        rw [BI.bigSep_eq_bigSepL_of_eq [0, 1, 2, 3] (by decide) (by decide)]
        rfl
      rw [e]
      exact join_at (ℓ := (c : Thread nD τ).loc cc0_scratch0) halfNo Finset.univ mem_univ_halves _ f0 halves_disjoint
    iapply hj
    isplitl [H0]; · iexact H0
    isplitl [H1]; · iexact H1
    isplitl [H2]; · iexact H2
    iexact H3
  isplitl [Y0 Y1 Y2 Y3]
  · isplitl [Y0 Y1]
    · isplitl [Y0]; · iexact Y0
      iexact Y1
    · isplitl [Y2]; · iexact Y2
      iexact Y3
  isplitl [S0]; · iexact S0
  isplitl [S1]; · iexact S1
  isplitl [S2]; · iexact S2
  iexact S3

theorem ring_zero (pos : ℕ → Fin 2 → ℕ → BitVec 32) : ring c ys pos 0 = (allFree c ys : sProp 𝕄) := rfl
theorem ring_last (pos : ℕ → Fin 2 → ℕ → BitVec 32) : ring c ys pos 32 = (allFree c ys : sProp 𝕄) := rfl

end Cert.Combine

end
-- ==== Proof.Run.lean ====
/-
  The combine call's run: at every grid point its input blocks stay, its output block is computed from the packed rows
  that the tile's position words name, and after the last point nothing is in flight.
-/
module

public import proofs.«01_k».proof.Proof.Ends
public import proofs.«01_k».proof.Proof.Gen.KernelIdeal.Frame

@[expose] public section

set_option maxRecDepth 16384

noncomputable section

namespace Cert.Combine

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The position words -/

/-- Where the positions' 64 by 512 layout keeps word `j` of tile `n` for expert `k`. -/
def posIx (n : ℕ) (k : Fin 2) (j : ℕ) : S64x1x512.Idx := fun a => match a with
  | 0 => ⟨(32 * k.val + n) % 64, Nat.mod_lt _ (by decide)⟩
  | 1 => ⟨0, by decide⟩
  | 2 => ⟨j % 512, Nat.mod_lt _ (by decide)⟩

def posAt (n : ℕ) (k : Fin 2) (j : ℕ) : BitVec 32 := (V m c main_v0 : S64x1x512.Idx → Elt F .i32) (posIx n k j)

abbrev ysOf : S36864x512.Idx → Elt F .i32 := V m c main_arg3

theorem coord_val : ∀ t : Fin grid0.N, (grid0.coords t 0).val = t.val := by decide +kernel

theorem tr0_eq : ∀ i : grid0.Coords, cc0_transform_0 i = ![0, 0, 0] := by decide +kernel
theorem tr1_eq : ∀ i : grid0.Coords, cc0_transform_1 i = ![32, 0, 0] := by decide +kernel
theorem tr2_eq : ∀ i : grid0.Coords, cc0_transform_2 i = ![min ((i 0).val + 1) 31, 0, 0] := by decide +kernel
theorem tr3_eq : ∀ i : grid0.Coords, cc0_transform_3 i = ![32 + min ((i 0).val + 1) 31, 0, 0] := by decide +kernel

theorem read_pos0 (t : Fin cfg0.N) (j : ℕ) : (iblk m c 0 t : S1x1x512.Idx → Elt F .i32) (wIx j) = posAt m c (0) 0 j := by
  unfold iblk posAt
  refine (View.read_apply _ _).trans ?_
  refine (cast_eq _ _).trans ?_
  refine congrArg (V m c main_v0 : S64x1x512.Idx → Elt F .i32) ?_
  have h := tr0_eq (grid0.coords t)
  have hlt : (grid0.coords t 0).val < 32 := (grid0.coords t 0).isLt
  funext a
  apply Fin.ext
  match a with
  | 0 =>
    change cc0_transform_0 (grid0.coords t) 0 * 1 + 1 * 0 = (32 * 0 + (0)) % 64
    rw [h]
    simp
    try omega
  | 1 =>
    change cc0_transform_0 (grid0.coords t) 1 * 1 + 1 * 0 = 0
    rw [h]
    simp
  | 2 =>
    change cc0_transform_0 (grid0.coords t) 2 * 512 + 1 * (j % 512) = j % 512
    rw [h]
    simp
theorem read_pos1 (t : Fin cfg0.N) (j : ℕ) : (iblk m c 1 t : S1x1x512.Idx → Elt F .i32) (wIx j) = posAt m c (0) 1 j := by
  unfold iblk posAt
  refine (View.read_apply _ _).trans ?_
  refine (cast_eq _ _).trans ?_
  refine congrArg (V m c main_v0 : S64x1x512.Idx → Elt F .i32) ?_
  have h := tr1_eq (grid0.coords t)
  have hlt : (grid0.coords t 0).val < 32 := (grid0.coords t 0).isLt
  funext a
  apply Fin.ext
  match a with
  | 0 =>
    change cc0_transform_1 (grid0.coords t) 0 * 1 + 1 * 0 = (32 * 1 + (0)) % 64
    rw [h]
    simp
    try omega
  | 1 =>
    change cc0_transform_1 (grid0.coords t) 1 * 1 + 1 * 0 = 0
    rw [h]
    simp
  | 2 =>
    change cc0_transform_1 (grid0.coords t) 2 * 512 + 1 * (j % 512) = j % 512
    rw [h]
    simp
theorem read_pos2 (t : Fin cfg0.N) (j : ℕ) : (iblk m c 2 t : S1x1x512.Idx → Elt F .i32) (wIx j) = posAt m c (min ((grid0.coords t 0).val + 1) 31) 0 j := by
  unfold iblk posAt
  refine (View.read_apply _ _).trans ?_
  refine (cast_eq _ _).trans ?_
  refine congrArg (V m c main_v0 : S64x1x512.Idx → Elt F .i32) ?_
  have h := tr2_eq (grid0.coords t)
  have hlt : (grid0.coords t 0).val < 32 := (grid0.coords t 0).isLt
  funext a
  apply Fin.ext
  match a with
  | 0 =>
    change cc0_transform_2 (grid0.coords t) 0 * 1 + 1 * 0 = (32 * 0 + (min ((grid0.coords t 0).val + 1) 31)) % 64
    rw [h]
    simp
    try omega
  | 1 =>
    change cc0_transform_2 (grid0.coords t) 1 * 1 + 1 * 0 = 0
    rw [h]
    simp
  | 2 =>
    change cc0_transform_2 (grid0.coords t) 2 * 512 + 1 * (j % 512) = j % 512
    rw [h]
    simp
theorem read_pos3 (t : Fin cfg0.N) (j : ℕ) : (iblk m c 3 t : S1x1x512.Idx → Elt F .i32) (wIx j) = posAt m c (min ((grid0.coords t 0).val + 1) 31) 1 j := by
  unfold iblk posAt
  refine (View.read_apply _ _).trans ?_
  refine (cast_eq _ _).trans ?_
  refine congrArg (V m c main_v0 : S64x1x512.Idx → Elt F .i32) ?_
  have h := tr3_eq (grid0.coords t)
  have hlt : (grid0.coords t 0).val < 32 := (grid0.coords t 0).isLt
  funext a
  apply Fin.ext
  match a with
  | 0 =>
    change cc0_transform_3 (grid0.coords t) 0 * 1 + 1 * 0 = (32 * 1 + (min ((grid0.coords t 0).val + 1) 31)) % 64
    rw [h]
    simp
    try omega
  | 1 =>
    change cc0_transform_3 (grid0.coords t) 1 * 1 + 1 * 0 = 0
    rw [h]
    simp
  | 2 =>
    change cc0_transform_3 (grid0.coords t) 2 * 512 + 1 * (j % 512) = j % 512
    rw [h]
    simp

theorem pos_first (t : Fin cfg0.N) (h : (grid0.coords t 0).val = 0) :
    posAt m c 0 = pwOf (iblk m c 0 t : S1x1x512.Idx → Elt F .i32) (iblk m c 1 t : S1x1x512.Idx → Elt F .i32) := by
  funext k j
  match k with
  | 0 => exact (read_pos0 m c t j).symm
  | 1 => exact (read_pos1 m c t j).symm

theorem pos_next (t : Fin cfg0.N) (h : (grid0.coords t 0).val + 1 < 32) :
    posAt m c ((grid0.coords t 0).val + 1) = pwOf (iblk m c 2 t : S1x1x512.Idx → Elt F .i32) (iblk m c 3 t : S1x1x512.Idx → Elt F .i32) := by
  funext k j
  have e : min ((grid0.coords t 0).val + 1) 31 = (grid0.coords t 0).val + 1 := by omega
  match k with
  | 0 => exact ((read_pos2 m c t j).trans (by rw [e])).symm
  | 1 => exact ((read_pos3 m c t j).trans (by rw [e])).symm

/-- Every position names a packed row. -/
def InRange : Prop := ∀ (c : Dev nD) (x : S2x16384.Idx), ((m ((c : Thread nD τ).loc main_arg2) : S2x16384.Idx → Elt F .i32) x).toNat < 36864

theorem V_main_v0 : (V m c main_v0 : S64x1x512.Idx → Elt F .i32)
    = fun x => (m ((c : Thread nD τ).loc main_arg2) : S2x16384.Idx → Elt F .i32) (Shape.reshapeEquiv shapeCasts_S2x16384_S64x1x512 x) := by
  change (StableHlo.after hostOps0 (fun b => m (c, b)) (Proc.devRef .tc main_v0) : S64x1x512.Idx → Elt F .i32) = _
  after_results
  rfl

variable {m}

theorem pos_range (hr : InRange m) (n : ℕ) (k : Fin 2) (j : ℕ) : (posAt m c n k j).toNat < 36864 := by
  unfold posAt
  rw [V_main_v0]
  exact hr c _

variable (m)

/-! ## What the kernel's invariant and blocks are -/

/-- The output block of point `t`. -/
def outAt (t : Fin cfg0.N) : S512x1024.Idx → Elt F .f32 :=
  k0_pay1 (iblk m c 5 t : S512x128.Idx → Elt F .f32) (iblk m c 4 t : S512x1024.Idx → Elt F .f32)
    (rowsOf (ysOf m c) (posAt m c t.val) 0) (rowsOf (ysOf m c) (posAt m c t.val) 1) (iblk m c 6 t : S1x1024.Idx → Elt F .f32)

def osem0 : Fin 4 → SemLoc sig := fun j => (![SemLoc.dma 13, SemLoc.dma 14, SemLoc.dma 15, SemLoc.dma 16] : Fin 4 → SemLoc sig) j
theorem ownSemFacts0 : Pipeline.OwnSemFacts spec0 osem0 := by decide

theorem sems0_eq : (Pipeline.ownSems0 (Ix := Unit) (Name := ℕ) (U := Pipeline.UD sig nD τ) (Lvl := ℕ) (Val := Elt F) (τ := τ) osem0 c : sProp 𝕄)
    = iprop(semVal ((c : Thread nD τ), .dma 13) 0 ∗ semVal ((c : Thread nD τ), .dma 14) 0 ∗ semVal ((c : Thread nD τ), .dma 15) 0
      ∗ semVal ((c : Thread nD τ), .dma 16) 0) := by
  rw [Pipeline.ownSems0_eq_of_list c osem0 [0, 1, 2, 3] (by decide) (by decide)]; rfl

def H0 : Finset (Ref sig .tc) := {main_arg3}
theorem H0_sub : H0 ⊆ Pipeline.restRefs sig spec0 := by decide

theorem bigSep_H0 (P : Ref sig .tc → sProp 𝕄) : (bigSep H0 P : sProp 𝕄) = P main_arg3 := by
  rw [BI.bigSep_eq_bigSepL_of_eq [main_arg3] (by decide) (by decide)]; rfl

/-- Between points: the ring, and the random-number register at some state. -/
def inv (n : ℕ) : sProp 𝕄 := iprop(ring c (ysOf m c) (posAt m c) n ∗ ∃ r, prngReg c r)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t
  Φ t := inv m c t.val
  q w := Pipeline.shareOf spec0 w
  owed _ := 0

theorem A_eq (c : Dev nD) (w : Fin 8) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = iblk m c 6 t := by dsimp only [dats]
theorem after0_7 (t : Fin cfg0.N) : (dats m 0 c).after 7 t = outAt m c t := by dsimp only [dats]

theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

def bodyPre (t : Fin cfg0.N) : sProp 𝕄 :=
  iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d)))
def bodyPost (t : Fin cfg0.N) : sProp 𝕄 :=
  iprop((dats m 0 c).Φ t.succ ∗ (dats m 0 c).owesAt () t.succ
      ∗ owns (c : Thread nD τ) (st0_0 t) fullShare ((dats m 0 c).after 0 t)
      ∗ owns (c : Thread nD τ) (st0_1 t) fullShare ((dats m 0 c).after 1 t)
      ∗ owns (c : Thread nD τ) (st0_2 t) fullShare ((dats m 0 c).after 2 t)
      ∗ owns (c : Thread nD τ) (st0_3 t) fullShare ((dats m 0 c).after 3 t)
      ∗ owns (c : Thread nD τ) (st0_4 t) fullShare ((dats m 0 c).after 4 t)
      ∗ owns (c : Thread nD τ) (st0_5 t) fullShare ((dats m 0 c).after 5 t)
      ∗ owns (c : Thread nD τ) (st0_6 t) fullShare ((dats m 0 c).after 6 t)
      ∗ owns (c : Thread nD τ) (st0_7 t) fullShare ((dats m 0 c).after 7 t))

theorem inv_intro (n : ℕ) : iprop(ring c (ysOf m c) (posAt m c) n ∗ ∃ r, prngReg c r) ⊢ (inv m c n : sProp 𝕄) := .rfl

theorem sound_body (hr : InRange m) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3, before0_4, before0_5, before0_6]
  rw [after0_0, after0_1, after0_2, after0_3, after0_4, after0_5, after0_6, after0_7]
  rw [show (dats m 0 c).Φ t.castSucc = inv m c t.val from rfl, show (dats m 0 c).Φ t.succ = inv m c (t.val + 1) from rfl]
  have hc := coord_val t
  unfold inv outAt
  unfold Dat.owesAt Pipeline.owesWithin
  rw [show (dats m 0 c).owed t.castSucc = 0 from rfl, show (dats m 0 c).owed t.succ = 0 from rfl]
  iintro ⟨⟨HR, HP⟩, ⟨%W, -, HW⟩, ⟨%d0, B0⟩, ⟨%d1, B1⟩, ⟨%d2, B2⟩, ⟨%d3, B3⟩, ⟨%d4, B4⟩, ⟨%d5, B5⟩, ⟨%d6, B6⟩, ⟨%d7, B7⟩⟩
  have key := fun Q => body_run (Q := Q) c (ysOf m c) (posAt m c) (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7))
    (iblk m c 0 t) (iblk m c 1 t) (iblk m c 2 t) (iblk m c 3 t) (iblk m c 4 t) ((dats m 0 c).before 7 t d7) (iblk m c 5 t) (iblk m c 6 t)
    (pos_first m c t) (pos_next m c t) (pos_range c hr) W
  rw [hc] at key
  iapply (key _) $$ [HR HW B0 B1 B2 B3 B4 B5 B6 B7]
  · isplitl [HR]; · iexact HR
    isplitl [HW]; · iexact HW
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  iintro ⟨HR, ⟨%W', HW'⟩, B0, B1, B2, B3, B4, B5, B6, B7⟩
  isplitl [HR HP]
  · isplitl [HR]; · iexact HR
    iexact HP
  isplitl [HW']
  · iexists W'
    isplitr
    · ipureintro; exact fun _ _ => Or.inl trivial
    iexact HW'
  isplitl [B0]; · iexact B0
  isplitl [B1]; · iexact B1
  isplitl [B2]; · iexact B2
  isplitl [B3]; · iexact B3
  isplitl [B4]; · iexact B4
  isplitl [B5]; · iexact B5
  isplitl [B6]; · iexact B6
  iexact B7

theorem defs₀_row (t : Fin cfg0.N) : defs₀ (F := F) .tc cfg0.body (cfg0.bodyArgs t (cfg0.slots t)) = bodyAt0 t := by
  unfold defs₀; rw [Defs.onTc_tc]

theorem body_obligation (hr : InRange m) (c : Dev nD) : BodyObligation (dats m 0 c) defs₀ Variants.none () Set.univ := fun t => by
  rw [bigSep_W0, bigSep_W0, defs₀_row]
  exact triple_restated (sound_body m c hr t) rfl .rfl fun _ => .rfl

/-! ## The run -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem start (c : Dev nD) : Pipeline.ΦD (Val := Elt F) osem0 spec0 H0 (V m) c ⊢ ((dats m 0 c).Φ 0 : sProp 𝕄) := by
  rw [Pipeline.ΦD_eq, scopedRest0_eq, sems0_eq, bigSep_H0]
  rw [show (dats m 0 c).Φ 0 = inv m c 0 from rfl]
  unfold inv
  rw [ring_zero]
  iintro ⟨⟨%f, Hf⟩, HP, ⟨S0, S1, S2, S3⟩, HY⟩
  isplitr [HP]
  · iapply (apart_free c (ysOf m c))
    unfold apart
    isplitl [Hf]; · iexists f; iexact Hf
    isplitl [HY]; · iexact HY
    isplitl [S0]; · iexact S0
    isplitl [S1]; · iexact S1
    isplitl [S2]; · iexact S2
    iexact S3
  · iexact HP

theorem finish (c : Dev nD) : ((dats m 0 c).Φ (Fin.last grid0.N) : sProp 𝕄) ⊢ Pipeline.ΦD (Val := Elt F) osem0 spec0 H0 (V m) c := by
  rw [Pipeline.ΦD_eq, scopedRest0_eq, sems0_eq, bigSep_H0]
  rw [show (dats m 0 c).Φ (Fin.last grid0.N) = inv m c 32 from congrArg (inv m c) N_0]
  unfold inv
  rw [ring_last]
  iintro ⟨HR, HP⟩
  ihave HA := (free_apart c (ysOf m c)) $$ HR
  unfold apart
  icases HA with ⟨⟨%f, Hf⟩, HY, S0, S1, S2, S3⟩
  isplitl [Hf]; · iexists f; iexact Hf
  isplitl [HP]; · iexact HP
  isplitr [HY]
  · isplitl [S0]; · iexact S0
    isplitl [S1]; · iexact S1
    isplitl [S2]; · iexact S2
    iexact S3
  iexact HY

set_option backward.isDefEq.respectTransparency.types false in
/-- The whole program runs: every window's array ends at its blocks, every other buffer as it was at the call, every
    semaphore at zero. -/
theorem run_main (hr : InRange m) : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem0 defs₀ Variants.none ownSemFacts0 H0 H0_sub m ρ main
    (hbody := fun c => (body_obligation m hr c).loose) (hq := fun _ _ _ => rfl)
    (howed := fun _ _ => rfl) (V := V m) (hmain := hmain m Variants.none) (hA := A_eq m)
    (hin := start m) (hout := finish m)

/-- The frame: the program terminates, nothing faults, the five arguments are unchanged, every semaphore ends at zero. -/
theorem frame_run (hr : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 4).trans (((dats m 0 c).arrAt_in 4 rfl _).trans ((A_eq m c 4).trans (V_main_arg0 m c))),
      ((h.1 c).1 5).trans (((dats m 0 c).arrAt_in 5 rfl _).trans ((A_eq m c 5).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ hr)

end Cert.Combine

end
-- ==== Proof.Words.lean ====
/-
  The precondition read back: every position word names a packed row.
-/
module

public import proofs.«01_k».proof.Defs
public import proofs.«01_k».proof.Proof.Gen.Pre_positions_in_range
public import Idealize.ShloMosaic.Lib.ReduceAll

@[expose] public section

noncomputable section

namespace Cert.Combine

open Idealize.ShloMosaic

variable {F : FTy → Type} [FloatOps F]

instance : Subsingleton Cert.Pre_positions_in_range.S_.Idx := ⟨fun a b => funext fun x => x.elim0⟩

/-- If the precondition's array is all ones, every position is a row number of the packed rows. -/
theorem words_of_pre (x0 : FVec F Cert.Pre_positions_in_range.S16384x1024 .f32) (x1 : FVec F Cert.Pre_positions_in_range.S16384x128 .f32)
    (x2 : IVec Cert.Pre_positions_in_range.S2x16384 32) (x3 : IVec Cert.Pre_positions_in_range.S36864x512 32)
    (x4 : FVec F Cert.Pre_positions_in_range.S1024 .f32)
    (h : Cert.Pre_positions_in_range.fn x0 x1 x2 x3 x4 = fun _ => 1#1) (i : Cert.Pre_positions_in_range.S2x16384.Idx) :
    (x2 i).toNat < 36864 := by
  have e := congrFun h (fun a => a.elim0)
  unfold Cert.Pre_positions_in_range.fn at e
  have ha := Host.reduce_andi_all _ _ _ _ _ e i
  obtain ⟨h0, h1⟩ := IntOp.andi_eq_one.1 ha
  have h0' : (0#32 : BitVec 32).toInt ≤ (x2 i).toInt := IntOp.cmpi_sge.1 h0
  have h1' : (x2 i).toInt < (36864#32 : BitVec 32).toInt := IntOp.cmpi_slt.1 h1
  rw [show (0#32 : BitVec 32).toInt = 0 from rfl] at h0'
  rw [show (36864#32 : BitVec 32).toInt = 36864 from rfl] at h1'
  rw [BitVec.toInt_eq_toNat_cond] at h0' h1'
  have := (x2 i).isLt
  split at h0' <;> omega

end Cert.Combine

end
-- ==== Proof.Ref.lean ====
/-
  The reference's term for the combine call, read at one entry.
-/
module

public import proofs.«01_k».proof.Proof.Gen.ReferenceIdeal
public import Idealize.ShloMosaic.Lib.Pointwise
public import Idealize.ShloMosaic.Lib.BitcastConvert
public import Idealize.ShloMosaic.Lib.WordCmp
public import Idealize.ShloMosaic.Lib.Routing.Ops

@[expose] public section

set_option maxRecDepth 16384

noncomputable section

namespace Cert.CombineRef

open Cert.ReferenceIdeal Cert.ReferenceIdeal.Gen
open Idealize.ShloMosaic Idealize.ShloMosaic.TcCoe Idealize.SL.Sem

/-- The packed words as rows of 1024 numbers: the low halves first, the high halves after them. -/
def TAB (ys : IVec S36864x512 32) : FVec Ideal S36864x1024 .f32 :=
  concatenate S36864x1024 1 [⟨S36864x512, shapeCast S36864x512 (extractStridedSlice S36864x512x1 ![0, 0, 0] (extf .f32 (bitcastToFloat (F := Ideal) .bf16 (Host.bitcastConvertNarrow S36864x512x2 16 ys splits_S36864x512_w32_S36864x512x2_w16)) bitsLt_bf16_f32) slices_S36864x512x2_S36864x512x1_0_0_0) shapeCasts_S36864x512x1_S36864x512⟩, ⟨S36864x512, shapeCast S36864x512 (extractStridedSlice S36864x512x1 ![0, 0, 1] (extf .f32 (bitcastToFloat (F := Ideal) .bf16 (Host.bitcastConvertNarrow S36864x512x2 16 ys splits_S36864x512_w32_S36864x512x2_w16)) bitsLt_bf16_f32) slices_S36864x512x2_S36864x512x1_0_0_1) shapeCasts_S36864x512x1_S36864x512⟩] concatenates_S36864x512_S36864x512_S36864x1024_d1

/-- The first row of positions as row numbers, a negative one counted from the end. -/
def SEL0 (p : IVec S2x16384 32) : IVec S16384x1 32 :=
  broadcastInDim S16384x1 ![0] bcast_S16384_S16384x1_0 (select (cmpi .slt (shapeCast S16384 (extractStridedSlice S1x16384 ![0, 0] p slices_S2x16384_S1x16384_0_0) shapeCasts_S1x16384_S16384) (broadcastInDim S16384 ![] bcast_S_S16384 (constantI S_ 32 0#32))) (addi (shapeCast S16384 (extractStridedSlice S1x16384 ![0, 0] p slices_S2x16384_S1x16384_0_0) shapeCasts_S1x16384_S16384) (broadcastInDim S16384 ![] bcast_S_S16384 (constantI S_ 32 36864#32))) (shapeCast S16384 (extractStridedSlice S1x16384 ![0, 0] p slices_S2x16384_S1x16384_0_0) shapeCasts_S1x16384_S16384))

/-- The second row of positions as row numbers, a negative one counted from the end. -/
def SEL1 (p : IVec S2x16384 32) : IVec S16384x1 32 :=
  broadcastInDim S16384x1 ![0] bcast_S16384_S16384x1_0 (select (cmpi .slt (shapeCast S16384 (extractStridedSlice S1x16384 ![1, 0] p slices_S2x16384_S1x16384_1_0) shapeCasts_S1x16384_S16384) (broadcastInDim S16384 ![] bcast_S_S16384 (constantI S_ 32 0#32))) (addi (shapeCast S16384 (extractStridedSlice S1x16384 ![1, 0] p slices_S2x16384_S1x16384_1_0) shapeCasts_S1x16384_S16384) (broadcastInDim S16384 ![] bcast_S_S16384 (constantI S_ 32 36864#32))) (shapeCast S16384 (extractStridedSlice S1x16384 ![1, 0] p slices_S2x16384_S1x16384_1_0) shapeCasts_S1x16384_S16384))

/-- The residual plus the two gated rows. -/
def PRE (x : FVec Ideal S16384x1024 .f32) (g : FVec Ideal S16384x128 .f32) (p : IVec S2x16384 32) (ys : IVec S36864x512 32) :
    FVec Ideal S16384x1024 .f32 :=
  addf x (addf
    (mulf (broadcastInDim S16384x1024 ![0, 1] bcast_S16384x1_S16384x1024_0_1 (extractStridedSlice S16384x1 ![0, 0] g slices_S16384x128_S16384x1_0_0)) (Host.gather gather_S36864x1024_S16384x1_S16384x1024_1_0_n_n_0_1_11024 (TAB ys) (SEL0 p)))
    (mulf (broadcastInDim S16384x1024 ![0, 1] bcast_S16384x1_S16384x1024_0_1 (extractStridedSlice S16384x1 ![0, 1] g slices_S16384x128_S16384x1_0_1)) (Host.gather gather_S36864x1024_S16384x1_S16384x1024_1_0_n_n_0_1_11024 (TAB ys) (SEL1 p))))

/-- A table's rows over the root of their mean square, times the gains. -/
def NORM (h : FVec Ideal S16384x1024 .f32) (gf : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 gf))

/-- Number `j` of packed row `n`: numbers 0 to 511 are the words' low halves, the others their high halves. -/
def num (ys : IVec S36864x512 32) (n : ℕ) (j : ℕ) : EReal :=
  Ideal.ofBits FTy.bf16 (BitVec.extractLsb' (if j < 512 then 0 else 16) 16
    (ys (ix2 ⟨n % 36864, Nat.mod_lt _ (by decide)⟩ ⟨j % 512, Nat.mod_lt _ (by decide)⟩)))

theorem tab_at (ys : IVec S36864x512 32) (n : Fin 36864) (j : Fin 1024) :
    TAB ys (ix2 n j) = num ys n.val j.val := by
  pointwise [TAB]
  unfold num
  have hn : n.val % 36864 = n.val := Nat.mod_eq_of_lt n.isLt
  by_cases h : j.val < 512
  · rw [dif_pos h, if_pos h]
    refine congrArg (fun i => Ideal.ofBits FTy.bf16 (BitVec.extractLsb' 0 16 (ys i))) ?_
    funext a
    apply Fin.ext
    match a with
    | 0 => exact hn.symm
    | 1 => exact (Nat.mod_eq_of_lt h).symm
  · rw [dif_neg h, if_neg h]
    refine congrArg (fun i => Ideal.ofBits FTy.bf16 (BitVec.extractLsb' 16 16 (ys i))) ?_
    funext a
    apply Fin.ext
    match a with
    | 0 => exact hn.symm
    | 1 =>
      change j.val - 512 = j.val % 512
      have := j.isLt
      omega

theorem word_nonneg (w : BitVec 32) (h : w.toNat < 36864) : IntOp.cmpi .slt w 0#32 = 0#1 := by
  rw [WordCmp.cmpi_slt_zero, decide_eq_false (by omega)]
  rfl

theorem sel0_at (p : IVec S2x16384 32) (r : Fin 16384) (h : (p (ix2 0 r)).toNat < 36864) :
    SEL0 p (ix2 r 0) = p (ix2 0 r) := by
  have h' := word_nonneg _ h
  pointwise [SEL0]
  rw [h']
  rfl

theorem sel1_at (p : IVec S2x16384 32) (r : Fin 16384) (h : (p (ix2 1 r)).toNat < 36864) :
    SEL1 p (ix2 r 0) = p (ix2 1 r) := by
  have h' := word_nonneg _ h
  pointwise [SEL1]
  rw [h']
  rfl

theorem gather_at (T : FVec Ideal S36864x1024 .f32) (q : IVec S16384x1 32) (r : Fin 16384) (j : Fin 1024) (w : BitVec 32)
    (hq : q (ix2 r 0) = w) (h : w.toNat < 36864) :
    Host.gather gather_S36864x1024_S16384x1_S16384x1024_1_0_n_n_0_1_11024 T q (ix2 r j) = T (ix2 ⟨w.toNat, h⟩ j) := by
  exact Routing.gather_row gather_S36864x1024_S16384x1_S16384x1024_1_0_n_n_0_1_11024 rfl rfl rfl rfl rfl T q r j ⟨w.toNat, h⟩
    (hq.trans (by simp)) (by decide)

/-- Entry `(r, j)` of the residual plus the two gated rows that the positions name. -/
def sumAt (x : FVec Ideal S16384x1024 .f32) (g : FVec Ideal S16384x128 .f32) (p : IVec S2x16384 32) (ys : IVec S36864x512 32)
    (r : Fin 16384) (j : Fin 1024) : EReal :=
  x (ix2 r j) + (g (ix2 r 0) * num ys (p (ix2 0 r)).toNat j.val + g (ix2 r 1) * num ys (p (ix2 1 r)).toNat j.val)

theorem pre_at (x : FVec Ideal S16384x1024 .f32) (g : FVec Ideal S16384x128 .f32) (p : IVec S2x16384 32) (ys : IVec S36864x512 32)
    (hp : ∀ i, (p i).toNat < 36864) (r : Fin 16384) (j : Fin 1024) : PRE x g p ys (ix2 r j) = sumAt x g p ys r j := by
  have e0 := (gather_at (TAB ys) (SEL0 p) r j _ (sel0_at p r (hp _)) (hp _)).trans (tab_at ys _ j)
  have e1 := (gather_at (TAB ys) (SEL1 p) r j _ (sel1_at p r (hp _)) (hp _)).trans (tab_at ys _ j)
  pointwise [PRE]
  rw [e0, e1]
  rfl

/-- Entry `j` of a row over the root of its mean square, times the gain. -/
def normAt (h : Fin 1024 → EReal) (g : EReal) (j : Fin 1024) : EReal :=
  h j * Ideal.rsqrt (Ideal.div (∑ k, h k * h k) (Ideal.ofBits FTy.f32 0x44800000#32) + Ideal.ofBits FTy.f32 0x358637BD#32) * g

theorem norm_at (h : FVec Ideal S16384x1024 .f32) (gf : FVec Ideal S1024 .f32) (r : Fin 16384) (j : Fin 1024) :
    NORM h gf (ix2 r j) = normAt (fun k => h (ix2 r k)) (gf (ix1 j)) j := by
  pointwise [NORM, normAt]

end Cert.CombineRef
end
-- ==== Proof.Pay.lean ====
/-
  The combine body's arithmetic, read at one entry of a tile.
-/
module

public import proofs.«01_k».proof.Proof.Body
public import proofs.«01_k».proof.Proof.Ref

@[expose] public section

set_option maxRecDepth 16384

noncomputable section

namespace Cert.Combine

open Cert.KernelIdeal Cert.KernelIdeal.Gen
open Cert.CombineRef (num normAt)
open Idealize.ShloMosaic Idealize.ShloMosaic.TcCoe Idealize.SL.Sem

/-- The body's residual plus the two gated rows. -/
def sumT (v27 : Vec Ideal S512x128 .f32) (v28 : Vec Ideal S512x1024 .f32) (v31 : Vec Ideal S1x1x64x8x512 .i32) (v42 : Vec Ideal S1x1x64x8x512 .i32) : FVec Ideal S512x1024 .f32 :=
  have v29 : FVec Ideal S512x1 .f32 := extractStridedSlice S512x1 ![0, 0] v27 slices_S512x128_o0_0_S512x1
  have v32 : IVec S64x8x512 32 := shapeCast S64x8x512 v31 shapeCasts_S1x1x64x8x512_S64x8x512
  have v33 : IVec S512x512 32 := shapeCast S512x512 v32 shapeCasts_S64x8x512_S512x512
  have v34 : FVec Ideal S512x512 .f32 := unpackElementwise 0 v33
  have v35 : FVec Ideal S512x512 .f32 := unpackElementwise 1 v33
  have v36 : FVec Ideal S512x1024 .f32 := concatenate S512x1024 1 [⟨S512x512, v34⟩, ⟨S512x512, v35⟩] concatenates_S512x512_S512x512_S512x1024_d1
  have v37 : FVec Ideal S512x1024 .f32 := broadcastTo S512x1024 v29 broadcasts_S512x1_S512x1024
  have v38 : FVec Ideal S512x1024 .f32 := mulf v37 v36
  have v39 : FVec Ideal S512x1024 .f32 := addf v28 v38
  have v40 : FVec Ideal S512x1 .f32 := extractStridedSlice S512x1 ![0, 1] v27 slices_S512x128_o0_1_S512x1
  have v43 : IVec S64x8x512 32 := shapeCast S64x8x512 v42 shapeCasts_S1x1x64x8x512_S64x8x512
  have v44 : IVec S512x512 32 := shapeCast S512x512 v43 shapeCasts_S64x8x512_S512x512
  have v45 : FVec Ideal S512x512 .f32 := unpackElementwise 0 v44
  have v46 : FVec Ideal S512x512 .f32 := unpackElementwise 1 v44
  have v47 : FVec Ideal S512x1024 .f32 := concatenate S512x1024 1 [⟨S512x512, v45⟩, ⟨S512x512, v46⟩] concatenates_S512x512_S512x512_S512x1024_d1
  have v48 : FVec Ideal S512x1024 .f32 := broadcastTo S512x1024 v40 broadcasts_S512x1_S512x1024
  have v49 : FVec Ideal S512x1024 .f32 := mulf v48 v47
  have v50 : FVec Ideal S512x1024 .f32 := addf v39 v49
  v50

/-- The body's norm of a tile's rows. -/
def normT (v50 : FVec Ideal S512x1024 .f32) (v51 : Vec Ideal S1x1024 .f32) : FVec Ideal S512x1024 .f32 :=
  have v52 : FVec Ideal S1x1024 .f32 := shapeCast S1x1024 v51 shapeCasts_S1x1024_S1x1024
  have v53 : FVec Ideal S512x1024 .f32 := mulf v50 v50
  have v54 : FVec Ideal S512 .f32 := multiReduction .add [1] S512 v53 0x00000000#32 reduces_S512x1024_S512 (.inl rfl) rfl
  have v55 : FVec Ideal S512x1 .f32 := shapeCast S512x1 v54 shapeCasts_S512_S512x1
  have cst_35 : Ideal .f32 := Scalar.ofBits .f32 0x44800000#32
  have v56 : FVec Ideal S512x1 .f32 := broadcast S512x1 cst_35
  have v57 : FVec Ideal S512x1 .f32 := divf v55 v56
  have cst_36 : Ideal .f32 := Scalar.ofBits .f32 0x358637BD#32
  have v58 : FVec Ideal S512x1 .f32 := broadcast S512x1 cst_36
  have v59 : FVec Ideal S512x1 .f32 := addf v57 v58
  have v60 : FVec Ideal S512x1 .f32 := rsqrt v59
  have v61 : FVec Ideal S512x1024 .f32 := broadcastTo S512x1024 v60 broadcasts_S512x1_S512x1024
  have v62 : FVec Ideal S512x1024 .f32 := mulf v50 v61
  have v63 : FVec Ideal S512x1024 .f32 := broadcastTo S512x1024 v52 broadcasts_S1x1024_S512x1024
  have v64 : FVec Ideal S512x1024 .f32 := mulf v62 v63
  v64

theorem pay_eq (g : Vec Ideal S512x128 .f32) (x : Vec Ideal S512x1024 .f32) (r0 r1 : Vec Ideal S1x1x64x8x512 .i32) (gf : Vec Ideal S1x1024 .f32) :
    (k0_pay1 g x r0 r1 gf : FVec Ideal S512x1024 .f32) = normT (sumT g x r0 r1) gf := rfl

theorem normT_at (h : FVec Ideal S512x1024 .f32) (gf : Vec Ideal S1x1024 .f32) (b : Fin 512) (j : Fin 1024) :
    normT h gf (ix2 b j) = normAt (fun k => h (ix2 b k)) (gf (ix2 0 j)) j := by
  pointwise [normT, normAt]

theorem half_at (ys : S36864x512.Idx → Elt Ideal .i32) (pw : Fin 2 → ℕ → BitVec 32) (k : Fin 2) (b : Fin 512) (j : Fin 1024) (o : ℕ)
    (ho : o = if j.val < 512 then 0 else 16) (j' : Fin 512) (hj : j'.val = j.val % 512) (b0 : Fin 64) (b1 : Fin 8) (hb : 8 * b0.val + b1.val = b.val) :
    Ideal.ofBits FTy.bf16 (BitVec.extractLsb' o 16 (rowsOf (F := Ideal) ys pw k (ix5 0 0 b0 b1 j')))
      = num ys (pw k b.val).toNat j.val := by
  subst ho
  unfold num
  refine congrArg (fun w => Ideal.ofBits FTy.bf16 (BitVec.extractLsb' _ 16 w)) ?_
  change ys (ysIdx (pw k (8 * b0.val + b1.val)).toNat j') = _
  rw [hb]
  refine congrArg ys ?_
  funext a
  apply Fin.ext
  match a with
  | 0 => rfl
  | 1 => exact hj

theorem sumT_at (g : Vec Ideal S512x128 .f32) (x : Vec Ideal S512x1024 .f32) (ys : S36864x512.Idx → Elt Ideal .i32) (pw : Fin 2 → ℕ → BitVec 32)
    (b : Fin 512) (j : Fin 1024) :
    sumT g x (rowsOf ys pw 0) (rowsOf ys pw 1) (ix2 b j)
      = (x (ix2 b j) : EReal) + ((g (ix2 b 0) : EReal) * num ys (pw 0 b.val).toNat j.val + (g (ix2 b 1) : EReal) * num ys (pw 1 b.val).toNat j.val) := by
  have hb : 8 * (b.val / 8) + b.val % 8 = b.val := by omega
  have hb0 : b.val / 8 < 64 := by omega
  have hb1 : b.val % 8 < 8 := by omega
  pointwise [sumT]
  by_cases h : j.val < 512
  · rw [dif_pos h, dif_pos h]
    have e0 := half_at ys pw 0 b j 0 (by rw [if_pos h]) ⟨j.val, h⟩ (by simp; omega) ⟨b.val / 8, hb0⟩ ⟨b.val % 8, hb1⟩ hb
    have e1 := half_at ys pw 1 b j 0 (by rw [if_pos h]) ⟨j.val, h⟩ (by simp; omega) ⟨b.val / 8, hb0⟩ ⟨b.val % 8, hb1⟩ hb
    rw [e0, e1]
    exact add_assoc _ _ _
  · have hj : j.val - 512 < 512 := by omega
    rw [dif_neg h, dif_neg h]
    have e0 := half_at ys pw 0 b j 16 (by rw [if_neg h]) ⟨j.val - 512, hj⟩ (by simp; omega) ⟨b.val / 8, hb0⟩ ⟨b.val % 8, hb1⟩ hb
    have e1 := half_at ys pw 1 b j 16 (by rw [if_neg h]) ⟨j.val - 512, hj⟩ (by simp; omega) ⟨b.val / 8, hb0⟩ ⟨b.val % 8, hb1⟩ hb
    rw [e0, e1]
    exact add_assoc _ _ _

end Cert.Combine
end
-- ==== Proof.Value.lean ====
/-
  The combine call's result array is the reference's term of the arguments.
-/
module

public import proofs.«01_k».proof.Proof.Run
public import proofs.«01_k».proof.Proof.Pay
public import proofs.«01_k».proof.Proof.Gen.ReferenceIdeal.Run
public import Idealize.ShloMosaic.Lib.Pipeline.ValueKit

@[expose] public section

set_option maxRecDepth 16384

noncomputable section

namespace Cert.Combine

open Cert.KernelIdeal Cert.KernelIdeal.Gen
open Cert.CombineRef (num normAt sumAt NORM PRE)
open Idealize.ShloMosaic Idealize.ShloMosaic.TcCoe Idealize.SL.Sem
open Idealize.ShloMosaic.Pipeline

variable (m : (ℓ : Loc nD τ sig) → Buf (Elt Ideal) ℓ) (c : Dev nD)

theorem idx : ∀ t : Fin cfg0.N, win0_4.index t = ![t.val, 0] ∧ win0_5.index t = ![t.val, 0] ∧ win0_6.index t = ![0, 0]
    ∧ win0_7.index t = ![t.val, 0] ∧ t.val < 32 := (by decide +kernel : ∀ t : Fin grid0.N, _)

abbrev xOf : FVec Ideal S16384x1024 .f32 := m ((c : Thread nD τ).loc main_arg0)
abbrev gOf : FVec Ideal S16384x128 .f32 := m ((c : Thread nD τ).loc main_arg1)
abbrev pOf : IVec S2x16384 32 := m ((c : Thread nD τ).loc main_arg2)
abbrev wOf : IVec S36864x512 32 := m ((c : Thread nD τ).loc main_arg3)
abbrev fOf : FVec Ideal S1024 .f32 := m ((c : Thread nD τ).loc main_arg4)

/-- Row `b` of tile `t`, in the whole table. -/
def rowIx (t : Fin cfg0.N) (b : Fin 512) : Fin 16384 := ⟨512 * t.val + b.val, by have := (idx t).2.2.2.2; omega⟩

theorem read_x (t : Fin cfg0.N) (b : Fin 512) (j : Fin 1024) :
    (iblk m c 4 t : S512x1024.Idx → Elt Ideal .f32) (ix2 b j) = xOf m c (ix2 (rowIx t b) j) := by
  unfold rowIx
  blk_ext [iblk, V, idx t]

theorem read_g (t : Fin cfg0.N) (b : Fin 512) (j : Fin 128) :
    (iblk m c 5 t : S512x128.Idx → Elt Ideal .f32) (ix2 b j) = gOf m c (ix2 (rowIx t b) j) := by
  unfold rowIx
  blk_ext [iblk, V, idx t]

theorem read_f (t : Fin cfg0.N) (j : Fin 1024) :
    (iblk m c 6 t : S1x1024.Idx → Elt Ideal .f32) (ix2 0 j) = fOf m c (ix1 j) := by
  blk_point [iblk, V, idx t]

theorem read_p (t : Fin cfg0.N) (k : Fin 2) (b : Fin 512) : posAt m c t.val k b.val = pOf m c (ix2 k (rowIx t b)) := by
  have ht := (idx t).2.2.2.2
  have hk := k.isLt
  have hb := b.isLt
  unfold posAt
  rw [V_main_v0]
  have e : posIx t.val k b.val = ix3 (⟨32 * k.val + t.val, by omega⟩ : Fin 64) (0 : Fin 1) b := by
    funext a
    apply Fin.ext
    match a with
    | 0 => exact Nat.mod_eq_of_lt (by omega)
    | 1 => rfl
    | 2 => exact Nat.mod_eq_of_lt hb
  rw [e]
  change shapeCast S64x1x512 (pOf m c) shapeCasts_S2x16384_S64x1x512 _ = _
  pointwise
  refine congrArg (pOf m c) ((ix2_inj ..).2 ⟨rfl, Fin.ext ?_⟩)
  change (32 * k.val + t.val) % 32 * 512 + b.val = 512 * t.val + b.val
  omega

/-- Entry `(b, j)` of tile `t`'s output block is the reference's entry `(512 t + b, j)`. -/
theorem point (hr : InRange m) (t : Fin cfg0.N) (b : Fin 512) (j : Fin 1024) :
    (outAt m c t : FVec Ideal S512x1024 .f32) (ix2 b j)
      = NORM (PRE (xOf m c) (gOf m c) (pOf m c) (wOf m c)) (fOf m c) (ix2 (rowIx t b) j) := by
  have hs : ∀ k : Fin 1024, sumT (iblk m c 5 t : S512x128.Idx → Elt Ideal .f32) (iblk m c 4 t : S512x1024.Idx → Elt Ideal .f32)
      (rowsOf (ysOf m c) (posAt m c t.val) 0) (rowsOf (ysOf m c) (posAt m c t.val) 1) (ix2 b k)
      = PRE (xOf m c) (gOf m c) (pOf m c) (wOf m c) (ix2 (rowIx t b) k) := fun k => by
    rw [Cert.CombineRef.pre_at _ _ _ _ (hr c)]
    refine (sumT_at _ _ _ _ b k).trans ?_
    rw [read_p, read_p, read_x, read_g, read_g]
    rfl
  unfold outAt
  refine (congrFun (pay_eq _ _ _ _ _) _).trans ?_
  refine (normT_at _ _ b j).trans ?_
  refine Eq.trans ?_ (Cert.CombineRef.norm_at _ _ (rowIx t b) j).symm
  rw [read_f, funext hs]

/-- The kernel's result array. -/
theorem final (hr : InRange m) : (dats m 0 c).arrAt 7 cfg0.N = NORM (PRE (xOf m c) (gOf m c) (pOf m c) (wOf m c)) (fOf m c) := by
  refine (dats m 0 c).arrAt_eq_of_covers 7 _ (by decide +kernel) fun t hf y => ?_
  blk_simp
  rw [after0_7]
  have e := eq_ix2 (show S512x1024.Idx from y)
  refine ((congrArg (outAt m c t) e).trans (point m c hr t _ _)).trans (congrArg _ ?_)
  unfold rowIx
  blk_ext [idx t]

/-- The reference's result is that term of its own arguments. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v45 m c
      = NORM (PRE (m ((c : Thread Cert.ReferenceIdeal.nD Cert.ReferenceIdeal.τ).loc Cert.ReferenceIdeal.main_arg0)) (m ((c : Thread Cert.ReferenceIdeal.nD Cert.ReferenceIdeal.τ).loc Cert.ReferenceIdeal.main_arg1))
        (m ((c : Thread Cert.ReferenceIdeal.nD Cert.ReferenceIdeal.τ).loc Cert.ReferenceIdeal.main_arg2)) (m ((c : Thread Cert.ReferenceIdeal.nD Cert.ReferenceIdeal.τ).loc Cert.ReferenceIdeal.main_arg3)))
        (m ((c : Thread Cert.ReferenceIdeal.nD Cert.ReferenceIdeal.τ).loc Cert.ReferenceIdeal.main_arg4)) := rfl

/-- The kernel's run: the result array is the reference's term of the arguments, the arguments unchanged. -/
theorem value_run (ρ : Dev nD → PrngReg) (hr : InRange m) : θ_run defs (onTc (τ := τ) (main (F := Ideal))) ⟨m, fun _ => 0, ρ⟩ (fun r => ∀ c : Dev nD,
      r.2.mem ((c.tc : Thread nD τ).loc main_v3) = NORM (PRE (xOf m c) (gOf m c) (pOf m c) (wOf m c)) (fOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 7).trans (final m c hr),
      ((h.1 c).1 4).trans (((dats m 0 c).arrAt_in 4 rfl _).trans ((A_eq m c 4).trans (V_main_arg0 m c))),
      ((h.1 c).1 5).trans (((dats m 0 c).arrAt_in 5 rfl _).trans ((A_eq m c 5).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ hr)

end Cert.Combine
end
-- ==== Proof.ExpBody.lean ====
/-
  One grid point of the experts call: its three cases, each storing the whole output block — all rows computed, the upper
  half of the rows computed and the others zero, or every row zero.
-/
module

public import proofs.«01_k».proof.Proof.Gen.Kernel2Ideal.Regions
public import proofs.«01_k».proof.Proof.Gen.Kernel2Ideal.Skeleton
public import proofs.«01_k».proof.Proof.Gen.Kernel2Ideal.Points
public import proofs.«01_k».proof.Proof.Gen.Kernel2Ideal.Launch
public import Idealize.ShloMosaic.Lib.WordCmp
public import Idealize.ShloMosaic.Lib.Pipeline.FrameTail
public import Idealize.ShloMosaic.Lib.Pipeline.RegionArraysTS
public import Idealize.ShloMosaic.Lib.Pipeline.RegionArraysS

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [FloatOps F]

local notation "𝕄" => MT nD τ sig Unit (Elt F) ℕ (UR sig nD τ) ℕ

/-- The elements of `X` that the rectangle `r` names. -/
abbrev cut {s : Shape} {e : EltTy} (X : s.Idx → Elt F e) (r : Rect s) : r.shape.Idx → Elt F e := fun y => X (r.emb y)

open Classical in
/-- `X` with the rectangle `r` overwritten by `w`. -/
def over {s : Shape} {e : EltTy} (X : s.Idx → Elt F e) (r : Rect s) (w : r.shape.Idx → Elt F e) : s.Idx → Elt F e :=
  fun x => if h : ∃ y, r.emb y = x then w h.choose else X x

theorem over_emb {s : Shape} {e : EltTy} (X : s.Idx → Elt F e) (r : Rect s) (w : r.shape.Idx → Elt F e) (y : r.shape.Idx) :
    over X r w (r.emb y) = w y := by
  unfold over
  have h : ∃ z, r.emb z = r.emb y := ⟨y, rfl⟩
  rw [dif_pos h]
  exact congrArg w (r.emb.injective h.choose_spec)

theorem over_off {s : Shape} {e : EltTy} (X : s.Idx → Elt F e) (r : Rect s) (w : r.shape.Idx → Elt F e) {x : s.Idx} (h : ¬ ∃ y, r.emb y = x) :
    over X r w x = X x := by
  unfold over
  rw [dif_neg h]

section Mem

variable (c : Dev nD)

theorem wp_load_cut {α : Type} {Q : α → sProp 𝕄} {cs : CoreSpace} {s : Shape} {e : EltTy} {m : Memref sig .tc cs s e} {q : PosShare TreeShare}
    {X : s.Idx → Elt F e} {r : Rect s} {hl} {kk : (r.shape.Idx → Elt F e) → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ (kk (cut X r)) Q)
      -∗ wp frame (wpE (defs₀ (F := F)) Variants.none (c : Thread nD τ) none) Set.univ (Prog.lift (.load m r.toLoadRect hl) >>= kk) Q) := by
  unfold owns
  iintro ⟨%f, %hf, H⟩ Hk
  have hr : (m.access r).read (Elt F) f = cut X r := by
    subst hf
    rfl
  iapply (wp_load_rect Variants.none (c : Thread nD τ) none Set.univ (m := m) (r := r) (q := q) (f := f)
    (S := m.view.set) (View.set_slice_subset _ _)) $$ H
  iintro H
  rw [hr]
  iapply Hk
  iexists f
  isplitr; · ipureintro; exact hf
  iexact H

theorem wp_load_own {α : Type} {Q : α → sProp 𝕄} {cs : CoreSpace} {s : Shape} {e : EltTy} {m : Memref sig .tc cs s e} {q : PosShare TreeShare}
    {X : s.Idx → Elt F e} {off : Fin s.rank → ℕ} {h} (hoff : off = fun _ => 0) {hl}
    {kk : (s.Idx → Elt F e) → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ (kk X) Q)
      -∗ wp frame (wpE (defs₀ (F := F)) Variants.none (c : Thread nD τ) none) Set.univ
          (Prog.lift (.load m (Rect.unit (s := s) off s.size h).toLoadRect hl) >>= kk) Q) := by
  subst hoff
  have e : (cut X (Rect.unit (s := s) (fun _ => 0) s.size h) : s.Idx → Elt F e) = X := funext fun y => congrArg X (Rect.emb_whole_apply s y)
  have := wp_load_cut (Q := Q) c (m := m) (q := q) (X := X) (r := Rect.unit (s := s) (fun _ => 0) s.size h) (hl := hl) (kk := kk)
  rw [e] at this
  exact this

theorem wp_store_cut {α : Type} {Q : α → sProp 𝕄} {cs : CoreSpace} {s : Shape} {e : EltTy} {m : Memref sig .tc cs s e}
    {X : s.Idx → Elt F e} {r : Rect s} (w : r.shape.Idx → Elt F e) {hl hm}
    {kk : PUnit → Prog (TpuEff nD τ sig (Elt F) Λ₀ .tc) α} :
    (owns (c : Thread nD τ) m fullShare X : sProp 𝕄) ⊢ iprop((owns (c : Thread nD τ) m fullShare (over X r w) -∗ wp frame (wpE (defs₀ (F := F)) Variants.none (c : Thread nD τ) none) Set.univ (kk ⟨⟩) Q)
      -∗ wp frame (wpE (defs₀ (F := F)) Variants.none (c : Thread nD τ) none) Set.univ (Prog.lift (.store m r w Finset.univ hl hm) >>= kk) Q) := by
  unfold owns
  iintro ⟨%f, %hf, H⟩ Hk
  iapply (wp_store Variants.none (c : Thread nD τ) none Set.univ (m := m) (r := r) (w := w) (Mk := Finset.univ) (f := f)
    (S := m.view.set) (View.set_slice_subset _ _)) $$ H
  iintro H
  iapply Hk
  iexists _
  isplitr
  swap
  · iexact H
  · ipureintro
    funext x
    by_cases h : ∃ y, r.emb y = x
    · obtain ⟨y, rfl⟩ := h
      rw [over_emb]
      exact View.read_slice_write_emb (v := m.view) r f w (Finset.mem_univ y)
    · rw [over_off _ _ _ h, ← hf]
      refine View.read_slice_write_of_not_mem (v := m.view) r f w Finset.univ fun hx => h ?_
      obtain ⟨y, -, hy⟩ := Finset.mem_map.mp hx
      exact ⟨y, hy⟩

theorem wp_store_own {α : Type} {Q : α → sProp 𝕄} {cs : CoreSpace} {s : Shape} {e : EltTy} {m : Memref sig .tc cs s e}
    {X : s.Idx → Elt F e} (w : s.Idx → Elt F e) {off : Fin s.rank → ℕ} {h} (hoff : off = fun _ => 0) {hl hm}
    {kk : PUnit → Prog (TpuEff nD τ sig (Elt F) Λ₀ .tc) α} :
    (owns (c : Thread nD τ) m fullShare X : sProp 𝕄) ⊢ iprop((owns (c : Thread nD τ) m fullShare w -∗ wp frame (wpE (defs₀ (F := F)) Variants.none (c : Thread nD τ) none) Set.univ (kk ⟨⟩) Q)
      -∗ wp frame (wpE (defs₀ (F := F)) Variants.none (c : Thread nD τ) none) Set.univ
          (Prog.lift (.store m (Rect.unit (s := s) off s.size h) w Finset.univ hl hm) >>= kk) Q) := by
  subst hoff
  have e : over X (Rect.unit (s := s) (fun _ => 0) s.size h) w = w := funext fun x =>
    (congrArg _ (Rect.emb_whole_apply s x).symm).trans (over_emb X (Rect.unit (s := s) (fun _ => 0) s.size h) w x)
  have := wp_store_cut (Q := Q) c (m := m) (X := X) (r := Rect.unit (s := s) (fun _ => 0) s.size h) w (hl := hl) (hm := hm) (kk := kk)
  rw [e] at this
  exact this

/-- The word a scalar load reads: the table's element under the rectangle's first index. -/
theorem wp_word {α : Type} {Q : α → sProp 𝕄} {s : Shape} {e : EltTy} {m : Memref sig .tc .smem s e} {q : PosShare TreeShare}
    {X : s.Idx → Elt F e} {r : Rect s} {h1 : r.shape.numel = 1} {hp : e.packing = 1} {kk : Elt F e → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ
          (kk (X (r.emb (Shape.Idx.first (h1.symm ▸ Nat.one_pos))))) Q)
      -∗ wp frame (wpE (defs₀ (F := F)) Variants.none (c : Thread nD τ) none) Set.univ (smemLoad m r h1 hp >>= kk) Q) := by
  unfold smemLoad smemLoadElt
  unfold owns
  iintro ⟨%f, %hf, H⟩ Hk
  iapply (wp_load_rect Variants.none (c : Thread nD τ) none Set.univ (m := m) (r := r) (q := q) (f := f)
    (S := m.view.set) (View.set_slice_subset _ _)) $$ H
  iintro H
  rw [show (m.access r).read (Elt F) f = cut X r from by subst hf; rfl]
  iapply Hk
  iexists f
  isplitr; · ipureintro; exact hf
  iexact H

end Mem

/-! ## The parts' rectangles -/

abbrev rc0 : Rect S1x1024x3584 := Rect.unit (s := S1x1024x3584) ![0, 0, 0] S1x1024x512.size inb_S1x1024x3584_S1x1024x512_0_0_0
abbrev rr0 : Rect S1x3584x1024 := Rect.unit (s := S1x3584x1024) ![0, 0, 0] S1x512x1024.size inb_S1x3584x1024_S1x512x1024_0_0_0
abbrev rc1 : Rect S1x1024x3584 := Rect.unit (s := S1x1024x3584) ![0, 0, 512] S1x1024x512.size inb_S1x1024x3584_S1x1024x512_0_0_512
abbrev rr1 : Rect S1x3584x1024 := Rect.unit (s := S1x3584x1024) ![0, 512, 0] S1x512x1024.size inb_S1x3584x1024_S1x512x1024_0_512_0
abbrev rc2 : Rect S1x1024x3584 := Rect.unit (s := S1x1024x3584) ![0, 0, 1024] S1x1024x512.size inb_S1x1024x3584_S1x1024x512_0_0_1024
abbrev rr2 : Rect S1x3584x1024 := Rect.unit (s := S1x3584x1024) ![0, 1024, 0] S1x512x1024.size inb_S1x3584x1024_S1x512x1024_0_1024_0
abbrev rc3 : Rect S1x1024x3584 := Rect.unit (s := S1x1024x3584) ![0, 0, 1536] S1x1024x512.size inb_S1x1024x3584_S1x1024x512_0_0_1536
abbrev rr3 : Rect S1x3584x1024 := Rect.unit (s := S1x3584x1024) ![0, 1536, 0] S1x512x1024.size inb_S1x3584x1024_S1x512x1024_0_1536_0
abbrev rc4 : Rect S1x1024x3584 := Rect.unit (s := S1x1024x3584) ![0, 0, 2048] S1x1024x512.size inb_S1x1024x3584_S1x1024x512_0_0_2048
abbrev rr4 : Rect S1x3584x1024 := Rect.unit (s := S1x3584x1024) ![0, 2048, 0] S1x512x1024.size inb_S1x3584x1024_S1x512x1024_0_2048_0
abbrev rc5 : Rect S1x1024x3584 := Rect.unit (s := S1x1024x3584) ![0, 0, 2560] S1x1024x512.size inb_S1x1024x3584_S1x1024x512_0_0_2560
abbrev rr5 : Rect S1x3584x1024 := Rect.unit (s := S1x3584x1024) ![0, 2560, 0] S1x512x1024.size inb_S1x3584x1024_S1x512x1024_0_2560_0
abbrev rc6 : Rect S1x1024x3584 := Rect.unit (s := S1x1024x3584) ![0, 0, 3072] S1x1024x512.size inb_S1x1024x3584_S1x1024x512_0_0_3072
abbrev rr6 : Rect S1x3584x1024 := Rect.unit (s := S1x3584x1024) ![0, 3072, 0] S1x512x1024.size inb_S1x3584x1024_S1x512x1024_0_3072_0
abbrev rX : Rect S512x1024 := Rect.unit (s := S512x1024) ![0, 0] S256x1024.size inb_S512x1024_S256x1024_0_0
abbrev rU : Rect S512x2x512 := Rect.unit (s := S512x2x512) ![0, 0, 0] S256x2x512.size inb_S512x2x512_S256x2x512_0_0_0
abbrev rL : Rect S512x2x512 := Rect.unit (s := S512x2x512) ![256, 0, 0] S256x2x512.size inb_S512x2x512_S256x2x512_256_0_0

/-! ## What each part computes -/

section Values

variable (X : S512x1024.Idx → Elt F .f32) (G : S1x1024.Idx → Elt F .f32) (A B : S1x1024x3584.Idx → Elt F .bf16) (D : S1x3584x1024.Idx → Elt F .bf16)

def bh : FVec F S512x1024 .bf16 := k0_pay3 X G
def ba1 : FVec F S512x1024 .f32 := k0_pay4 X G (cut A rc0) (cut B rc0) (cut D rr0)
def ba2 : FVec F S512x1024 .f32 := k0_pay5 (bh X G) (ba1 X G A B D) (cut A rc1) (cut B rc1) (cut D rr1)
def bu2 : FVec F S512x512 .f32 := k0_pay6 (bh X G) (cut B rc2)
def bg2 : FVec F S512x512 .f32 := k0_pay7 (bh X G) (cut A rc2)
def ba4 : FVec F S512x1024 .f32 := k0_pay8 (bh X G) (ba2 X G A B D) (bu2 X G B) (bg2 X G A) (cut D rr2) (cut A rc3) (cut B rc3) (cut D rr3)
def bg4 : FVec F S512x512 .f32 := k0_pay9 (bh X G) (cut A rc4)
def bu4 : FVec F S512x512 .f32 := k0_pay10 (bh X G) (cut B rc4)
def ba6 : FVec F S512x1024 .f32 := k0_pay11 (bh X G) (ba4 X G A B D) (bg4 X G A) (bu4 X G B) (Scalar.ofBits .f32 0x00000000#32) (cut D rr4) (cut A rc5) (cut B rc5) (cut D rr5)
def bw6 : FVec F S1024x512 .bf16 := k0_pay12 (cut A rc6)
def bout : S512x2x512.Idx → Elt F .bf16 := k0_pay1 (bh X G) (ba6 X G A B D) (bw6 A) (cut B rc6) (cut D rr6)

def sh : FVec F S256x1024 .bf16 := k0_pay13 (cut X rX) G
def sa1 : FVec F S256x1024 .f32 := k0_pay14 (cut X rX) G (cut A rc0) (cut B rc0) (cut D rr0)
def sa2 : FVec F S256x1024 .f32 := k0_pay15 (sh X G) (sa1 X G A B D) (cut A rc1) (cut B rc1) (cut D rr1)
def su2 : FVec F S256x512 .f32 := k0_pay16 (sh X G) (cut B rc2)
def sg2 : FVec F S256x512 .f32 := k0_pay17 (sh X G) (cut A rc2)
def sa4 : FVec F S256x1024 .f32 := k0_pay18 (sh X G) (sa2 X G A B D) (su2 X G B) (sg2 X G A) (cut D rr2) (cut A rc3) (cut B rc3) (cut D rr3)
def sg4 : FVec F S256x512 .f32 := k0_pay19 (sh X G) (cut A rc4)
def su4 : FVec F S256x512 .f32 := k0_pay20 (sh X G) (cut B rc4)
def sa6 : FVec F S256x1024 .f32 := k0_pay21 (sh X G) (sa4 X G A B D) (sg4 X G A) (su4 X G B) (Scalar.ofBits .f32 0x00000000#32) (cut D rr4) (cut A rc5) (cut B rc5) (cut D rr5)
def sw6 : FVec F S1024x512 .bf16 := k0_pay22 (cut A rc6)
def sout : S256x2x512.Idx → Elt F .bf16 := k0_pay2 (sh X G) (sa6 X G A B D) (sw6 A) (cut B rc6) (cut D rr6)

/-- The block of a tile whose lower rows are all empty: the upper rows computed, the others zero. -/
def halfOut : S512x2x512.Idx → Elt F .bf16 := over (over (fun _ => Scalar.ofBits .bf16 0x0000#16) rU (sout X G A B D)) rL (constant S256x2x512 .bf16 0x0000#16)

/-- The block of an unused tile. -/
def zeroOut : S512x2x512.Idx → Elt F .bf16 := (constant S512x2x512 .bf16 0x0000#16)

/-- The block of a tile: by the count of used tiles and the tile's count of rows. -/
def outBlk (i : grid0.Coords) (v0 v3 : BitVec 32) : S512x2x512.Idx → Elt F .bf16 :=
  if k0_cond1 i v0 v3 = 1#1 then bout X G A B D else if k0_cond2 i v0 v3 = 1#1 then halfOut X G A B D else zeroOut

end Values

theorem cover_half (x : S512x2x512.Idx) : (∃ y, rU.emb y = x) ∨ ∃ y, rL.emb y = x := by
  have hx : (x 0).val < 512 := (x 0).isLt
  by_cases h : (x 0).val < 256
  · refine Or.inl ⟨fun a => match a with
      | 0 => ⟨(x 0).val, h⟩
      | 1 => ⟨(x 1).val, (x 1).isLt⟩
      | 2 => ⟨(x 2).val, (x 2).isLt⟩, ?_⟩
    funext a
    apply Fin.ext
    match a with
    | 0 => exact (by omega : 0 + 1 * (x 0).val = (x 0).val)
    | 1 => exact (by omega : 0 + 1 * (x 1).val = (x 1).val)
    | 2 => exact (by omega : 0 + 1 * (x 2).val = (x 2).val)
  · refine Or.inr ⟨fun a => match a with
      | 0 => ⟨(x 0).val - 256, (by omega : (x 0).val - 256 < 256)⟩
      | 1 => ⟨(x 1).val, (x 1).isLt⟩
      | 2 => ⟨(x 2).val, (x 2).isLt⟩, ?_⟩
    funext a
    apply Fin.ext
    match a with
    | 0 => exact (by omega : 256 + 1 * ((x 0).val - 256) = (x 0).val)
    | 1 => exact (by omega : 0 + 1 * (x 1).val = (x 1).val)
    | 2 => exact (by omega : 0 + 1 * (x 2).val = (x 2).val)

theorem over_half (X Y : S512x2x512.Idx → Elt F .bf16) (w w' : S256x2x512.Idx → Elt F .bf16) : over (over X rU w) rL w' = over (over Y rU w) rL w' := by
  funext x
  by_cases h : ∃ y, rL.emb y = x
  · obtain ⟨y, rfl⟩ := h
    rw [over_emb, over_emb]
  · rw [over_off _ _ _ h, over_off _ _ _ h]
    obtain ⟨y, rfl⟩ := (cover_half x).resolve_right h
    rw [over_emb, over_emb]

/-! ## The three conditions -/

theorem flag_both (p q : Prop) [Decidable p] [Decidable q] :
    Scalar.cmpi .ne (Scalar.extui (Scalar.andi (BitVec.ofBool (decide p)) (BitVec.ofBool (decide q)))) 0#32 = 1#1 ↔ p ∧ q := by
  by_cases hp : p <;> by_cases hq : q <;> simp [hp, hq] <;> decide

theorem flag_not (p : Prop) [Decidable p] :
    Scalar.cmpi .ne (Scalar.extui (Scalar.xori (BitVec.ofBool (decide p)) 1#1)) 0#32 = 1#1 ↔ ¬ p := by
  by_cases hp : p <;> simp [hp] <;> decide

theorem coord_toInt (i : grid0.Coords) : (BitVec.ofNat 32 (i 0).val).toInt = (i 0).val := by
  have h : (i 0).val < 72 := (i 0).isLt
  rw [WordCmp.toInt_eq_toNat_of_lt_half (by rw [BitVec.toNat_ofNat]; omega), BitVec.toNat_ofNat]
  omega

/-- The first case: the tile is in use and holds more than 256 rows. -/
theorem cond1_iff (i : grid0.Coords) (v0 v3 : BitVec 32) : k0_cond1 i v0 v3 = 1#1 ↔ ((i 0).val : ℤ) < v0.toInt ∧ 256 < v3.toInt := by
  refine (flag_both ((BitVec.ofNat 32 (i 0).val).toInt < v0.toInt) ((256#32 : BitVec 32).toInt < v3.toInt)).trans ?_
  rw [coord_toInt, show (256#32 : BitVec 32).toInt = 256 from by decide]

/-- The second case: the tile is in use and holds at most 256 rows. -/
theorem cond2_iff (i : grid0.Coords) (v0 v3 : BitVec 32) : k0_cond2 i v0 v3 = 1#1 ↔ ((i 0).val : ℤ) < v0.toInt ∧ v3.toInt ≤ 256 := by
  refine (flag_both ((BitVec.ofNat 32 (i 0).val).toInt < v0.toInt) (v3.toInt ≤ (256#32 : BitVec 32).toInt)).trans ?_
  rw [coord_toInt, show (256#32 : BitVec 32).toInt = 256 from by decide]

/-- The third case: the tile is not in use. -/
theorem cond3_iff (i : grid0.Coords) (v0 : BitVec 32) : k0_cond3 i v0 = 1#1 ↔ ¬ ((i 0).val : ℤ) < v0.toInt := by
  refine (flag_not ((BitVec.ofNat 32 (i 0).val).toInt < v0.toInt)).trans ?_
  rw [coord_toInt]

/-! ## The point -/

theorem zeros2 : (![0, 0] : Fin 2 → ℕ) = fun _ => 0 := by funext a; fin_cases a <;> rfl
theorem zeros3 : (![0, 0, 0] : Fin 3 → ℕ) = fun _ => 0 := by funext a; fin_cases a <;> rfl

/-- The count of used tiles in the second table. -/
def nUsed (N : S1.Idx → Elt F .i32) : BitVec 32 :=
  N ((Rect.unit (s := S1) ![0] S1.size inb_S1_S1_0).emb (Shape.Idx.first (numel1_S1.symm ▸ Nat.one_pos)))
/-- The tile's count of rows in the first table. -/
def nRows (T : S2x72.Idx → Elt F .i32) (i : grid0.Coords) : BitVec 32 :=
  T ((Rect.unit (s := S2x72) (k0_off2 i) S1x1.size (k0_off2_inb i)).emb (Shape.Idx.first (numel1_S1x1.symm ▸ Nat.one_pos)))

section Point

variable (c : Dev nD) (i : grid0.Coords) (arg1 : Memref sig .tc .smem S2x72 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x2x512 .bf16) (harg8 : arg8.IsWhole)
  (X : S512x1024.Idx → Elt F .f32) (G : S1x1024.Idx → Elt F .f32) (A B : S1x1024x3584.Idx → Elt F .bf16) (D : S1x3584x1024.Idx → Elt F .bf16)

theorem part1 {α : Type} {Q : α → sProp 𝕄} {kk : (Σ' (v30 : FVec F S512x1024 .bf16), FVec F S512x1024 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨bh X G, ba1 X G A B D⟩) Q)
      -∗ wp frame (wpE (defs₀ (F := F)) Variants.none (c : Thread nD τ) none) Set.univ (k0_part1 i arg1 harg1 arg2 harg2 arg3 harg3 arg4 harg4 arg5 harg5 arg6 harg6 arg7 harg7 arg8 harg8 >>= kk) Q) := by
  rw [k0_part1_eq_skeleton]
  unfold k0_part1_skel
  simp only [bind_assoc, pure_bind]
  iintro ⟨H3, H4, H5, H6, H7⟩ Hk
  iapply (wp_load_own c zeros2) $$ H3
  iintro H3
  iapply (wp_load_own c zeros2) $$ H4
  iintro H4
  iapply (wp_load_cut c) $$ H5
  iintro H5
  iapply (wp_load_cut c) $$ H6
  iintro H6
  iapply (wp_load_cut c) $$ H7
  iintro H7
  iapply Hk
  isplitl [H3]; · iexact H3
  isplitl [H4]; · iexact H4
  isplitl [H5]; · iexact H5
  isplitl [H6]; · iexact H6
  iexact H7

theorem part2 {α : Type} {Q : α → sProp 𝕄} {kk : (Σ' (v71 : FVec F S512x1024 .f32) (v77 : FVec F S512x512 .f32), FVec F S512x512 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba2 X G A B D, bu2 X G B, bg2 X G A⟩) Q)
      -∗ wp frame (wpE (defs₀ (F := F)) Variants.none (c : Thread nD τ) none) Set.univ (k0_part2 i arg1 harg1 arg2 harg2 arg3 harg3 arg4 harg4 arg5 harg5 arg6 harg6 arg7 harg7 arg8 harg8 (bh X G) (ba1 X G A B D) >>= kk) Q) := by
  rw [k0_part2_eq_skeleton]
  unfold k0_part2_skel
  simp only [bind_assoc, pure_bind]
  iintro ⟨H3, H4, H5, H6, H7⟩ Hk
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part3 {α : Type} {Q : α → sProp 𝕄} {kk : (Σ' (v111 : FVec F S512x1024 .f32) (v114 : FVec F S512x512 .f32) (v117 : FVec F S512x512 .f32), F .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba4 X G A B D, bg4 X G A, bu4 X G B, Scalar.ofBits .f32 0x00000000#32⟩) Q)
      -∗ wp frame (wpE (defs₀ (F := F)) Variants.none (c : Thread nD τ) none) Set.univ (k0_part3 i arg1 harg1 arg2 harg2 arg3 harg3 arg4 harg4 arg5 harg5 arg6 harg6 arg7 harg7 arg8 harg8 (bh X G) (ba2 X G A B D) (bu2 X G B) (bg2 X G A) >>= kk) Q) := by
  rw [k0_part3_eq_skeleton]
  unfold k0_part3_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part4 {α : Type} {Q : α → sProp 𝕄} {kk : (Σ' (v151 : FVec F S512x1024 .f32), FVec F S1024x512 .bf16) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba6 X G A B D, bw6 A⟩) Q)
      -∗ wp frame (wpE (defs₀ (F := F)) Variants.none (c : Thread nD τ) none) Set.univ (k0_part4 i arg1 harg1 arg2 harg2 arg3 harg3 arg4 harg4 arg5 harg5 arg6 harg6 arg7 harg7 arg8 harg8 (bh X G) (ba4 X G A B D) (bg4 X G A) (bu4 X G B) (Scalar.ofBits .f32 0x00000000#32) >>= kk) Q) := by
  rw [k0_part4_eq_skeleton]
  unfold k0_part4_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply Hk
  isplitl [H3]; · iexact H3
  isplitl [H4]; · iexact H4
  isplitl [H5]; · iexact H5
  isplitl [H6]; · iexact H6
  iexact H7

theorem part5 {α : Type} {Q : α → sProp 𝕄} {kk : (Σ' (v30 : FVec F S256x1024 .bf16), FVec F S256x1024 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sh X G, sa1 X G A B D⟩) Q)
      -∗ wp frame (wpE (defs₀ (F := F)) Variants.none (c : Thread nD τ) none) Set.univ (k0_part5 i arg1 harg1 arg2 harg2 arg3 harg3 arg4 harg4 arg5 harg5 arg6 harg6 arg7 harg7 arg8 harg8 >>= kk) Q) := by
  rw [k0_part5_eq_skeleton]
  unfold k0_part5_skel
  simp only [bind_assoc, pure_bind]
  iintro ⟨H3, H4, H5, H6, H7⟩ Hk
  iapply (wp_load_cut c) $$ H3
  iintro H3
  iapply (wp_load_own c zeros2) $$ H4
  iintro H4
  iapply (wp_load_cut c) $$ H5
  iintro H5
  iapply (wp_load_cut c) $$ H6
  iintro H6
  iapply (wp_load_cut c) $$ H7
  iintro H7
  iapply Hk
  isplitl [H3]; · iexact H3
  isplitl [H4]; · iexact H4
  isplitl [H5]; · iexact H5
  isplitl [H6]; · iexact H6
  iexact H7

theorem part6 {α : Type} {Q : α → sProp 𝕄} {kk : (Σ' (v71 : FVec F S256x1024 .f32) (v77 : FVec F S256x512 .f32), FVec F S256x512 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa2 X G A B D, su2 X G B, sg2 X G A⟩) Q)
      -∗ wp frame (wpE (defs₀ (F := F)) Variants.none (c : Thread nD τ) none) Set.univ (k0_part6 i arg1 harg1 arg2 harg2 arg3 harg3 arg4 harg4 arg5 harg5 arg6 harg6 arg7 harg7 arg8 harg8 (sh X G) (sa1 X G A B D) >>= kk) Q) := by
  rw [k0_part6_eq_skeleton]
  unfold k0_part6_skel
  simp only [bind_assoc, pure_bind]
  iintro ⟨H3, H4, H5, H6, H7⟩ Hk
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part7 {α : Type} {Q : α → sProp 𝕄} {kk : (Σ' (v111 : FVec F S256x1024 .f32) (v114 : FVec F S256x512 .f32) (v117 : FVec F S256x512 .f32), F .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa4 X G A B D, sg4 X G A, su4 X G B, Scalar.ofBits .f32 0x00000000#32⟩) Q)
      -∗ wp frame (wpE (defs₀ (F := F)) Variants.none (c : Thread nD τ) none) Set.univ (k0_part7 i arg1 harg1 arg2 harg2 arg3 harg3 arg4 harg4 arg5 harg5 arg6 harg6 arg7 harg7 arg8 harg8 (sh X G) (sa2 X G A B D) (su2 X G B) (sg2 X G A) >>= kk) Q) := by
  rw [k0_part7_eq_skeleton]
  unfold k0_part7_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part8 {α : Type} {Q : α → sProp 𝕄} {kk : (Σ' (v151 : FVec F S256x1024 .f32), FVec F S1024x512 .bf16) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa6 X G A B D, sw6 A⟩) Q)
      -∗ wp frame (wpE (defs₀ (F := F)) Variants.none (c : Thread nD τ) none) Set.univ (k0_part8 i arg1 harg1 arg2 harg2 arg3 harg3 arg4 harg4 arg5 harg5 arg6 harg6 arg7 harg7 arg8 harg8 (sh X G) (sa4 X G A B D) (sg4 X G A) (su4 X G B) (Scalar.ofBits .f32 0x00000000#32) >>= kk) Q) := by
  rw [k0_part8_eq_skeleton]
  unfold k0_part8_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply Hk
  isplitl [H3]; · iexact H3
  isplitl [H4]; · iexact H4
  isplitl [H5]; · iexact H5
  isplitl [H6]; · iexact H6
  iexact H7

/-- One grid point: the tables and the input blocks stay, the output block is the tile's case's. -/
theorem body_run {Q : PUnit → sProp 𝕄} (T : S2x72.Idx → Elt F .i32) (N : S1.Idx → Elt F .i32) (O : S512x2x512.Idx → Elt F .bf16) :
    (iprop(owns (c : Thread nD τ) arg1 fullShare T ∗ owns (c : Thread nD τ) arg2 fullShare N ∗ owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D ∗ owns (c : Thread nD τ) arg8 fullShare O) : sProp 𝕄)
      ⊢ iprop((iprop(owns (c : Thread nD τ) arg1 fullShare T ∗ owns (c : Thread nD τ) arg2 fullShare N ∗ owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D ∗ owns (c : Thread nD τ) arg8 fullShare (outBlk X G A B D i (nUsed N) (nRows T i))) -∗ Q ⟨⟩)
        -∗ wp frame (wpE (defs₀ (F := F)) Variants.none (c : Thread nD τ) none) Set.univ (cc0_experts i arg1 harg1 arg2 harg2 arg3 harg3 arg4 harg4 arg5 harg5 arg6 harg6 arg7 harg7 arg8 harg8) Q) := by
  rw [cc0_experts_eq_skeleton]
  unfold cc0_experts_skel
  iintro ⟨H1, H2, H3, H4, H5, H6, H7, H8⟩ Hk
  iapply (wp_word c) $$ H2
  iintro H2
  iapply (wp_word c) $$ H1
  iintro H1
  have c1 := cond1_iff i (nUsed N) (nRows T i)
  have c2 := cond2_iff i (nUsed N) (nRows T i)
  have c3 := cond3_iff i (nUsed N)
  have e2 : N ((Rect.unit (s := S1) ![0] S1.size inb_S1_S1_0).emb (Shape.Idx.first (numel1_S1.symm ▸ Nat.one_pos))) = nUsed N := rfl
  have e1 : T ((Rect.unit (s := S2x72) (k0_off2 i) S1x1.size (k0_off2_inb i)).emb (Shape.Idx.first (numel1_S1x1.symm ▸ Nat.one_pos))) = nRows T i := rfl
  rw [e1, e2]
  unfold outBlk
  rcases em (k0_cond1 i (nUsed N) (nRows T i) = 1#1) with h1 | h1
  · have h2 : ¬ k0_cond2 i (nUsed N) (nRows T i) = 1#1 := fun h => by have := (c1.mp h1).2; have := (c2.mp h).2; omega
    have h3 : ¬ k0_cond3 i (nUsed N) = 1#1 := fun h => (c3.mp h) (c1.mp h1).1
    rw [if_pos h1]
    simp only [dif_pos h1, dif_neg h2, dif_neg h3, bind_assoc, pure_bind]
    iapply (part1 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part2 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part3 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part4 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (wp_load_cut c) $$ H6
    iintro H6
    iapply (wp_load_cut c) $$ H7
    iintro H7
    iapply (wp_load_cut c) $$ H8
    iintro H8
    iapply (wp_store_own c (bout X G A B D) zeros3) $$ H8
    iintro H8
    rw [wp_pure]
    imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rcases em (k0_cond2 i (nUsed N) (nRows T i) = 1#1) with h2 | h2
    · have h3 : ¬ k0_cond3 i (nUsed N) = 1#1 := fun h => (c3.mp h) (c2.mp h2).1
      rw [if_neg h1, if_pos h2]
      simp only [dif_neg h1, dif_pos h2, dif_neg h3, bind_assoc, pure_bind]
      iapply (part5 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part6 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part7 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part8 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (wp_load_cut c) $$ H6
      iintro H6
      iapply (wp_load_cut c) $$ H7
      iintro H7
      iapply (wp_load_cut c) $$ H8
      iintro H8
      iapply (wp_store_cut c (sout X G A B D)) $$ H8
      iintro H8
      iapply (wp_load_cut c) $$ H8
      iintro H8
      iapply (wp_store_cut c (constant S256x2x512 .bf16 0x0000#16)) $$ H8
      iintro H8
      rw [over_half _ (fun _ => Scalar.ofBits .bf16 0x0000#16)]
      rw [wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have h3 : k0_cond3 i (nUsed N) = 1#1 := c3.mpr fun h => by
        by_cases g : 256 < (nRows T i).toInt
        · exact h1 (c1.mpr ⟨h, g⟩)
        · exact h2 (c2.mpr ⟨h, by omega⟩)
      rw [if_neg h1, if_neg h2]
      simp only [dif_neg h1, dif_neg h2, dif_pos h3, bind_assoc, pure_bind]
      iapply (wp_load_cut c) $$ H8
      iintro H8
      iapply (wp_store_own c zeroOut zeros3) $$ H8
      iintro H8
      rw [wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

end Point

/-- One grid point of the reader: its input block stays, its output block is the packed halves side by side. -/
theorem words_run {Q : PUnit → sProp 𝕄} (c : Dev nD) (i : grid1.Coords) (arg1 : Memref sig .tc .vmem S512x2x512 .bf16) (harg1 : arg1.IsWhole) (arg2 : Memref sig .tc .vmem S512x1024 .f32) (harg2 : arg2.IsWhole)
    (Y : S512x2x512.Idx → Elt F .bf16) (O : S512x1024.Idx → Elt F .f32) :
    (iprop(owns (c : Thread nD τ) arg1 fullShare Y ∗ owns (c : Thread nD τ) arg2 fullShare O) : sProp 𝕄)
      ⊢ iprop((iprop(owns (c : Thread nD τ) arg1 fullShare Y ∗ owns (c : Thread nD τ) arg2 fullShare (k1_pay1 Y)) -∗ Q ⟨⟩)
        -∗ wp frame (wpE (defs₀ (F := F)) Variants.none (c : Thread nD τ) none) Set.univ (cc1__words_kernel i arg1 harg1 arg2 harg2) Q) := by
  rw [cc1__words_kernel_eq_skeleton]
  unfold cc1__words_kernel_skel
  iintro ⟨H1, H2⟩ Hk
  iapply (wp_load_own c zeros3) $$ H1
  iintro H1
  iapply (wp_load_own c zeros2) $$ H2
  iintro H2
  iapply (wp_store_own c (k1_pay1 Y) zeros2) $$ H2
  iintro H2
  rw [wp_pure]
  imodintro
  iapply Hk
  isplitl [H1]; · iexact H1
  iexact H2

end Cert.Experts

end
-- ==== Proof.ExpAdm.lean ====
/-
  The experts call's tables: with every expert number below eight, each block that the tables choose lies inside its array.
-/
module

public import Idealize.ShloMosaic.Lib.Pointwise
public import proofs.«01_k».proof.Proof.ExpBody

@[expose] public section

set_option maxRecDepth 16384

noncomputable section

namespace Cert.Experts

open Cert.Kernel2Ideal Cert.Kernel2Ideal.Gen
open Idealize.ShloMosaic Idealize.ShloMosaic.TcCoe Idealize.ShloMosaic.Tactic

variable {F : FTy → Type} [FloatOps F]

variable (m : (ℓ : Loc nD τ sig) → Buf (Elt F) ℓ)

/-- Where the first table keeps entry `k` of tile `j`. -/
def tIx (k : Fin 2) (j : Fin 72) : S2x72.Idx := fun a => match a with
  | 0 => k
  | 1 => j

theorem tIx_eq (k : Fin 2) (j : Fin 72) : tIx k j = ix2 k j := by
  funext a
  match a with
  | 0 => rfl
  | 1 => rfl

/-- The tiles' table and the count of used tiles, as launched. -/
abbrev tiles (c : Dev nD) : S2x72.Idx → Elt F .i32 := m ((c : Thread nD τ).loc main_arg5)
abbrev used (c : Dev nD) : S1.Idx → Elt F .i32 := m ((c : Thread nD τ).loc main_arg6)

/-- Every tile's expert number is below eight. -/
def InRange : Prop := ∀ (c : Dev nD) (j : Fin 72), (tiles m c (tIx 0 j)).toNat < 8

/-- The tables' contents as the pipeline reads them. -/
def tabs : pre0.Contents (Elt F) := fun k => m (((0 : Dev nD) : Thread nD τ).loc (pre0.ref k))

theorem coordLt (i : grid0.Coords) : (i 0).val < 72 := (i 0).isLt

theorem rows_at (T : S2x72.Idx → Elt F .i32) (i : grid0.Coords) : nRows T i = T (tIx 1 ⟨(i 0).val, coordLt i⟩) := by
  unfold nRows
  refine congrArg T ?_
  have h := coordLt i
  funext a
  apply Fin.ext
  match a with
  | 0 => rfl
  | 1 =>
    change (BitVec.ofNat 32 (i 0).val).toNat + 1 * 0 = (i 0).val
    rw [BitVec.toNat_ofNat]
    omega

theorem expert_at (i : grid0.Coords) (hb) (hn) :
    (tabs m).at 0 (Rect.unit (s := S2x72) (k0_off1 i) S1x1.size hb) hn = tiles m 0 (tIx 0 ⟨(i 0).val, coordLt i⟩) := by
  unfold Pipeline.Prefetch.Contents.at tabs
  refine congrArg (tiles m 0) ?_
  have h := coordLt i
  funext a
  revert a
  refine fun (a : Fin 2) => Fin.ext ?_
  match a with
  | 0 => rfl
  | 1 =>
    change (BitVec.ofNat 32 (i 0).val).toNat + 1 * 0 = (i 0).val
    rw [BitVec.toNat_ofNat]
    omega

/-- The tile whose rows point `i` reads, as the words compute it. -/
def tileWord (v : BitVec 32) (i : ℕ) : BitVec 32 := Scalar.maxsi (Scalar.minsi (BitVec.ofNat 32 i) (Scalar.subi v 1#32)) 0#32

theorem tileWord_lt (v : BitVec 32) {i : ℕ} (h : i < 72) : (tileWord v i).toNat < 72 := by
  unfold tileWord Scalar.maxsi Scalar.minsi Scalar.subi IntOp.maxsi IntOp.minsi IntOp.subi
  have e : (BitVec.ofNat 32 i).toInt = i := by
    rw [BitVec.toInt_eq_toNat_cond, BitVec.toNat_ofNat]; split <;> omega
  have e' : (BitVec.ofNat 32 i).toNat = i := by rw [BitVec.toNat_ofNat]; omega
  have z : (0#32 : BitVec 32).toInt = 0 := rfl
  by_cases h1 : (BitVec.ofNat 32 i).slt (v - 1#32) = true
  · rw [if_pos h1]
    split
    · rw [e']; exact h
    · decide
  · rw [if_neg h1]
    split
    · rename_i h2
      rw [BitVec.slt_eq_decide, decide_eq_true_eq] at h1 h2
      rw [e] at h1
      rw [z] at h2
      have := BitVec.toInt_eq_toNat_cond (v - 1#32)
      have := (v - 1#32).isLt
      split at * <;> omega
    · decide

theorem tileWord_live (v : BitVec 32) {i : ℕ} (h : i < 72) (hv : (i : ℤ) < v.toInt) : (tileWord v i).toNat = i := by
  unfold tileWord Scalar.maxsi Scalar.minsi Scalar.subi IntOp.maxsi IntOp.minsi IntOp.subi
  have e : (BitVec.ofNat 32 i).toInt = i := by
    rw [BitVec.toInt_eq_toNat_cond, BitVec.toNat_ofNat]; split <;> omega
  have e' : (BitVec.ofNat 32 i).toNat = i := by rw [BitVec.toNat_ofNat]; omega
  have z : (0#32 : BitVec 32).toInt = 0 := rfl
  have hs : (v - 1#32).toInt = v.toInt - 1 := by
    have a := BitVec.toInt_eq_toNat_cond v
    have b := BitVec.toInt_eq_toNat_cond (v - 1#32)
    have c := BitVec.toNat_sub v 1#32
    have o : (1#32 : BitVec 32).toNat = 1 := rfl
    have d := v.isLt
    have d' := (v - 1#32).isLt
    rw [o] at c
    split at a <;> split at b <;> omega
  by_cases h1 : (BitVec.ofNat 32 i).slt (v - 1#32) = true
  · rw [if_pos h1]
    split
    · exact e'
    · rename_i h2
      rw [BitVec.slt_eq_decide, decide_eq_true_eq, z, e] at h2
      change 0 = i
      omega
  · rw [if_neg h1]
    rw [BitVec.slt_eq_decide, decide_eq_true_eq, e, hs] at h1
    split
    · have b := BitVec.toInt_eq_toNat_cond (v - 1#32)
      have d' := (v - 1#32).isLt
      split at b <;> omega
    · rename_i h2
      rw [BitVec.slt_eq_decide, decide_eq_true_eq, z, hs] at h2
      change 0 = i
      omega

theorem tr0_eq (i : grid0.Coords) : cc0_transform_0 inb_S1_S1_0 numel1_S1 (tabs m) i = ![(tileWord (nUsed (used m 0)) (i 0).val).toNat, 0] := rfl
theorem tr2_eq (i : grid0.Coords) : cc0_transform_2 k0_off1_inb numel1_S1x1 (tabs m) i = ![(tiles m 0 (tIx 0 ⟨(i 0).val, coordLt i⟩)).toNat, 0, 0] :=
  (show cc0_transform_2 k0_off1_inb numel1_S1x1 (tabs m) i = ![((tabs m).at 0 (Rect.unit (s := S2x72) (k0_off1 i) S1x1.size (k0_off1_inb i)) numel1_S1x1).toNat, 0, 0] from rfl).trans
    (by rw [expert_at m i _ numel1_S1x1])
theorem tr3_eq (i : grid0.Coords) : cc0_transform_3 k0_off1_inb numel1_S1x1 (tabs m) i = ![(tiles m 0 (tIx 0 ⟨(i 0).val, coordLt i⟩)).toNat, 0, 0] := tr2_eq m i
theorem tr4_eq (i : grid0.Coords) : cc0_transform_4 k0_off1_inb numel1_S1x1 (tabs m) i = ![(tiles m 0 (tIx 0 ⟨(i 0).val, coordLt i⟩)).toNat, 0, 0] := tr2_eq m i

variable {m}

/-- The tables the precondition admits keep every block inside its array. -/
theorem tabs_ok (hr : InRange m) : ok0 (tabs m) := by
  have two : 2 ≤ S8x1024x3584.rank := by decide
  have two' : 2 ≤ S8x3584x1024.rank := by decide
  refine ⟨fun i => ?_, fun i => ?_, fun i => ?_, fun i => ?_⟩
  · refine ⟨fun a => ?_, .inl rfl⟩
    rw [tr0_eq]
    have h := tileWord_lt (nUsed (used m 0)) (coordLt i)
    match a with
    | 0 => change ((tileWord (nUsed (used m 0)) (i 0).val).toNat + 1) * 512 ≤ 36864; omega
    | 1 => exact (by decide : (0 + 1) * 1024 ≤ 1024)
  · have h := hr 0 ⟨(i 0).val, coordLt i⟩
    refine ⟨fun a => ?_, .inr (.inr ⟨two, rfl, ?_, rfl⟩)⟩
    · rw [tr2_eq]
      match a with
      | 0 => change ((tiles m 0 (tIx 0 ⟨(i 0).val, coordLt i⟩)).toNat + 1) * 1 ≤ 8; omega
      | 1 => exact (by decide : (0 + 1) * 1024 ≤ 1024)
      | 2 => exact (by decide : (0 + 1) * 3584 ≤ 3584)
    · change cc0_transform_2 k0_off1_inb numel1_S1x1 (tabs m) i 1 * 1024 = 0
      rw [tr2_eq]
      rfl
  · have h := hr 0 ⟨(i 0).val, coordLt i⟩
    refine ⟨fun a => ?_, .inr (.inr ⟨two, rfl, ?_, rfl⟩)⟩
    · rw [tr3_eq]
      match a with
      | 0 => change ((tiles m 0 (tIx 0 ⟨(i 0).val, coordLt i⟩)).toNat + 1) * 1 ≤ 8; omega
      | 1 => exact (by decide : (0 + 1) * 1024 ≤ 1024)
      | 2 => exact (by decide : (0 + 1) * 3584 ≤ 3584)
    · change cc0_transform_3 k0_off1_inb numel1_S1x1 (tabs m) i 1 * 1024 = 0
      rw [tr3_eq]
      rfl
  · have h := hr 0 ⟨(i 0).val, coordLt i⟩
    refine ⟨fun a => ?_, .inr (.inr ⟨two', rfl, ?_, rfl⟩)⟩
    · rw [tr4_eq]
      match a with
      | 0 => change ((tiles m 0 (tIx 0 ⟨(i 0).val, coordLt i⟩)).toNat + 1) * 1 ≤ 8; omega
      | 1 => exact (by decide : (0 + 1) * 3584 ≤ 3584)
      | 2 => exact (by decide : (0 + 1) * 1024 ≤ 1024)
    · change cc0_transform_4 k0_off1_inb numel1_S1x1 (tabs m) i 1 * 3584 = 0
      rw [tr4_eq]
      rfl

/-- Admissible contents for both pipelines. -/
def adm (hr : InRange m) : (p : Fin 2) → (pcfgs (F := F) p).Adm
  | ⟨0, _⟩ => ⟨tabs m, tabs_ok hr⟩
  | ⟨1, _⟩ => cfg1.toPCfg_adm
  | ⟨_ + 2, h⟩ => absurd h (Nat.not_lt.2 (Nat.le_add_left _ _))

end Cert.Experts

end
-- ==== Proof.ExpRun.lean ====
/-
  The experts call's run: at every grid point the input blocks stay and the output block is computed from them; then the
  packed rows are read out, block by block.
-/
module

public import proofs.«01_k».proof.Proof.ExpAdm
public import Idealize.ShloMosaic.Lib.Pipeline.FrameBody

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable {m : (ℓ : Loc nD τ sig) → Buf (Elt F) ℓ} (hr : InRange m) (c : Dev nD)

/-! ## The experts -/

/-- The experts' tables, admissible. -/
abbrev A0 : (pcfg0 (F := F)).Adm := ⟨tabs m, tabs_ok hr⟩

/-- The block of window `w` at point `t`, read off its array as the call finds it. -/
def eblk (w : Fin 6) (t : Fin (cfg0 (A0 hr)).N) : (((cfg0 (A0 hr)).win w).xblock ((cfg0 (A0 hr)).grid.coords t)).Idx → Elt F ((cfg0 (A0 hr)).win w).elt :=
  (((cfg0 (A0 hr)).win w).blk t).view.read (Elt F) (V1 m c (Pipeline.arrRef spec0 w))

/-- What the experts store at point `t`. -/
def eout (t : Fin (cfg0 (A0 hr)).N) : S512x2x512.Idx → Elt F .bf16 :=
  outBlk (eblk hr c 0 t : S512x1024.Idx → Elt F .f32) (eblk hr c 1 t : S1x1024.Idx → Elt F .f32) (eblk hr c 2 t : S1x1024x3584.Idx → Elt F .bf16)
    (eblk hr c 3 t : S1x1024x3584.Idx → Elt F .bf16) (eblk hr c 4 t : S1x3584x1024.Idx → Elt F .bf16) (grid0.coords t)
    (nUsed (used m 0)) (nRows (tiles m 0) (grid0.coords t))

def dat0 (c : Dev nD) : Dat τ (Elt F) Unit ℕ (UR sig nD τ) ℕ (cfg0 (A0 hr)) c where
  A w := V1 m c (Pipeline.arrRef spec0 w)
  after w t := match w with
    | ⟨0, _⟩ => eblk hr c 0 t
    | ⟨1, _⟩ => eblk hr c 1 t
    | ⟨2, _⟩ => eblk hr c 2 t
    | ⟨3, _⟩ => eblk hr c 3 t
    | ⟨4, _⟩ => eblk hr c 4 t
    | ⟨5, _⟩ => eout hr c t
  Φ _ := iprop(Pipeline.scopedRest spec0 c ∗ Pipeline.prefHeld pre0 c (fun _ => fullShare) (tabs m))
  q _ := fullShare
  owed _ := 0

theorem A0_eq (c : Dev nD) (w : Fin 6) : (dat0 hr c).A w = V1 m c (Pipeline.arrRef spec0 w) := by dsimp only [dat0]
theorem after0_0 (t) : (dat0 hr c).after 0 t = eblk hr c 0 t := rfl
theorem after0_1 (t) : (dat0 hr c).after 1 t = eblk hr c 1 t := rfl
theorem after0_2 (t) : (dat0 hr c).after 2 t = eblk hr c 2 t := rfl
theorem after0_3 (t) : (dat0 hr c).after 3 t = eblk hr c 3 t := rfl
theorem after0_4 (t) : (dat0 hr c).after 4 t = eblk hr c 4 t := rfl
theorem after0_5 (t) : (dat0 hr c).after 5 t = eout hr c t := rfl

theorem before0_0 (t) (d) : (dat0 hr c).before 0 t d = eblk hr c 0 t :=
  ((dat0 hr c).before_in_eq_fetched 0 rfl (fun _ => rfl) (fun _ _ _ => rfl) (fun t => by rw [after0_0]; unfold Dat.blockOf eblk; rw [A0_eq]; try rfl) t d).trans
    (by unfold Dat.fetched Dat.blockOf eblk; rw [A0_eq]; try rfl)
theorem before0_1 (t) (d) : (dat0 hr c).before 1 t d = eblk hr c 1 t :=
  ((dat0 hr c).before_in_eq_fetched 1 rfl (fun _ => rfl) (fun _ _ _ => rfl) (fun t => by rw [after0_1]; unfold Dat.blockOf eblk; rw [A0_eq]; try rfl) t d).trans
    (by unfold Dat.fetched Dat.blockOf eblk; rw [A0_eq]; try rfl)
theorem before0_2 (t) (d) : (dat0 hr c).before 2 t d = eblk hr c 2 t :=
  ((dat0 hr c).before_in_eq_fetched 2 rfl (fun _ => rfl) (fun _ _ _ => rfl) (fun t => by rw [after0_2]; unfold Dat.blockOf eblk; rw [A0_eq]; try rfl) t d).trans
    (by unfold Dat.fetched Dat.blockOf eblk; rw [A0_eq]; try rfl)
theorem before0_3 (t) (d) : (dat0 hr c).before 3 t d = eblk hr c 3 t :=
  ((dat0 hr c).before_in_eq_fetched 3 rfl (fun _ => rfl) (fun _ _ _ => rfl) (fun t => by rw [after0_3]; unfold Dat.blockOf eblk; rw [A0_eq]; try rfl) t d).trans
    (by unfold Dat.fetched Dat.blockOf eblk; rw [A0_eq]; try rfl)
theorem before0_4 (t) (d) : (dat0 hr c).before 4 t d = eblk hr c 4 t :=
  ((dat0 hr c).before_in_eq_fetched 4 rfl (fun _ => rfl) (fun _ _ _ => rfl) (fun t => by rw [after0_4]; unfold Dat.blockOf eblk; rw [A0_eq]; try rfl) t d).trans
    (by unfold Dat.fetched Dat.blockOf eblk; rw [A0_eq]; try rfl)

abbrev est0 (t : Fin (cfg0 (A0 hr)).N) := ((cfg0 (A0 hr)).win 0).stage ((cfg0 (A0 hr)).slots t 0)
abbrev est1 (t : Fin (cfg0 (A0 hr)).N) := ((cfg0 (A0 hr)).win 1).stage ((cfg0 (A0 hr)).slots t 1)
abbrev est2 (t : Fin (cfg0 (A0 hr)).N) := ((cfg0 (A0 hr)).win 2).stage ((cfg0 (A0 hr)).slots t 2)
abbrev est3 (t : Fin (cfg0 (A0 hr)).N) := ((cfg0 (A0 hr)).win 3).stage ((cfg0 (A0 hr)).slots t 3)
abbrev est4 (t : Fin (cfg0 (A0 hr)).N) := ((cfg0 (A0 hr)).win 4).stage ((cfg0 (A0 hr)).slots t 4)
abbrev est5 (t : Fin (cfg0 (A0 hr)).N) := ((cfg0 (A0 hr)).win 5).stage ((cfg0 (A0 hr)).slots t 5)

/-- The experts' body at point `t`, on what the pipeline calls it with. -/
abbrev bodyAt0 (t : Fin (cfg0 (A0 hr)).N) : Prog (TpuEff nD τ sig (Elt F) Λ₀ .tc) PUnit :=
  cc0_experts (grid0.coords t) (Memref.whole main_arg5) (Memref.isWhole_whole _) (Memref.whole main_arg6) (Memref.isWhole_whole _)
    (spec0_0.stage ((cfg0 (A0 hr)).slots t 0)) (hstage0_0 (((cfg0 (A0 hr)).slots t 0).cast nbuf0_0))
    (spec0_1.stage ((cfg0 (A0 hr)).slots t 1)) (hstage0_1 (((cfg0 (A0 hr)).slots t 1).cast nbuf0_1))
    (spec0_2.stage ((cfg0 (A0 hr)).slots t 2)) (hstage0_2 (((cfg0 (A0 hr)).slots t 2).cast nbuf0_2))
    (spec0_3.stage ((cfg0 (A0 hr)).slots t 3)) (hstage0_3 (((cfg0 (A0 hr)).slots t 3).cast nbuf0_3))
    (spec0_4.stage ((cfg0 (A0 hr)).slots t 4)) (hstage0_4 (((cfg0 (A0 hr)).slots t 4).cast nbuf0_4))
    (spec0_5.stage ((cfg0 (A0 hr)).slots t 5)) (hstage0_5 (((cfg0 (A0 hr)).slots t 5).cast nbuf0_5))

/-- The tables held are the two memrefs the body reads. -/
theorem tabs_held (c : Dev nD) : (Pipeline.prefHeld pre0 c (fun _ => fullShare) (tabs m) : sProp 𝕄)
    = iprop(owns (c : Thread nD τ) (Memref.whole main_arg5) fullShare (tiles m 0) ∗ owns (c : Thread nD τ) (Memref.whole main_arg6) fullShare (used m 0)) := by
  rw [owns_whole, owns_whole]
  unfold Pipeline.prefHeld
  exact bigSep_W1 (fun k : Fin 2 => iprop(((c : Thread nD τ).loc (pre0.ref k)) ↦{fullShare} (tabs m k)))

def pre0At (t : Fin (cfg0 (A0 hr)).N) : sProp 𝕄 :=
  iprop((dat0 hr c).Φ t.castSucc ∗ (dat0 hr c).owesAt () t.castSucc
      ∗ (∃ d, owns (c : Thread nD τ) (est0 hr t) fullShare ((dat0 hr c).before 0 t d))
      ∗ (∃ d, owns (c : Thread nD τ) (est1 hr t) fullShare ((dat0 hr c).before 1 t d))
      ∗ (∃ d, owns (c : Thread nD τ) (est2 hr t) fullShare ((dat0 hr c).before 2 t d))
      ∗ (∃ d, owns (c : Thread nD τ) (est3 hr t) fullShare ((dat0 hr c).before 3 t d))
      ∗ (∃ d, owns (c : Thread nD τ) (est4 hr t) fullShare ((dat0 hr c).before 4 t d))
      ∗ (∃ d, owns (c : Thread nD τ) (est5 hr t) fullShare ((dat0 hr c).before 5 t d)))
def post0At (t : Fin (cfg0 (A0 hr)).N) : sProp 𝕄 :=
  iprop((dat0 hr c).Φ t.succ ∗ (dat0 hr c).owesAt () t.succ
      ∗ owns (c : Thread nD τ) (est0 hr t) fullShare ((dat0 hr c).after 0 t)
      ∗ owns (c : Thread nD τ) (est1 hr t) fullShare ((dat0 hr c).after 1 t)
      ∗ owns (c : Thread nD τ) (est2 hr t) fullShare ((dat0 hr c).after 2 t)
      ∗ owns (c : Thread nD τ) (est3 hr t) fullShare ((dat0 hr c).after 3 t)
      ∗ owns (c : Thread nD τ) (est4 hr t) fullShare ((dat0 hr c).after 4 t)
      ∗ owns (c : Thread nD τ) (est5 hr t) fullShare ((dat0 hr c).after 5 t))

theorem sound0 (t : Fin (cfg0 (A0 hr)).N) :
    pre0At hr c t ⊢ wp frame (wpE (defs₀ (F := F)) Variants.none (c : Thread nD τ) none) Set.univ (bodyAt0 hr t) (fun _ => post0At hr c t) := by
  unfold pre0At post0At
  simp only [before0_0, before0_1, before0_2, before0_3, before0_4]
  rw [after0_0, after0_1, after0_2, after0_3, after0_4, after0_5]
  rw [show (dat0 hr c).Φ t.castSucc = iprop(Pipeline.scopedRest spec0 c ∗ Pipeline.prefHeld pre0 c (fun _ => fullShare) (tabs m)) from rfl,
    show (dat0 hr c).Φ t.succ = iprop(Pipeline.scopedRest spec0 c ∗ Pipeline.prefHeld pre0 c (fun _ => fullShare) (tabs m)) from rfl]
  rw [tabs_held]
  unfold eout
  unfold Dat.owesAt Pipeline.owesWithin
  rw [show (dat0 hr c).owed t.castSucc = 0 from rfl, show (dat0 hr c).owed t.succ = 0 from rfl]
  iintro ⟨⟨HR, HT, HN⟩, ⟨%W, -, HW⟩, ⟨%d0, B0⟩, ⟨%d1, B1⟩, ⟨%d2, B2⟩, ⟨%d3, B3⟩, ⟨%d4, B4⟩, ⟨%d5, B5⟩⟩
  have key := fun Q => body_run (Q := Q) c (grid0.coords t) (Memref.whole main_arg5) (Memref.isWhole_whole _) (Memref.whole main_arg6) (Memref.isWhole_whole _)
    (spec0_0.stage ((cfg0 (A0 hr)).slots t 0)) (hstage0_0 (((cfg0 (A0 hr)).slots t 0).cast nbuf0_0))
    (spec0_1.stage ((cfg0 (A0 hr)).slots t 1)) (hstage0_1 (((cfg0 (A0 hr)).slots t 1).cast nbuf0_1))
    (spec0_2.stage ((cfg0 (A0 hr)).slots t 2)) (hstage0_2 (((cfg0 (A0 hr)).slots t 2).cast nbuf0_2))
    (spec0_3.stage ((cfg0 (A0 hr)).slots t 3)) (hstage0_3 (((cfg0 (A0 hr)).slots t 3).cast nbuf0_3))
    (spec0_4.stage ((cfg0 (A0 hr)).slots t 4)) (hstage0_4 (((cfg0 (A0 hr)).slots t 4).cast nbuf0_4))
    (spec0_5.stage ((cfg0 (A0 hr)).slots t 5)) (hstage0_5 (((cfg0 (A0 hr)).slots t 5).cast nbuf0_5))
    (eblk hr c 0 t) (eblk hr c 1 t) (eblk hr c 2 t) (eblk hr c 3 t) (eblk hr c 4 t) (tiles m 0) (used m 0) ((dat0 hr c).before 5 t d5)
  iapply (key _) $$ [HT HN B0 B1 B2 B3 B4 B5]
  · isplitl [HT]; · iexact HT
    isplitl [HN]; · iexact HN
    isplitl [B0]; · iexact B0
    isplitl [B1]; · iexact B1
    isplitl [B2]; · iexact B2
    isplitl [B3]; · iexact B3
    isplitl [B4]; · iexact B4
    iexact B5
  iintro ⟨HT, HN, B0, B1, B2, B3, B4, B5⟩
  isplitl [HR HT HN]
  · isplitl [HR]; · iexact HR
    isplitl [HT]; · iexact HT
    iexact HN
  isplitl [HW]
  · iexists W
    isplitr
    · ipureintro; exact fun _ _ => Or.inl trivial
    iexact HW
  isplitl [B0]; · iexact B0
  isplitl [B1]; · iexact B1
  isplitl [B2]; · iexact B2
  isplitl [B3]; · iexact B3
  isplitl [B4]; · iexact B4
  iexact B5

/-- The output block is stored at every point: one of the three cases holds. -/
theorem never_idle (v0 v3 : BitVec 32) (i : grid0.Coords) :
    (!(k0_cond1 i v0 v3 == 1#1) && !(k0_cond2 i v0 v3 == 1#1) && !(k0_cond3 i v0 == 1#1)) = false := by
  have c1 := cond1_iff i v0 v3
  have c2 := cond2_iff i v0 v3
  have c3 := cond3_iff i v0
  by_cases h : ((i 0).val : ℤ) < v0.toInt
  · by_cases g : 256 < v3.toInt
    · rw [c1.mpr ⟨h, g⟩]; rfl
    · rw [c2.mpr ⟨h, not_lt.mp g⟩]
      simp
  · rw [c3.mpr h]
    simp

theorem row0 (t : Fin (cfg0 (A0 hr)).N) : defs₀ (F := F) .tc (cfg0 (A0 hr)).body ((cfg0 (A0 hr)).bodyArgs t ((cfg0 (A0 hr)).slots t)) = bodyAt0 hr t := by
  unfold defs₀; rw [Defs.onTc_tc]

theorem idle5 (t : Fin (cfg0 (A0 hr)).N) : (cfg0 (A0 hr)).idle 5 ((cfg0 (A0 hr)).grid.coords t) = false :=
  never_idle _ _ _

theorem obligation0 (c : Dev nD) : BodyObligation (dat0 hr c) defs₀ Variants.none () Set.univ := fun t => by
  rw [bigSep_W0, bigSep_W0, row0]
  refine triple_restated (sound0 hr c t) rfl .rfl fun _ => ?_
  have e : idle0 (tabs m) 5 ((pcfg0.gridAt (tabs m)).coords t) = false := idle5 hr t
  dsimp only
  rw [e]
  exact BI.Entails.refl (post0At hr c t)

/-! ## The rows read out -/

/-- The buffers after the experts. -/
abbrev Wx (c : Dev nD) : Valuation τ sig (Elt F) := Pipeline.afterRegion (dat0 hr c) (V1 m c)

/-- The block of window `w` at point `t` of the second call. -/
def rblk (w : Fin 2) (t : Fin cfg1.N) : ((cfg1.win w).xblock (cfg1.grid.coords t)).Idx → Elt F (cfg1.win w).elt :=
  ((cfg1.win w).blk t).view.read (Elt F) (Wx hr c (Pipeline.arrRef spec1 w))

/-- What the second call stores at point `t`. -/
def rout (t : Fin cfg1.N) : S512x1024.Idx → Elt F .f32 := k1_pay1 (rblk hr c 0 t : S512x2x512.Idx → Elt F .bf16)

def dat1 (c : Dev nD) : Dat τ (Elt F) Unit ℕ (UR sig nD τ) ℕ cfg1 c where
  A w := Wx hr c (Pipeline.arrRef spec1 w)
  after w t := match w with
    | ⟨0, _⟩ => rblk hr c 0 t
    | ⟨1, _⟩ => rout hr c t
  Φ _ := Pipeline.scopedRest spec1 c
  q _ := fullShare
  owed _ := 0

theorem A1_eq (c : Dev nD) (w : Fin 2) : (dat1 hr c).A w = Wx hr c (Pipeline.arrRef spec1 w) := by dsimp only [dat1]
theorem after1_0 (t) : (dat1 hr c).after 0 t = rblk hr c 0 t := rfl
theorem after1_1 (t) : (dat1 hr c).after 1 t = rout hr c t := rfl
theorem before1_0 (t) (d) : (dat1 hr c).before 0 t d = rblk hr c 0 t :=
  ((dat1 hr c).before_in_eq_fetched 0 rfl (fun _ => rfl) (fun _ _ _ => rfl) (fun t => by rw [after1_0]; unfold Dat.blockOf rblk; rw [A1_eq]; try rfl) t d).trans
    (by unfold Dat.fetched Dat.blockOf rblk; rw [A1_eq]; try rfl)

def pre1At (t : Fin cfg1.N) : sProp 𝕄 :=
  iprop((dat1 hr c).Φ t.castSucc ∗ (dat1 hr c).owesAt () t.castSucc
      ∗ (∃ d, owns (c : Thread nD τ) (st1_0 t) fullShare ((dat1 hr c).before 0 t d))
      ∗ (∃ d, owns (c : Thread nD τ) (st1_1 t) fullShare ((dat1 hr c).before 1 t d)))
def post1At (t : Fin cfg1.N) : sProp 𝕄 :=
  iprop((dat1 hr c).Φ t.succ ∗ (dat1 hr c).owesAt () t.succ
      ∗ owns (c : Thread nD τ) (st1_0 t) fullShare ((dat1 hr c).after 0 t)
      ∗ owns (c : Thread nD τ) (st1_1 t) fullShare ((dat1 hr c).after 1 t))

theorem sound1 (t : Fin cfg1.N) :
    pre1At hr c t ⊢ wp frame (wpE (defs₀ (F := F)) Variants.none (c : Thread nD τ) none) Set.univ (bodyAt1 t) (fun _ => post1At hr c t) := by
  unfold pre1At post1At
  simp only [before1_0]
  rw [after1_0, after1_1]
  rw [show (dat1 hr c).Φ t.castSucc = Pipeline.scopedRest spec1 c from rfl, show (dat1 hr c).Φ t.succ = Pipeline.scopedRest spec1 c from rfl]
  unfold rout
  unfold Dat.owesAt Pipeline.owesWithin
  rw [show (dat1 hr c).owed t.castSucc = 0 from rfl, show (dat1 hr c).owed t.succ = 0 from rfl]
  iintro ⟨HR, ⟨%W, -, HW⟩, ⟨%d0, B0⟩, ⟨%d1, B1⟩⟩
  have key := fun Q => words_run (Q := Q) c (grid1.coords t) (win1_0.stage (cfg1.slots t 0)) (hstage1_0 ((cfg1.slots t 0).cast nbuf1_0))
    (win1_1.stage (cfg1.slots t 1)) (hstage1_1 ((cfg1.slots t 1).cast nbuf1_1)) (rblk hr c 0 t) ((dat1 hr c).before 1 t d1)
  iapply (key _) $$ [B0 B1]
  · isplitl [B0]; · iexact B0
    iexact B1
  iintro ⟨B0, B1⟩
  isplitl [HR]; · iexact HR
  isplitl [HW]
  · iexists W
    isplitr
    · ipureintro; exact fun _ _ => Or.inl trivial
    iexact HW
  isplitl [B0]; · iexact B0
  iexact B1

theorem row1 (t : Fin cfg1.N) : defs₀ (F := F) .tc cfg1.body (cfg1.bodyArgs t (cfg1.slots t)) = bodyAt1 t := by
  unfold defs₀; rw [Defs.onTc_tc]

theorem obligation1 (c : Dev nD) : BodyObligation (dat1 hr c) defs₀ Variants.none () Set.univ := fun t => by
  rw [bigSep_W1, bigSep_W1, row1]
  exact triple_restated (sound1 hr c t) rfl .rfl fun _ => .rfl

end Cert.Experts

end
-- ==== Proof.ExpEnd.lean ====
/-
  The two calls in sequence: what each leaves, and the whole program's run — every argument as launched, the result what the
  second call's blocks make it, every semaphore at zero.
-/
module

public import proofs.«01_k».proof.Proof.ExpRun

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers
open Idealize.ShloMosaic.Rounds
open Idealize.ShloMosaic.Pipeline (Dat Cfg Window BodyObligation cellOf RegionSeg Seg HostSeg)

variable {F : FTy → Type} [FloatOps F]

local notation "𝕄" => MT nD τ sig Unit (Elt F) ℕ (UR sig nD τ) ℕ

variable {m : (ℓ : Loc nD τ sig) → Buf (Elt F) ℓ} (hr : InRange m)

/-- Both calls' proof data. -/
def pdats : (p : Fin 2) → (c : Dev nD) → Dat τ (Elt F) Unit ℕ (UR sig nD τ) ℕ (Pipeline.pin (pcfgs (F := F)) (adm hr) p) c
  | ⟨0, _⟩, c => dat0 hr c
  | ⟨1, _⟩, c => dat1 hr c

/-- The buffers after the second call. -/
abbrev Wy (c : Dev nD) : Valuation τ sig (Elt F) := Pipeline.afterRegion (dat1 hr c) (Wx hr c)

/-- What the calls leave in the buffers they write. -/
def outs : Outs (F := F) := fun J r c => if J = 2 then Wx hr c (Proc.devRef .tc r) else Wy hr c (Proc.devRef .tc r)

theorem outs_2 (r : Ref sig .tc) (c : Dev nD) : outs hr 2 r c = Wx hr c (Proc.devRef .tc r) := if_pos rfl
theorem outs_3 (r : Ref sig .tc) (c : Dev nD) : outs hr 3 r c = Wy hr c (Proc.devRef .tc r) := if_neg (by decide)

theorem V2_v4 (c : Dev nD) : V2 m (outs hr) c (Proc.devRef .tc main_v4) = Wx hr c (Proc.devRef .tc main_v4) :=
  (Function.update_self _ _ _).trans (outs_2 hr main_v4 c)
theorem V3_v5 (c : Dev nD) : V3 m (outs hr) c (Proc.devRef .tc main_v5) = Wy hr c (Proc.devRef .tc main_v5) :=
  (Function.update_self _ _ _).trans (outs_3 hr main_v5 c)

theorem out_of_0 : ∀ (r : Ref sig .tc), r ≠ main_v4 → ∀ w : Fin 6, Pipeline.arrRef spec0 w = r → (spec0 w).isOut = false := by
  intro r h w e
  subst e
  match w with
  | 0 => rfl
  | 1 => rfl
  | 2 => rfl
  | 3 => rfl
  | 4 => rfl
  | 5 => exact absurd rfl h

theorem out_of_1 : ∀ (r : Ref sig .tc), r ≠ main_v5 → ∀ w : Fin 2, Pipeline.arrRef spec1 w = r → (win1 w).isOut = false := by
  intro r h w e
  subst e
  match w with
  | 0 => rfl
  | 1 => exact absurd rfl h

theorem Wx_eq (c : Dev nD) (r : Ref sig .tc) : Wx hr c (Proc.devRef .tc r) = V2 m (outs hr) c (Proc.devRef .tc r) := by
  by_cases h : r = main_v4
  · rw [h]; exact (V2_v4 hr c).symm
  · exact (Pipeline.afterRegion_keeps (dat0 hr c) (V1 m c) winFacts0.arr_inj (A0_eq hr c) r (out_of_0 r h)).trans
      (V2_of m (outs hr) c r (by simpa using h)).symm

theorem Wy_eq (c : Dev nD) (r : Ref sig .tc) : Wy hr c (Proc.devRef .tc r) = V3 m (outs hr) c (Proc.devRef .tc r) := by
  by_cases h : r = main_v5
  · rw [h]; exact (V3_v5 hr c).symm
  · exact (Pipeline.afterRegion_keeps (dat1 hr c) (Wx hr c) winFacts1.arr_inj (A1_eq hr c) r (out_of_1 r h)).trans
      ((Wx_eq hr c r).trans (V3_of m (outs hr) c r (by simpa using h)).symm)

theorem held_x (c : Dev nD) : (StableHlo.held (c : Thread nD τ) (Pipeline.ucRefs τ sig) (Wx hr c) : sProp 𝕄)
    = StableHlo.held (c : Thread nD τ) (Pipeline.ucRefs τ sig) (V2 m (outs hr) c) :=
  StableHlo.held_congr (c : Thread nD τ) fun b hb => by
    obtain ⟨r, -, rfl⟩ := Finset.mem_map.mp (Finset.mem_filter.mp hb).1
    exact Wx_eq hr c r

theorem held_y (c : Dev nD) : (StableHlo.held (c : Thread nD τ) (Pipeline.ucRefs τ sig) (Wy hr c) : sProp 𝕄)
    = StableHlo.held (c : Thread nD τ) (Pipeline.ucRefs τ sig) (V3 m (outs hr) c) :=
  StableHlo.held_congr (c : Thread nD τ) fun b hb => by
    obtain ⟨r, -, rfl⟩ := Finset.mem_map.mp (Finset.mem_filter.mp hb).1
    exact Wy_eq hr c r

/-- Every TensorCore semaphore is at the one level. -/
def lvls (g : GSem nD τ sig) : Finset Unit := if g.1.2 = .tc then {()} else ∅

theorem cut_of (p : Fin 2) : Pipeline.LevelCut (pcfgs (F := F)) (adm hr) () lvls (fun _ _ => (0 : ℕ)) p (fun _ => 0) (fun _ => 0) where
  hι c w s := by unfold lvls; rw [if_pos rfl]; exact Finset.mem_singleton.mpr rfl
  hιb c w s := le_refl _
  hD c g i h := absurd h (lt_irrefl _)

theorem tabs_V1 (c : Dev nD) : ∀ k : Fin 2, tabs m k = V1 m c (Proc.devRef .tc (pre0.ref k)) := by
  obtain rfl : c = 0 := Subsingleton.elim _ _
  intro k
  match k with
  | 0 => exact (V1_of m 0 main_arg5 (by decide)).symm
  | 1 => exact (V1_of m 0 main_arg6 (by decide)).symm

def seg_x : RegionSeg (pcfgs (F := F)) (adm hr) (pdats hr) () defs₀ Variants.none lvls (fun _ _ => (0 : ℕ)) 0 :=
  RegionSeg.ofHeldInT (pcfgs (F := F)) (adm hr) (pdats hr) () defs₀ Variants.none lvls (fun _ _ => (0 : ℕ)) 0 (fun _ => 0) (Pipeline.ucRefs τ sig)
    (fun _ => iprop(emp)) (fun _ => iprop(emp)) launch0 (fun c => (obligation0 hr c).loose) (fun _ _ => rfl) (fun _ => rfl)
    (fun c w => (dat0 hr c).share_full (fun _ => rfl) w)
    (fun c => (by
      iintro ⟨⟨H, -⟩, HT⟩
      isplitl [H]; · iexact H
      iexact HT : iprop(iprop(Pipeline.scopedRest spec0 c ∗ emp) ∗ Pipeline.prefHeld pre0 c (fun _ => fullShare) (tabs m))
        ⊢ (iprop(Pipeline.scopedRest spec0 c ∗ Pipeline.prefHeld pre0 c (fun _ => fullShare) (tabs m)) : sProp 𝕄)))
    (fun c => (by
      iintro ⟨H, HT⟩
      isplitl [H]
      · isplitl [H]; · iexact H
        iempintro
      iexact HT : (iprop(Pipeline.scopedRest spec0 c ∗ Pipeline.prefHeld pre0 c (fun _ => fullShare) (tabs m)) : sProp 𝕄)
        ⊢ iprop(iprop(Pipeline.scopedRest spec0 c ∗ emp) ∗ Pipeline.prefHeld pre0 c (fun _ => fullShare) (tabs m))))
    (fun _ => 0) (cut_of hr 0) (fun _ => iprop(emp)) (V1 m) (fun _ _ => rfl) (tabs_V1)

def seg_y : RegionSeg (pcfgs (F := F)) (adm hr) (pdats hr) () defs₀ Variants.none lvls (fun _ _ => (0 : ℕ)) 1 :=
  RegionSeg.ofHeldIn (pcfgs (F := F)) (adm hr) (pdats hr) () defs₀ Variants.none lvls (fun _ _ => (0 : ℕ)) 1 (fun _ => 0) (Pipeline.ucRefs τ sig)
    (fun _ => iprop(emp)) (fun _ => iprop(emp)) launch1 rfl (fun c => (obligation1 hr c).loose) (fun _ _ => rfl) (fun _ => rfl)
    (fun c w => (dat1 hr c).share_full (fun _ => rfl) w)
    (fun c => (by
      iintro ⟨H, -⟩
      iexact H : iprop(Pipeline.scopedRest spec1 c ∗ emp) ⊢ (Pipeline.scopedRest spec1 c : sProp 𝕄)))
    (fun c => (by
      iintro H
      isplitl [H]; · iexact H
      iempintro : (Pipeline.scopedRest spec1 c : sProp 𝕄) ⊢ iprop(Pipeline.scopedRest spec1 c ∗ emp)))
    (fun _ => 0) (cut_of hr 1) (fun _ => iprop(emp)) (Wx hr) (fun _ _ => rfl)

/-- Beside the buffers a core holds only that it owes nothing. -/
def rest (_ : Fin 3) (c : Dev nD) : sProp 𝕄 := iprop((∃ W, owes (c : Thread nD τ) (0 : CellTallies nD τ sig Unit) W) ∗ emp ∗ emp)

theorem arr_x : Pipeline.arrRefs (τ := τ) (pcfgs (F := F) 0).spec ⊆ Pipeline.ucRefs τ sig :=
  Pipeline.arrRefs_sub_ucRefs spec0 (by decide)
theorem arr_y : Pipeline.arrRefs (τ := τ) (pcfgs (F := F) 1).spec ⊆ Pipeline.ucRefs τ sig :=
  Pipeline.arrRefs_sub_ucRefs spec1 (by decide)
theorem tbl_x : Pipeline.tblRefs (τ := τ) (pcfgs (F := F) 0).pre ⊆ Pipeline.ucRefs τ sig :=
  Pipeline.tblRefs_sub_ucRefs pre0 (by decide)

theorem enter_x (c : Dev nD) : iprop(StableHlo.held (c : Thread nD τ) (Pipeline.ucRefs τ sig) (V1 m c) ∗ rest 0 c) ⊢ (seg_x hr).pre c := by
  unfold seg_x rest
  exact RegionSeg.ofHeldInT_pre (pcs := pcfgs (F := F)) (a := adm hr) (pdats := pdats hr) (p := 0) (D := fun _ => 0) (S := Pipeline.ucRefs τ sig)
    (X := fun _ => iprop(emp)) (Y := fun _ => iprop(emp)) (R := fun _ => iprop(emp)) (W := V1 m) arr_x tbl_x c

theorem leave_x (c : Dev nD) : (seg_x hr).post c ⊢ iprop(StableHlo.held (c : Thread nD τ) (Pipeline.ucRefs τ sig) (V2 m (outs hr) c) ∗ rest 1 c) := by
  rw [← held_x]
  unfold seg_x rest
  exact RegionSeg.ofHeldInT_post arr_x tbl_x c

theorem enter_y (c : Dev nD) : iprop(StableHlo.held (c : Thread nD τ) (Pipeline.ucRefs τ sig) (V2 m (outs hr) c) ∗ rest 1 c) ⊢ (seg_y hr).pre c := by
  rw [← held_x]
  unfold seg_y rest
  exact RegionSeg.ofHeldIn_pre (pcs := pcfgs (F := F)) (a := adm hr) (pdats := pdats hr) (p := 1) (D := fun _ => 0) (S := Pipeline.ucRefs τ sig)
    (X := fun _ => iprop(emp)) (Y := fun _ => iprop(emp)) (R := fun _ => iprop(emp)) (W := Wx hr) arr_y c

theorem leave_y (c : Dev nD) : (seg_y hr).post c ⊢ iprop(StableHlo.held (c : Thread nD τ) (Pipeline.ucRefs τ sig) (V3 m (outs hr) c) ∗ rest 2 c) := by
  rw [← held_y]
  unfold seg_y rest
  exact RegionSeg.ofHeldIn_post arr_y c

variable (ρ : Dev nD → PrngReg)

theorem rest_of (c : Dev nD) : iprop(unscopedSems0 c ∗ owes (c : Thread nD τ) (0 : CellTallies nD τ sig Unit) ∅
      ∗ Pipeline.launchCred (fun _ : Dev nD => (0 : CellTallies nD τ sig Unit)) c ∗ prngReg c (ρ c) ∗ emp) ⊢ (rest 0 c : sProp 𝕄) := by
  unfold rest
  iintro ⟨-, HO, -, -, -⟩
  isplitl [HO]
  · iexists ∅
    iexact HO
  isplitl []
  · iempintro
  iempintro

theorem from_launch : iprop((bigSep Finset.univ fun c : Dev nD => iprop(unscopedSems0 c ∗ owes (c : Thread nD τ) (0 : CellTallies nD τ sig Unit) ∅
      ∗ Pipeline.launchCred (fun _ : Dev nD => (0 : CellTallies nD τ sig Unit)) c ∗ prngReg c (ρ c) ∗ emp)) ∗ levAts lvls (fun _ _ => (0 : ℕ)))
    ⊢ (|={Set.univ}=> bigSep Finset.univ (rest 0) : sProp 𝕄) := by
  have each : (bigSep Finset.univ fun c : Dev nD => iprop(unscopedSems0 c ∗ owes (c : Thread nD τ) (0 : CellTallies nD τ sig Unit) ∅
      ∗ Pipeline.launchCred (fun _ : Dev nD => (0 : CellTallies nD τ sig Unit)) c ∗ prngReg c (ρ c) ∗ emp)) ⊢ (bigSep Finset.univ (rest 0) : sProp 𝕄) :=
    bigSep_mono fun c _ => rest_of ρ c
  iintro ⟨H, -⟩
  imodintro
  iapply each
  iexact H

theorem hsplit : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ : Dev nD => (0 : CellTallies nD τ sig Unit)) c ∗ prngReg c (ρ c) ∗ emp))
    ⊢ (iprop((bigSep Finset.univ fun c : Dev nD => StableHlo.held (c : Thread nD τ) (Pipeline.ucRefs τ sig) (V0 m c))
        ∗ bigSep Finset.univ fun c : Dev nD => iprop(unscopedSems0 c ∗ owes (c : Thread nD τ) (0 : CellTallies nD τ sig Unit) ∅
          ∗ Pipeline.launchCred (fun _ : Dev nD => (0 : CellTallies nD τ sig Unit)) c ∗ prngReg c (ρ c) ∗ emp)) : sProp 𝕄) := by
  rw [← bigSep_sep']
  exact bigSep_mono fun c _ => by rw [← Pipeline.unscopedBufs_held (Ix := Unit) (Name := ℕ) (U := UR sig nD τ) (Lvl := ℕ) c (V0 m c)]; exact BI.Entails.refl _

theorem joined : iprop((bigSep Finset.univ fun c : Dev nD => StableHlo.held (c : Thread nD τ) (Pipeline.ucRefs τ sig) (V0 m c)) ∗ bigSep Finset.univ (rest 0))
    ⊢ (bigSep Finset.univ fun c : Dev nD => iprop(StableHlo.held (c : Thread nD τ) (Pipeline.ucRefs τ sig) (V0 m c) ∗ rest 0 c) : sProp 𝕄) := by
  rw [bigSep_sep']

/-- At the end core `c` has the arguments as launched and the result at `Wy`. -/
def atEnd (c : Dev nD) (s : (ℓ : Loc nD τ sig) → Buf (Elt F) ℓ) : Prop :=
  (s ((c.tc : Thread nD τ).loc main_v5) = Wy hr c (Proc.devRef .tc main_v5))
    ∧ s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)

set_option backward.isDefEq.respectTransparency.types false in
/-- The whole program runs. -/
theorem run_main : θ_run defs (onTc (τ := τ) (main (F := F))) ⟨m, fun _ => 0, ρ⟩ (fun r => (∀ c : Dev nD, atEnd hr c r.2.mem) ∧ r.2.sem = fun _ => 0) := by
  refine Pipeline.θ_run_regions_kit_dev_sems (pcfgs (F := F)) (adm hr) (pdats hr) () (cellOf_inj (adm hr)) emb₁ defs₀ Variants.none lvls (fun _ _ => (0 : ℕ)) m ρ main
    (segs m Variants.none lvls (fun _ _ => (0 : ℕ)) rest () (adm hr) (pdats hr) (seg_x hr) (seg_y hr))
    (fun c Q => by
      rewrite [main_chain c, Seg.run_eq_chain,
        show (segs m Variants.none lvls (fun _ _ => (0 : ℕ)) rest () (adm hr) (pdats hr) (seg_x hr) (seg_y hr) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0)
    (fun g h => if_neg h) (fun _ => iprop(emp))
    (initOf (Pipeline.cells (Pipeline.pin (pcfgs (F := F)) (adm hr)) (cellOf_inj (adm hr))) (Pipeline.launchToks (Pipeline.pin (pcfgs (F := F)) (adm hr)) (cellOf_inj (adm hr))))
    (by
      iintro Hu; imodintro
      isplitl [Hu]
      · iapply (show (ownU _ : sProp 𝕄) ⊢ BI.own (emb₁ (initOf (Pipeline.cells (Pipeline.pin (pcfgs (F := F)) (adm hr)) (cellOf_inj (adm hr)))
          (Pipeline.launchToks (Pipeline.pin (pcfgs (F := F)) (adm hr)) (cellOf_inj (adm hr))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V3 m (outs hr) c))
    (hch := fun c => ⟨.rfl, enter_x hr c, (leave_x hr c).trans (enter_y hr c), (leave_y hr c).trans (sep_mono .rfl (by
      unfold rest
      iintro ⟨H, -, -⟩
      iexact H))⟩)
    (hinit := ?_) (QY := fun c s => atEnd hr c s.mem)
    (hfin := fun c s' => ?_) (hQ := fun _ h hz => ⟨h, funext fun g => hz g (.inr (regions_no_unscoped g.2))⟩)
  · iintro ⟨H, Hla⟩
    ihave H' := hsplit ρ $$ H
    icases H' with ⟨Hh, Hr⟩
    imod from_launch ρ $$ [Hr Hla] with HE
    · isplitl [Hr]; · iexact Hr
      iexact Hla
    imodintro
    iapply joined
    isplitl [Hh]; · iexact Hh
    iexact HE
  · unfold StableHlo.held
    iintro ⟨Hh, HSI⟩
    ihave Hr := (pointsTo_read_all (Pipeline.ucRefs τ sig) (fun b => ((c : Thread nD τ).1, b)) (V3 m (outs hr) c) s') $$ [Hh HSI]
    · isplitl [Hh] <;> iassumption
    icases Hr with ⟨%h, HSI⟩
    imodintro
    isplitr
    · ipureintro
      exact ⟨(h (Proc.devRef .tc main_v5) (Finset.mem_filter.mpr ⟨StableHlo.devRef_mem_tcRefs main_v5, by decide⟩)).trans (V3_v5 hr c),
        (h (Proc.devRef .tc main_arg0) (Finset.mem_filter.mpr ⟨StableHlo.devRef_mem_tcRefs main_arg0, by decide⟩)).trans (V3_main_arg0 m (outs hr) c),
        (h (Proc.devRef .tc main_arg1) (Finset.mem_filter.mpr ⟨StableHlo.devRef_mem_tcRefs main_arg1, by decide⟩)).trans (V3_main_arg1 m (outs hr) c),
        (h (Proc.devRef .tc main_arg2) (Finset.mem_filter.mpr ⟨StableHlo.devRef_mem_tcRefs main_arg2, by decide⟩)).trans (V3_main_arg2 m (outs hr) c),
        (h (Proc.devRef .tc main_arg3) (Finset.mem_filter.mpr ⟨StableHlo.devRef_mem_tcRefs main_arg3, by decide⟩)).trans (V3_main_arg3 m (outs hr) c),
        (h (Proc.devRef .tc main_arg4) (Finset.mem_filter.mpr ⟨StableHlo.devRef_mem_tcRefs main_arg4, by decide⟩)).trans (V3_main_arg4 m (outs hr) c),
        (h (Proc.devRef .tc main_arg5) (Finset.mem_filter.mpr ⟨StableHlo.devRef_mem_tcRefs main_arg5, by decide⟩)).trans (V3_main_arg5 m (outs hr) c),
        (h (Proc.devRef .tc main_arg6) (Finset.mem_filter.mpr ⟨StableHlo.devRef_mem_tcRefs main_arg6, by decide⟩)).trans (V3_main_arg6 m (outs hr) c)⟩
    · iexact HSI

end Cert.Experts

end
-- ==== Proof.ExpReads.lean ====
/-
  The experts call's input blocks, read at one entry of the launch contents.
-/
module

public import proofs.«01_k».proof.Proof.ExpEnd
public import Idealize.ShloMosaic.Lib.Pointwise
public import Idealize.ShloMosaic.Lib.StableHlo.Run
public import Idealize.ShloMosaic.Lib.Pipeline.ValueKit
public import Idealize.ShloMosaic.Lib.Pipeline.Covers

@[expose] public section

set_option maxRecDepth 16384

noncomputable section

namespace Cert.Experts

open Cert.Kernel2Ideal Cert.Kernel2Ideal.Gen
open Idealize.ShloMosaic Idealize.ShloMosaic.TcCoe Idealize.SL.Sem Idealize.ShloMosaic.StableHlo
open Idealize.ShloMosaic.Pipeline

variable {m : (ℓ : Loc nD τ sig) → Buf (Elt Ideal) ℓ} (hr : InRange m) (c : Dev nD)

abbrev xOf (m : (ℓ : Loc nD τ sig) → Buf (Elt Ideal) ℓ) (c : Dev nD) : FVec Ideal S36864x1024 .f32 := m ((c : Thread nD τ).loc main_arg0)
abbrev nOf (m : (ℓ : Loc nD τ sig) → Buf (Elt Ideal) ℓ) (c : Dev nD) : FVec Ideal S1024 .f32 := m ((c : Thread nD τ).loc main_arg1)
abbrev aOf (m : (ℓ : Loc nD τ sig) → Buf (Elt Ideal) ℓ) (c : Dev nD) : FVec Ideal S8x1024x3584 .f32 := m ((c : Thread nD τ).loc main_arg2)
abbrev bOf (m : (ℓ : Loc nD τ sig) → Buf (Elt Ideal) ℓ) (c : Dev nD) : FVec Ideal S8x1024x3584 .f32 := m ((c : Thread nD τ).loc main_arg3)
abbrev dOf (m : (ℓ : Loc nD τ sig) → Buf (Elt Ideal) ℓ) (c : Dev nD) : FVec Ideal S8x3584x1024 .f32 := m ((c : Thread nD τ).loc main_arg4)

theorem V1_v0 : V1 m c (Proc.devRef .tc main_v0) = (truncf .bf16 (aOf m c) bitsLt_bf16_f32 : FVec Ideal S8x1024x3584 .bf16) := by
  dsimp only [V1, hostOps0]
  after_results
theorem V1_v1 : V1 m c (Proc.devRef .tc main_v1) = (truncf .bf16 (bOf m c) bitsLt_bf16_f32 : FVec Ideal S8x1024x3584 .bf16) := by
  dsimp only [V1, hostOps0]
  after_results
theorem V1_v2 : V1 m c (Proc.devRef .tc main_v2) = (truncf .bf16 (dOf m c) bitsLt_bf16_f32 : FVec Ideal S8x3584x1024 .bf16) := by
  dsimp only [V1, hostOps0]
  after_results
theorem V1_v3 : V1 m c (Proc.devRef .tc main_v3) = (shapeCast S1x1024 (nOf m c) shapeCasts_S1024_S1x1024 : FVec Ideal S1x1024 .f32) := by
  dsimp only [V1, hostOps0]
  after_results
  rfl

theorem coords_val : ∀ t : Fin grid0.N, (grid0.coords t 0).val = t.val ∧ t.val < 72 := by decide +kernel

theorem ix_0 (t : Fin (cfg0 (A0 hr)).N) : (pcfg0.win (A0 hr) 0).index t = ![(tileWord (nUsed (used m 0)) t.val).toNat, 0] := by
  refine (tr0_eq m (grid0.coords t)).trans ?_
  rw [(coords_val t).1]
theorem ix_1 (t : Fin (cfg0 (A0 hr)).N) : (pcfg0.win (A0 hr) 1).index t = ![0, 0] := rfl
theorem ix_2 (t : Fin (cfg0 (A0 hr)).N) (ht : t.val < 72) : (pcfg0.win (A0 hr) 2).index t = ![(tiles m 0 (tIx 0 ⟨t.val, ht⟩)).toNat, 0, 0] := by
  refine (tr2_eq m (grid0.coords t)).trans ?_
  simp only [(coords_val t).1]
theorem ix_3 (t : Fin (cfg0 (A0 hr)).N) (ht : t.val < 72) : (pcfg0.win (A0 hr) 3).index t = ![(tiles m 0 (tIx 0 ⟨t.val, ht⟩)).toNat, 0, 0] := by
  refine (tr3_eq m (grid0.coords t)).trans ?_
  simp only [(coords_val t).1]
theorem ix_4 (t : Fin (cfg0 (A0 hr)).N) (ht : t.val < 72) : (pcfg0.win (A0 hr) 4).index t = ![(tiles m 0 (tIx 0 ⟨t.val, ht⟩)).toNat, 0, 0] := by
  refine (tr4_eq m (grid0.coords t)).trans ?_
  simp only [(coords_val t).1]
theorem tr5_val : ∀ t : Fin grid0.N, cc0_transform_5 (grid0.coords t) = ![t.val, 0, 0] := by decide +kernel
theorem ix_5 (t : Fin (cfg0 (A0 hr)).N) : (pcfg0.win (A0 hr) 5).index t = ![t.val, 0, 0] := tr5_val t

theorem cov_5 : ((cfg0 (A0 hr)).win 5).Covers :=
  ((cfg0 (A0 hr)).win 5).covers_of_indexMap_surj rfl (by decide : ∀ a : Fin 3, 0 < (spec0 5).size a) fun β =>
    have h0 : (β (0 : Fin 3)).val < 72 := Nat.lt_of_lt_of_eq (β (0 : Fin 3)).isLt (show ((spec0 5).shape.size (0 : Fin 3) + (spec0 5).size (0 : Fin 3) - 1) / (spec0 5).size (0 : Fin 3) = 72 by decide)
    have h1 : (β (1 : Fin 3)).val < 1 := Nat.lt_of_lt_of_eq (β (1 : Fin 3)).isLt (show ((spec0 5).shape.size (1 : Fin 3) + (spec0 5).size (1 : Fin 3) - 1) / (spec0 5).size (1 : Fin 3) = 1 by decide)
    have h2 : (β (2 : Fin 3)).val < 1 := Nat.lt_of_lt_of_eq (β (2 : Fin 3)).isLt (show ((spec0 5).shape.size (2 : Fin 3) + (spec0 5).size (2 : Fin 3) - 1) / (spec0 5).size (2 : Fin 3) = 1 by decide)
    let i : grid0.Coords := fun a => match a with | 0 => ⟨(β (0 : Fin 3)).val, h0⟩
    ⟨i, show ∀ a : Fin 3, cc0_transform_5 i a = (β a).val from fun a => match a with
      | 0 => Nat.mod_eq_of_lt (Nat.lt_trans h0 (by decide))
      | 1 => (Nat.lt_one_iff.mp h1).symm
      | 2 => (Nat.lt_one_iff.mp h2).symm⟩

/-- Row `b` of tile `t`, in the whole table. -/
def rowIx (t : ℕ) (b : Fin 512) (ht : t < 72) : Fin 36864 := ⟨512 * t + b.val, by omega⟩

/-- The expert of tile `t`. -/
def expert (t : ℕ) (ht : t < 72) : Fin 8 := ⟨(tiles m 0 (tIx 0 ⟨t, ht⟩)).toNat, hr 0 ⟨t, ht⟩⟩

theorem read_x (t : Fin (cfg0 (A0 hr)).N) (ht : t.val < 72) (hl : (t.val : ℤ) < (nUsed (used m 0)).toInt) (b : Fin 512) (j : Fin 1024) :
    (eblk hr c 0 t : S512x1024.Idx → EReal) (ix2 b j) = xOf m c (ix2 (rowIx t.val b ht) j) := by
  have e := ix_0 hr t
  rw [tileWord_live _ ht hl] at e
  have hV : V1 m c (Proc.devRef .tc main_arg0) = xOf m c := V1_of m c main_arg0 (by decide)
  unfold rowIx
  blk_ext [eblk, hV, e]

theorem read_g (t : Fin (cfg0 (A0 hr)).N) (j : Fin 1024) :
    (eblk hr c 1 t : S1x1024.Idx → EReal) (ix2 0 j) = nOf m c (ix1 j) := by
  have e := ix_1 hr t
  have q : (eblk hr c 1 t : S1x1024.Idx → EReal) (ix2 0 j) = (shapeCast S1x1024 (nOf m c) shapeCasts_S1024_S1x1024 : FVec Ideal S1x1024 .f32) (ix2 0 j) := by
    blk_ext [eblk, V1_v3 c, e]
  rw [q]
  pointwise

theorem read_a (t : Fin (cfg0 (A0 hr)).N) (ht : t.val < 72) (k : Fin 1024) (f : Fin 3584) :
    (eblk hr c 2 t : S1x1024x3584.Idx → EReal) (ix3 0 k f) = aOf m c (ix3 (expert hr t.val ht) k f) := by
  have e := ix_2 hr t ht
  unfold expert
  blk_point [eblk, V1_v0 c, e]

theorem read_b (t : Fin (cfg0 (A0 hr)).N) (ht : t.val < 72) (k : Fin 1024) (f : Fin 3584) :
    (eblk hr c 3 t : S1x1024x3584.Idx → EReal) (ix3 0 k f) = bOf m c (ix3 (expert hr t.val ht) k f) := by
  have e := ix_3 hr t ht
  unfold expert
  blk_point [eblk, V1_v1 c, e]

theorem read_d (t : Fin (cfg0 (A0 hr)).N) (ht : t.val < 72) (f : Fin 3584) (j : Fin 1024) :
    (eblk hr c 4 t : S1x3584x1024.Idx → EReal) (ix3 0 f j) = dOf m c (ix3 (expert hr t.val ht) f j) := by
  have e := ix_4 hr t ht
  unfold expert
  blk_point [eblk, V1_v2 c, e]

end Cert.Experts
end
-- ==== Proof.ExpPay.lean ====
/-
  The experts' stored words, read at one entry: the sum over the seven chunks of the hidden size.
-/
module

public import proofs.«01_k».proof.Proof.ExpBody
public import proofs.«01_k».proof.Proof.Ref

@[expose] public section

set_option maxRecDepth 16384

noncomputable section

namespace Cert.Experts

open Cert.Kernel2Ideal Cert.Kernel2Ideal.Gen Cert.Kernel2Ideal.Facts
open Cert.CombineRef (normAt)
open Idealize.ShloMosaic Idealize.ShloMosaic.TcCoe Idealize.SL.Sem

/-- The gate's nonlinearity: a number times the logistic of it. -/
def act (z : EReal) : EReal := z * Ideal.div 1 (1 + Ideal.exp (-z))

/-- The matrix a block of the expert's first weights holds. -/
def mat (A : Vec Ideal S1x1024x512 .bf16) : FVec Ideal S1024x512 .bf16 := shapeCast S1024x512 A shapeCasts_S1x1024x512_S1024x512

/-- One hidden unit's contribution to entry `j`: `h` the normalized row, `A`, `B`, `D` the expert's weights. -/
def unitAt (h : Fin 1024 → EReal) (A B : S1x1024x3584.Idx → EReal) (D : S1x3584x1024.Idx → EReal) (j : Fin 1024) (f : Fin 3584) : EReal :=
  act (∑ k, h k * A (ix3 0 k f)) * (∑ k, h k * B (ix3 0 k f)) * D (ix3 0 f j)

/-- Unit `f` of chunk `n`. -/
def unit (n : Fin 7) (f : Fin 512) : Fin 3584 := ⟨n.val * 512 + f.val, by omega⟩

/-- One chunk of 512 hidden units. -/
def chunkAt (n : Fin 7) (h : Fin 1024 → EReal) (A B : S1x1024x3584.Idx → EReal) (D : S1x3584x1024.Idx → EReal) (j : Fin 1024) : EReal :=
  ∑ f, unitAt h A B D j (unit n f)

theorem chunks (h : Fin 1024 → EReal) (A B : S1x1024x3584.Idx → EReal) (D : S1x3584x1024.Idx → EReal) (j : Fin 1024) :
    0 + chunkAt 0 h A B D j + chunkAt 1 h A B D j + chunkAt 2 h A B D j + chunkAt 3 h A B D j + chunkAt 4 h A B D j + chunkAt 5 h A B D j + chunkAt 6 h A B D j
      = ∑ f, unitAt h A B D j f := by
  refine Eq.symm ((Fin.sum_univ_tiles 7 512 rfl (unitAt h A B D j)).trans ?_)
  rw [Fin.sum_univ_seven, zero_add]
  rfl
theorem mat_at (A : Vec Ideal S1x1024x512 .bf16) (k : Fin 1024) (f : Fin 512) : mat A (ix2 k f) = (A : S1x1024x512.Idx → EReal) (ix3 0 k f) := by
  pointwise [mat]

theorem cA0 (A : S1x1024x3584.Idx → Elt Ideal .bf16) (k : Fin 1024) (f : Fin 512) :
    (cut A rc0 : S1x1024x512.Idx → EReal) (ix3 0 k f) = (A : S1x1024x3584.Idx → EReal) (ix3 0 k (unit 0 f)) := by
  refine congrArg (A : S1x1024x3584.Idx → EReal) ?_
  funext a
  apply Fin.ext
  match a with
  | 0 => rfl
  | 1 => exact (Nat.zero_add _).trans (Nat.one_mul _)
  | 2 => exact congrArg (0 + ·) (Nat.one_mul f.val)

theorem cD0 (D : S1x3584x1024.Idx → Elt Ideal .bf16) (f : Fin 512) (j : Fin 1024) :
    (cut D rr0 : S1x512x1024.Idx → EReal) (ix3 0 f j) = (D : S1x3584x1024.Idx → EReal) (ix3 0 (unit 0 f) j) := by
  refine congrArg (D : S1x3584x1024.Idx → EReal) ?_
  funext a
  apply Fin.ext
  match a with
  | 0 => rfl
  | 1 => exact congrArg (0 + ·) (Nat.one_mul f.val)
  | 2 => exact (Nat.zero_add _).trans (Nat.one_mul _)

theorem cA1 (A : S1x1024x3584.Idx → Elt Ideal .bf16) (k : Fin 1024) (f : Fin 512) :
    (cut A rc1 : S1x1024x512.Idx → EReal) (ix3 0 k f) = (A : S1x1024x3584.Idx → EReal) (ix3 0 k (unit 1 f)) := by
  refine congrArg (A : S1x1024x3584.Idx → EReal) ?_
  funext a
  apply Fin.ext
  match a with
  | 0 => rfl
  | 1 => exact (Nat.zero_add _).trans (Nat.one_mul _)
  | 2 => exact congrArg (512 + ·) (Nat.one_mul f.val)

theorem cD1 (D : S1x3584x1024.Idx → Elt Ideal .bf16) (f : Fin 512) (j : Fin 1024) :
    (cut D rr1 : S1x512x1024.Idx → EReal) (ix3 0 f j) = (D : S1x3584x1024.Idx → EReal) (ix3 0 (unit 1 f) j) := by
  refine congrArg (D : S1x3584x1024.Idx → EReal) ?_
  funext a
  apply Fin.ext
  match a with
  | 0 => rfl
  | 1 => exact congrArg (512 + ·) (Nat.one_mul f.val)
  | 2 => exact (Nat.zero_add _).trans (Nat.one_mul _)

theorem cA2 (A : S1x1024x3584.Idx → Elt Ideal .bf16) (k : Fin 1024) (f : Fin 512) :
    (cut A rc2 : S1x1024x512.Idx → EReal) (ix3 0 k f) = (A : S1x1024x3584.Idx → EReal) (ix3 0 k (unit 2 f)) := by
  refine congrArg (A : S1x1024x3584.Idx → EReal) ?_
  funext a
  apply Fin.ext
  match a with
  | 0 => rfl
  | 1 => exact (Nat.zero_add _).trans (Nat.one_mul _)
  | 2 => exact congrArg (1024 + ·) (Nat.one_mul f.val)

theorem cD2 (D : S1x3584x1024.Idx → Elt Ideal .bf16) (f : Fin 512) (j : Fin 1024) :
    (cut D rr2 : S1x512x1024.Idx → EReal) (ix3 0 f j) = (D : S1x3584x1024.Idx → EReal) (ix3 0 (unit 2 f) j) := by
  refine congrArg (D : S1x3584x1024.Idx → EReal) ?_
  funext a
  apply Fin.ext
  match a with
  | 0 => rfl
  | 1 => exact congrArg (1024 + ·) (Nat.one_mul f.val)
  | 2 => exact (Nat.zero_add _).trans (Nat.one_mul _)

theorem cA3 (A : S1x1024x3584.Idx → Elt Ideal .bf16) (k : Fin 1024) (f : Fin 512) :
    (cut A rc3 : S1x1024x512.Idx → EReal) (ix3 0 k f) = (A : S1x1024x3584.Idx → EReal) (ix3 0 k (unit 3 f)) := by
  refine congrArg (A : S1x1024x3584.Idx → EReal) ?_
  funext a
  apply Fin.ext
  match a with
  | 0 => rfl
  | 1 => exact (Nat.zero_add _).trans (Nat.one_mul _)
  | 2 => exact congrArg (1536 + ·) (Nat.one_mul f.val)

theorem cD3 (D : S1x3584x1024.Idx → Elt Ideal .bf16) (f : Fin 512) (j : Fin 1024) :
    (cut D rr3 : S1x512x1024.Idx → EReal) (ix3 0 f j) = (D : S1x3584x1024.Idx → EReal) (ix3 0 (unit 3 f) j) := by
  refine congrArg (D : S1x3584x1024.Idx → EReal) ?_
  funext a
  apply Fin.ext
  match a with
  | 0 => rfl
  | 1 => exact congrArg (1536 + ·) (Nat.one_mul f.val)
  | 2 => exact (Nat.zero_add _).trans (Nat.one_mul _)

theorem cA4 (A : S1x1024x3584.Idx → Elt Ideal .bf16) (k : Fin 1024) (f : Fin 512) :
    (cut A rc4 : S1x1024x512.Idx → EReal) (ix3 0 k f) = (A : S1x1024x3584.Idx → EReal) (ix3 0 k (unit 4 f)) := by
  refine congrArg (A : S1x1024x3584.Idx → EReal) ?_
  funext a
  apply Fin.ext
  match a with
  | 0 => rfl
  | 1 => exact (Nat.zero_add _).trans (Nat.one_mul _)
  | 2 => exact congrArg (2048 + ·) (Nat.one_mul f.val)

theorem cD4 (D : S1x3584x1024.Idx → Elt Ideal .bf16) (f : Fin 512) (j : Fin 1024) :
    (cut D rr4 : S1x512x1024.Idx → EReal) (ix3 0 f j) = (D : S1x3584x1024.Idx → EReal) (ix3 0 (unit 4 f) j) := by
  refine congrArg (D : S1x3584x1024.Idx → EReal) ?_
  funext a
  apply Fin.ext
  match a with
  | 0 => rfl
  | 1 => exact congrArg (2048 + ·) (Nat.one_mul f.val)
  | 2 => exact (Nat.zero_add _).trans (Nat.one_mul _)

theorem cA5 (A : S1x1024x3584.Idx → Elt Ideal .bf16) (k : Fin 1024) (f : Fin 512) :
    (cut A rc5 : S1x1024x512.Idx → EReal) (ix3 0 k f) = (A : S1x1024x3584.Idx → EReal) (ix3 0 k (unit 5 f)) := by
  refine congrArg (A : S1x1024x3584.Idx → EReal) ?_
  funext a
  apply Fin.ext
  match a with
  | 0 => rfl
  | 1 => exact (Nat.zero_add _).trans (Nat.one_mul _)
  | 2 => exact congrArg (2560 + ·) (Nat.one_mul f.val)

theorem cD5 (D : S1x3584x1024.Idx → Elt Ideal .bf16) (f : Fin 512) (j : Fin 1024) :
    (cut D rr5 : S1x512x1024.Idx → EReal) (ix3 0 f j) = (D : S1x3584x1024.Idx → EReal) (ix3 0 (unit 5 f) j) := by
  refine congrArg (D : S1x3584x1024.Idx → EReal) ?_
  funext a
  apply Fin.ext
  match a with
  | 0 => rfl
  | 1 => exact congrArg (2560 + ·) (Nat.one_mul f.val)
  | 2 => exact (Nat.zero_add _).trans (Nat.one_mul _)

theorem cA6 (A : S1x1024x3584.Idx → Elt Ideal .bf16) (k : Fin 1024) (f : Fin 512) :
    (cut A rc6 : S1x1024x512.Idx → EReal) (ix3 0 k f) = (A : S1x1024x3584.Idx → EReal) (ix3 0 k (unit 6 f)) := by
  refine congrArg (A : S1x1024x3584.Idx → EReal) ?_
  funext a
  apply Fin.ext
  match a with
  | 0 => rfl
  | 1 => exact (Nat.zero_add _).trans (Nat.one_mul _)
  | 2 => exact congrArg (3072 + ·) (Nat.one_mul f.val)

theorem cD6 (D : S1x3584x1024.Idx → Elt Ideal .bf16) (f : Fin 512) (j : Fin 1024) :
    (cut D rr6 : S1x512x1024.Idx → EReal) (ix3 0 f j) = (D : S1x3584x1024.Idx → EReal) (ix3 0 (unit 6 f) j) := by
  refine congrArg (D : S1x3584x1024.Idx → EReal) ?_
  funext a
  apply Fin.ext
  match a with
  | 0 => rfl
  | 1 => exact congrArg (3072 + ·) (Nat.one_mul f.val)
  | 2 => exact (Nat.zero_add _).trans (Nat.one_mul _)

section Rows512

def prod512 (h : FVec Ideal S512x1024 .bf16) (W : FVec Ideal S1024x512 .bf16) : FVec Ideal S512x512 .f32 :=
  matmul dot_S512x1024_S1024x512_S512x512_1_0_0_1_n_n none h W (constant S512x512 .f32 0x00000000#32)

def gated512 (g u : FVec Ideal S512x512 .f32) : FVec Ideal S512x512 .f32 :=
  mulf (mulf g (divf (broadcast S512x512 (Scalar.ofBits .f32 0x3F800000#32)) (addf (broadcast S512x512 (Scalar.ofBits .f32 0x3F800000#32)) (exp (subf (broadcast S512x512 (Scalar.ofBits .f32 0x00000000#32)) g))))) u

def step512 (a : FVec Ideal S512x1024 .f32) (g u : FVec Ideal S512x512 .f32) (D : Vec Ideal S1x512x1024 .bf16) : FVec Ideal S512x1024 .f32 :=
  addf a (matmul dot_S512x512_S512x1024_S512x1024_1_0_0_1_n_n none (truncf .bf16 (gated512 g u) bitsLt_bf16_f32) (shapeCast S512x1024 D shapeCasts_S1x512x1024_S512x1024 : FVec Ideal S512x1024 .bf16)
    (constant S512x1024 .f32 0x00000000#32))

def packed512 (a : FVec Ideal S512x1024 .f32) : Vec Ideal S512x2x512 .bf16 :=
  interleaveRows S512x2x512 (shapeCast S512x1x512 (truncf .bf16 (extractStridedSlice S512x512 ![0, 0] a slices_S512x1024_o0_0_S512x512) bitsLt_bf16_f32 : FVec Ideal S512x512 .bf16) shapeCasts_S512x512_S512x1x512)
    (shapeCast S512x1x512 (truncf .bf16 (extractStridedSlice S512x512 ![0, 512] a slices_S512x1024_o0_512_S512x512) bitsLt_bf16_f32 : FVec Ideal S512x512 .bf16) shapeCasts_S512x512_S512x1x512) bitcasts_S512x2x512_w16_S512x1x512_w32

theorem prod512_at (h : FVec Ideal S512x1024 .bf16) (W : FVec Ideal S1024x512 .bf16) (b : Fin 512) (f : Fin 512) :
    prod512 h W (ix2 b f) = ∑ k, h (ix2 b k) * W (ix2 k f) := by
  pointwise [prod512]

theorem gated512_at (g u : FVec Ideal S512x512 .f32) (b : Fin 512) (f : Fin 512) :
    gated512 g u (ix2 b f) = act (g (ix2 b f)) * u (ix2 b f) := by
  pointwise [gated512, act]
  rw [zero_sub]

theorem step512_at (a : FVec Ideal S512x1024 .f32) (g u : FVec Ideal S512x512 .f32) (D : Vec Ideal S1x512x1024 .bf16) (b : Fin 512) (j : Fin 1024) :
    step512 a g u D (ix2 b j) = a (ix2 b j) + ∑ f, gated512 g u (ix2 b f) * (D : S1x512x1024.Idx → EReal) (ix3 0 f j) := by
  pointwise [step512]

theorem packed512_at (a : FVec Ideal S512x1024 .f32) (b : Fin 512) (p : Fin 2) (l : Fin 512) :
    (packed512 a : S512x2x512.Idx → EReal) (ix3 b p l) = a (ix2 b ⟨512 * p.val + l.val, by omega⟩) := by
  match p with
  | 0 => pointwise [packed512]
  | 1 => pointwise [packed512]

theorem norm512_at (x : Vec Ideal S512x1024 .f32) (g : Vec Ideal S1x1024 .f32) (b : Fin 512) (j : Fin 1024) :
    k0_pay3 x g (ix2 b j) = normAt (fun k => (x : S512x1024.Idx → EReal) (ix2 b k)) ((g : S1x1024.Idx → EReal) (ix2 0 j)) j := by
  pointwise [k0_pay3, normAt]

theorem chunk512_at (n : Fin 7) (a : FVec Ideal S512x1024 .f32) (h : FVec Ideal S512x1024 .bf16) (A' B' : Vec Ideal S1x1024x512 .bf16) (D' : Vec Ideal S1x512x1024 .bf16)
    (A B : S1x1024x3584.Idx → EReal) (D : S1x3584x1024.Idx → EReal)
    (hA : ∀ k f, (A' : S1x1024x512.Idx → EReal) (ix3 0 k f) = A (ix3 0 k (unit n f)))
    (hB : ∀ k f, (B' : S1x1024x512.Idx → EReal) (ix3 0 k f) = B (ix3 0 k (unit n f)))
    (hD : ∀ f j, (D' : S1x512x1024.Idx → EReal) (ix3 0 f j) = D (ix3 0 (unit n f) j)) (b : Fin 512) (j : Fin 1024) (v : EReal) (hv : a (ix2 b j) = v) :
    step512 a (prod512 h (mat A')) (prod512 h (mat B')) D' (ix2 b j) = v + chunkAt n (fun k => h (ix2 b k)) A B D j := by
  rw [step512_at, hv]
  refine congrArg (v + ·) (Finset.sum_congr rfl fun f _ => ?_)
  rw [gated512_at, prod512_at, prod512_at, hD]
  have e (M : Vec Ideal S1x1024x512 .bf16) (W : S1x1024x3584.Idx → EReal) (hM : ∀ k f, (M : S1x1024x512.Idx → EReal) (ix3 0 k f) = W (ix3 0 k (unit n f))) :
      ∑ k, h (ix2 b k) * mat M (ix2 k f) = ∑ k, h (ix2 b k) * W (ix3 0 k (unit n f)) :=
    Finset.sum_congr rfl fun k _ => by rw [mat_at, hM]
  rw [e A' A hA, e B' B hB]
  rfl

variable (X : S512x1024.Idx → Elt Ideal .f32) (G : S1x1024.Idx → Elt Ideal .f32) (A B : S1x1024x3584.Idx → Elt Ideal .bf16) (D : S1x3584x1024.Idx → Elt Ideal .bf16)

theorem bout_eq : bout X G A B D = packed512 (step512 (step512 (step512 (step512 (step512 (step512 (step512 (broadcast S512x1024 (Scalar.ofBits .f32 0x00000000#32))
      (prod512 (bh X G) (mat (cut A rc0))) (prod512 (bh X G) (mat (cut B rc0))) (cut D rr0))
      (prod512 (bh X G) (mat (cut A rc1))) (prod512 (bh X G) (mat (cut B rc1))) (cut D rr1))
      (prod512 (bh X G) (mat (cut A rc2))) (prod512 (bh X G) (mat (cut B rc2))) (cut D rr2))
      (prod512 (bh X G) (mat (cut A rc3))) (prod512 (bh X G) (mat (cut B rc3))) (cut D rr3))
      (prod512 (bh X G) (mat (cut A rc4))) (prod512 (bh X G) (mat (cut B rc4))) (cut D rr4))
      (prod512 (bh X G) (mat (cut A rc5))) (prod512 (bh X G) (mat (cut B rc5))) (cut D rr5))
      (prod512 (bh X G) (mat (cut A rc6))) (prod512 (bh X G) (mat (cut B rc6))) (cut D rr6)) := rfl

theorem bout_at (b : Fin 512) (p : Fin 2) (l : Fin 512) :
    (bout X G A B D : S512x2x512.Idx → EReal) (ix3 b p l)
      = ∑ f, unitAt (fun k => bh X G (ix2 b k)) A B D ⟨512 * p.val + l.val, by omega⟩ f := by
  rw [bout_eq, packed512_at, ← chunks]
  exact chunk512_at 6 _ _ _ _ _ A B D (cA6 A) (cA6 B) (cD6 D) b _ _ (chunk512_at 5 _ _ _ _ _ A B D (cA5 A) (cA5 B) (cD5 D) b _ _
    (chunk512_at 4 _ _ _ _ _ A B D (cA4 A) (cA4 B) (cD4 D) b _ _ (chunk512_at 3 _ _ _ _ _ A B D (cA3 A) (cA3 B) (cD3 D) b _ _
    (chunk512_at 2 _ _ _ _ _ A B D (cA2 A) (cA2 B) (cD2 D) b _ _ (chunk512_at 1 _ _ _ _ _ A B D (cA1 A) (cA1 B) (cD1 D) b _ _
    (chunk512_at 0 _ _ _ _ _ A B D (cA0 A) (cA0 B) (cD0 D) b _ _ (Ideal.ofBits_zero FTy.f32)))))))

end Rows512

section Rows256

def prod256 (h : FVec Ideal S256x1024 .bf16) (W : FVec Ideal S1024x512 .bf16) : FVec Ideal S256x512 .f32 :=
  matmul dot_S256x1024_S1024x512_S256x512_1_0_0_1_n_n none h W (constant S256x512 .f32 0x00000000#32)

def gated256 (g u : FVec Ideal S256x512 .f32) : FVec Ideal S256x512 .f32 :=
  mulf (mulf g (divf (broadcast S256x512 (Scalar.ofBits .f32 0x3F800000#32)) (addf (broadcast S256x512 (Scalar.ofBits .f32 0x3F800000#32)) (exp (subf (broadcast S256x512 (Scalar.ofBits .f32 0x00000000#32)) g))))) u

def step256 (a : FVec Ideal S256x1024 .f32) (g u : FVec Ideal S256x512 .f32) (D : Vec Ideal S1x512x1024 .bf16) : FVec Ideal S256x1024 .f32 :=
  addf a (matmul dot_S256x512_S512x1024_S256x1024_1_0_0_1_n_n none (truncf .bf16 (gated256 g u) bitsLt_bf16_f32) (shapeCast S512x1024 D shapeCasts_S1x512x1024_S512x1024 : FVec Ideal S512x1024 .bf16)
    (constant S256x1024 .f32 0x00000000#32))

def packed256 (a : FVec Ideal S256x1024 .f32) : Vec Ideal S256x2x512 .bf16 :=
  interleaveRows S256x2x512 (shapeCast S256x1x512 (truncf .bf16 (extractStridedSlice S256x512 ![0, 0] a slices_S256x1024_o0_0_S256x512) bitsLt_bf16_f32 : FVec Ideal S256x512 .bf16) shapeCasts_S256x512_S256x1x512)
    (shapeCast S256x1x512 (truncf .bf16 (extractStridedSlice S256x512 ![0, 512] a slices_S256x1024_o0_512_S256x512) bitsLt_bf16_f32 : FVec Ideal S256x512 .bf16) shapeCasts_S256x512_S256x1x512) bitcasts_S256x2x512_w16_S256x1x512_w32

theorem prod256_at (h : FVec Ideal S256x1024 .bf16) (W : FVec Ideal S1024x512 .bf16) (b : Fin 256) (f : Fin 512) :
    prod256 h W (ix2 b f) = ∑ k, h (ix2 b k) * W (ix2 k f) := by
  pointwise [prod256]

theorem gated256_at (g u : FVec Ideal S256x512 .f32) (b : Fin 256) (f : Fin 512) :
    gated256 g u (ix2 b f) = act (g (ix2 b f)) * u (ix2 b f) := by
  pointwise [gated256, act]
  rw [zero_sub]

theorem step256_at (a : FVec Ideal S256x1024 .f32) (g u : FVec Ideal S256x512 .f32) (D : Vec Ideal S1x512x1024 .bf16) (b : Fin 256) (j : Fin 1024) :
    step256 a g u D (ix2 b j) = a (ix2 b j) + ∑ f, gated256 g u (ix2 b f) * (D : S1x512x1024.Idx → EReal) (ix3 0 f j) := by
  pointwise [step256]

theorem packed256_at (a : FVec Ideal S256x1024 .f32) (b : Fin 256) (p : Fin 2) (l : Fin 512) :
    (packed256 a : S256x2x512.Idx → EReal) (ix3 b p l) = a (ix2 b ⟨512 * p.val + l.val, by omega⟩) := by
  match p with
  | 0 => pointwise [packed256]
  | 1 => pointwise [packed256]

theorem norm256_at (x : Vec Ideal S256x1024 .f32) (g : Vec Ideal S1x1024 .f32) (b : Fin 256) (j : Fin 1024) :
    k0_pay13 x g (ix2 b j) = normAt (fun k => (x : S256x1024.Idx → EReal) (ix2 b k)) ((g : S1x1024.Idx → EReal) (ix2 0 j)) j := by
  pointwise [k0_pay13, normAt]

theorem chunk256_at (n : Fin 7) (a : FVec Ideal S256x1024 .f32) (h : FVec Ideal S256x1024 .bf16) (A' B' : Vec Ideal S1x1024x512 .bf16) (D' : Vec Ideal S1x512x1024 .bf16)
    (A B : S1x1024x3584.Idx → EReal) (D : S1x3584x1024.Idx → EReal)
    (hA : ∀ k f, (A' : S1x1024x512.Idx → EReal) (ix3 0 k f) = A (ix3 0 k (unit n f)))
    (hB : ∀ k f, (B' : S1x1024x512.Idx → EReal) (ix3 0 k f) = B (ix3 0 k (unit n f)))
    (hD : ∀ f j, (D' : S1x512x1024.Idx → EReal) (ix3 0 f j) = D (ix3 0 (unit n f) j)) (b : Fin 256) (j : Fin 1024) (v : EReal) (hv : a (ix2 b j) = v) :
    step256 a (prod256 h (mat A')) (prod256 h (mat B')) D' (ix2 b j) = v + chunkAt n (fun k => h (ix2 b k)) A B D j := by
  rw [step256_at, hv]
  refine congrArg (v + ·) (Finset.sum_congr rfl fun f _ => ?_)
  rw [gated256_at, prod256_at, prod256_at, hD]
  have e (M : Vec Ideal S1x1024x512 .bf16) (W : S1x1024x3584.Idx → EReal) (hM : ∀ k f, (M : S1x1024x512.Idx → EReal) (ix3 0 k f) = W (ix3 0 k (unit n f))) :
      ∑ k, h (ix2 b k) * mat M (ix2 k f) = ∑ k, h (ix2 b k) * W (ix3 0 k (unit n f)) :=
    Finset.sum_congr rfl fun k _ => by rw [mat_at, hM]
  rw [e A' A hA, e B' B hB]
  rfl

variable (X : S512x1024.Idx → Elt Ideal .f32) (G : S1x1024.Idx → Elt Ideal .f32) (A B : S1x1024x3584.Idx → Elt Ideal .bf16) (D : S1x3584x1024.Idx → Elt Ideal .bf16)

theorem sout_eq : sout X G A B D = packed256 (step256 (step256 (step256 (step256 (step256 (step256 (step256 (broadcast S256x1024 (Scalar.ofBits .f32 0x00000000#32))
      (prod256 (sh X G) (mat (cut A rc0))) (prod256 (sh X G) (mat (cut B rc0))) (cut D rr0))
      (prod256 (sh X G) (mat (cut A rc1))) (prod256 (sh X G) (mat (cut B rc1))) (cut D rr1))
      (prod256 (sh X G) (mat (cut A rc2))) (prod256 (sh X G) (mat (cut B rc2))) (cut D rr2))
      (prod256 (sh X G) (mat (cut A rc3))) (prod256 (sh X G) (mat (cut B rc3))) (cut D rr3))
      (prod256 (sh X G) (mat (cut A rc4))) (prod256 (sh X G) (mat (cut B rc4))) (cut D rr4))
      (prod256 (sh X G) (mat (cut A rc5))) (prod256 (sh X G) (mat (cut B rc5))) (cut D rr5))
      (prod256 (sh X G) (mat (cut A rc6))) (prod256 (sh X G) (mat (cut B rc6))) (cut D rr6)) := rfl

theorem sout_at (b : Fin 256) (p : Fin 2) (l : Fin 512) :
    (sout X G A B D : S256x2x512.Idx → EReal) (ix3 b p l)
      = ∑ f, unitAt (fun k => sh X G (ix2 b k)) A B D ⟨512 * p.val + l.val, by omega⟩ f := by
  rw [sout_eq, packed256_at, ← chunks]
  exact chunk256_at 6 _ _ _ _ _ A B D (cA6 A) (cA6 B) (cD6 D) b _ _ (chunk256_at 5 _ _ _ _ _ A B D (cA5 A) (cA5 B) (cD5 D) b _ _
    (chunk256_at 4 _ _ _ _ _ A B D (cA4 A) (cA4 B) (cD4 D) b _ _ (chunk256_at 3 _ _ _ _ _ A B D (cA3 A) (cA3 B) (cD3 D) b _ _
    (chunk256_at 2 _ _ _ _ _ A B D (cA2 A) (cA2 B) (cD2 D) b _ _ (chunk256_at 1 _ _ _ _ _ A B D (cA1 A) (cA1 B) (cD1 D) b _ _
    (chunk256_at 0 _ _ _ _ _ A B D (cA0 A) (cA0 B) (cD0 D) b _ _ (Ideal.ofBits_zero FTy.f32)))))))

end Rows256

end Cert.Experts

end
-- ==== Proof.ExpLive.lean ====
/-
  The block the experts store for a tile in use, at a row that holds a token.
-/
module

public import proofs.«01_k».proof.Proof.ExpPay

@[expose] public section

set_option maxRecDepth 16384

noncomputable section

namespace Cert.Experts

open Cert.Kernel2Ideal Cert.Kernel2Ideal.Gen
open Cert.CombineRef (normAt)
open Idealize.ShloMosaic Idealize.ShloMosaic.TcCoe Idealize.SL.Sem

variable (X : S512x1024.Idx → Elt Ideal .f32) (G : S1x1024.Idx → Elt Ideal .f32) (A B : S1x1024x3584.Idx → Elt Ideal .bf16) (D : S1x3584x1024.Idx → Elt Ideal .bf16)

theorem rX_at (b : Fin 256) (k : Fin 1024) : (cut X rX : S256x1024.Idx → EReal) (ix2 b k) = (X : S512x1024.Idx → EReal) (ix2 (⟨b.val, by omega⟩ : Fin 512) k) := by
  refine congrArg (X : S512x1024.Idx → EReal) ?_
  funext a
  apply Fin.ext
  match a with
  | 0 => exact (Nat.zero_add _).trans (Nat.one_mul _)
  | 1 => exact (Nat.zero_add _).trans (Nat.one_mul _)

theorem rU_at (b : Fin 256) (p : Fin 2) (l : Fin 512) : rU.emb (ix3 b p l : S256x2x512.Idx) = (ix3 (⟨b.val, by omega⟩ : Fin 512) p l : S512x2x512.Idx) := by
  funext a
  apply Fin.ext
  match a with
  | 0 => exact (Nat.zero_add _).trans (Nat.one_mul _)
  | 1 => exact (Nat.zero_add _).trans (Nat.one_mul _)
  | 2 => exact (Nat.zero_add _).trans (Nat.one_mul _)

theorem half_at (b : Fin 256) (p : Fin 2) (l : Fin 512) :
    (halfOut X G A B D : S512x2x512.Idx → EReal) (ix3 (⟨b.val, by omega⟩ : Fin 512) p l) = (sout X G A B D : S256x2x512.Idx → EReal) (ix3 b p l) := by
  unfold halfOut
  rw [over_off]
  · rw [← rU_at b p l, over_emb]
  · rintro ⟨y, hy⟩
    have h := congrArg (fun i : S512x2x512.Idx => (i 0).val) hy
    change 256 + 1 * (y 0).val = b.val at h
    omega

/-- Entry `(b, p, l)` of the block of a tile in use, `b` below the tile's count of tokens: row `b`, normalized, through the
    expert whose weights are `A`, `B`, `D`, at entry `512 p + l`. -/
theorem live (i : grid0.Coords) (v0 v3 : BitVec 32) (b : Fin 512) (p : Fin 2) (l : Fin 512) (hi : ((i 0).val : ℤ) < v0.toInt) (hb : (b.val : ℤ) < v3.toInt) :
    (outBlk X G A B D i v0 v3 : S512x2x512.Idx → EReal) (ix3 b p l)
      = ∑ f, unitAt (fun k => normAt (fun k' => (X : S512x1024.Idx → EReal) (ix2 b k')) ((G : S1x1024.Idx → EReal) (ix2 0 k)) k) A B D ⟨512 * p.val + l.val, by omega⟩ f := by
  unfold outBlk
  by_cases h : 256 < v3.toInt
  · rw [if_pos ((cond1_iff i v0 v3).2 ⟨hi, h⟩), bout_at]
    have e : (fun k => bh X G (ix2 b k)) = fun k => normAt (fun k' => (X : S512x1024.Idx → EReal) (ix2 b k')) ((G : S1x1024.Idx → EReal) (ix2 0 k)) k :=
      funext fun k => norm512_at X G b k
    rw [e]
  · have hb' : b.val < 256 := by omega
    rw [if_neg fun q => h ((cond1_iff i v0 v3).1 q).2, if_pos ((cond2_iff i v0 v3).2 ⟨hi, by omega⟩)]
    refine (half_at X G A B D ⟨b.val, hb'⟩ p l).trans ?_
    rw [sout_at]
    have e : (fun k => sh X G (ix2 (⟨b.val, hb'⟩ : Fin 256) k)) = fun k => normAt (fun k' => (X : S512x1024.Idx → EReal) (ix2 b k')) ((G : S1x1024.Idx → EReal) (ix2 0 k)) k :=
      funext fun k => (norm256_at (cut X rX) G ⟨b.val, hb'⟩ k).trans (congrArg (fun h => normAt h ((G : S1x1024.Idx → EReal) (ix2 0 k)) k) (funext fun k' => rX_at X ⟨b.val, hb'⟩ k'))
    rw [e]

end Cert.Experts
end
-- ==== Proof.ExpRef.lean ====
/-
  The reference's term for the experts call, read at one entry.
-/
module

public import proofs.«01_k».proof.Proof.Gen.Reference2Ideal.Run
public import proofs.«01_k».proof.Proof.Ref
public import Idealize.ShloMosaic.Lib.Pointwise
public import Idealize.ShloMosaic.Lib.WordCmp

@[expose] public section

set_option maxRecDepth 16384

noncomputable section

namespace Cert.ExpertsRef

open Cert.Reference2Ideal Cert.Reference2Ideal.Gen
open Idealize.ShloMosaic Idealize.ShloMosaic.TcCoe Idealize.SL.Sem Idealize.ShloMosaic.StableHlo
open Cert.CombineRef (normAt)

/-- The rows over the root of their mean square, times the gains. -/
def ROWS (x : FVec Ideal S36864x1024 .f32) (g : FVec Ideal S1024 .f32) : FVec Ideal S36864x1024 .f32 :=
  mulf (mulf x (broadcastInDim S36864x1024 ![0, 1] bcast_S36864x1_S36864x1024_0_1 (Host.rsqrt (addf (Host.divf (broadcastInDim S36864x1 ![0] bcast_S36864_S36864x1_0 (Host.reduceAdd (mulf x x) (constant S_ .f32 0x00000000#32) reducesTo_S36864x1024_S36864_d1 h_S_)) (broadcastInDim S36864x1 ![] bcast_S_S36864x1 (constant S_ .f32 0x44800000#32))) (broadcastInDim S36864x1 ![] bcast_S_S36864x1 (constant S_ .f32 0x358637BD#32)))))) (broadcastInDim S36864x1024 ![0, 1] bcast_S1x1024_S36864x1024_0_1 (broadcastInDim S1x1024 ![1] bcast_S1024_S1x1024_1 g))

/-- Row by row, one for the expert of the row's tile and zero for the others. -/
def HOT (ti : IVec S2x72 32) : FVec Ideal S36864x8 .f32 :=
  uitofp .f32 (cmpi .eq (broadcastInDim S36864x8 ![0, 1] bcast_S36864x1_S36864x8_0_1 (broadcastInDim S36864x1 ![0] bcast_S36864_S36864x1_0 (shapeCast S36864 (broadcastInDim S72x512 ![0] bcast_S72_S72x512_0 (shapeCast S72 (extractStridedSlice S1x72 ![0, 0] ti slices_S2x72_S1x72_0_0) shapeCasts_S1x72_S72)) shapeCasts_S72x512_S36864))) (broadcastInDim S36864x8 ![0, 1] bcast_S1x8_S36864x8_0_1 (iotaInDim S1x8 32 1)))

/-- The rows through one expert's first weights. -/
def PROD (h : FVec Ideal S36864x1024 .f32) (W : FVec Ideal S1024x3584 .f32) : FVec Ideal S36864x3584 .f32 :=
  Host.dotGeneral dot_S36864x1024_S1024x3584_S36864x3584_1_0_0_1_n_n none h W

/-- The gated hidden units. -/
def GATED (z u : FVec Ideal S36864x3584 .f32) : FVec Ideal S36864x3584 .f32 :=
  mulf (mulf z (Host.divf (broadcastInDim S36864x3584 ![] bcast_S_S36864x3584 (constant S_ .f32 0x3F800000#32)) (addf (broadcastInDim S36864x3584 ![] bcast_S_S36864x3584 (constant S_ .f32 0x3F800000#32)) (Host.exp (Host.negf z))))) u

/-- The rows through one expert. -/
def MLP (h : FVec Ideal S36864x1024 .f32) (A B : FVec Ideal S1024x3584 .f32) (D : FVec Ideal S3584x1024 .f32) : FVec Ideal S36864x1024 .f32 :=
  Host.dotGeneral dot_S36864x3584_S3584x1024_S36864x1024_1_0_0_1_n_n none (GATED (PROD h A) (PROD h B)) D

/-- One column of `HOT` over a row. -/
def COL (e : ℕ) (H : FVec Ideal S36864x8 .f32) (sl : S36864x8.Slices ![0, e] S36864x1) : FVec Ideal S36864x1024 .f32 :=
  broadcastInDim S36864x1024 ![0, 1] bcast_S36864x1_S36864x1024_0_1 (extractStridedSlice S36864x1 ![0, e] H sl)

/-- One expert's first weights. -/
def UP (e : ℕ) (W : FVec Ideal S8x1024x3584 .f32) (sl : S8x1024x3584.Slices ![e, 0, 0] S1x1024x3584) : FVec Ideal S1024x3584 .f32 :=
  shapeCast S1024x3584 (extractStridedSlice S1x1024x3584 ![e, 0, 0] W sl) shapeCasts_S1x1024x3584_S1024x3584

/-- One expert's second weights. -/
def DOWN (e : ℕ) (W : FVec Ideal S8x3584x1024 .f32) (sl : S8x3584x1024.Slices ![e, 0, 0] S1x3584x1024) : FVec Ideal S3584x1024 .f32 :=
  shapeCast S3584x1024 (extractStridedSlice S1x3584x1024 ![e, 0, 0] W sl) shapeCasts_S1x3584x1024_S3584x1024

/-- One expert's rows, kept where the row is that expert's. -/
def PART (e : ℕ) (h : FVec Ideal S36864x1024 .f32) (H : FVec Ideal S36864x8 .f32) (A B : FVec Ideal S8x1024x3584 .f32) (D : FVec Ideal S8x3584x1024 .f32)
    (s : S36864x8.Slices ![0, e] S36864x1) (a : S8x1024x3584.Slices ![e, 0, 0] S1x1024x3584) (d : S8x3584x1024.Slices ![e, 0, 0] S1x3584x1024) : FVec Ideal S36864x1024 .f32 :=
  mulf (COL e H s) (MLP h (UP e A a) (UP e B a) (DOWN e D d))

/-- The sum over the eight experts. -/
def ALL (h : FVec Ideal S36864x1024 .f32) (H : FVec Ideal S36864x8 .f32) (A B : FVec Ideal S8x1024x3584 .f32) (D : FVec Ideal S8x3584x1024 .f32) : FVec Ideal S36864x1024 .f32 :=
  addf (addf (addf (addf (addf (addf (addf (addf (broadcastInDim S36864x1024 ![] bcast_S_S36864x1024 (constant S_ .f32 0x00000000#32)) (PART 0 h H A B D slices_S36864x8_S36864x1_0_0 slices_S8x1024x3584_S1x1024x3584_0_0_0 slices_S8x3584x1024_S1x3584x1024_0_0_0)) (PART 1 h H A B D slices_S36864x8_S36864x1_0_1 slices_S8x1024x3584_S1x1024x3584_1_0_0 slices_S8x3584x1024_S1x3584x1024_1_0_0)) (PART 2 h H A B D slices_S36864x8_S36864x1_0_2 slices_S8x1024x3584_S1x1024x3584_2_0_0 slices_S8x3584x1024_S1x3584x1024_2_0_0)) (PART 3 h H A B D slices_S36864x8_S36864x1_0_3 slices_S8x1024x3584_S1x1024x3584_3_0_0 slices_S8x3584x1024_S1x3584x1024_3_0_0)) (PART 4 h H A B D slices_S36864x8_S36864x1_0_4 slices_S8x1024x3584_S1x1024x3584_4_0_0 slices_S8x3584x1024_S1x3584x1024_4_0_0)) (PART 5 h H A B D slices_S36864x8_S36864x1_0_5 slices_S8x1024x3584_S1x1024x3584_5_0_0 slices_S8x3584x1024_S1x3584x1024_5_0_0)) (PART 6 h H A B D slices_S36864x8_S36864x1_0_6 slices_S8x1024x3584_S1x1024x3584_6_0_0 slices_S8x3584x1024_S1x3584x1024_6_0_0)) (PART 7 h H A B D slices_S36864x8_S36864x1_0_7 slices_S8x1024x3584_S1x1024x3584_7_0_0 slices_S8x3584x1024_S1x3584x1024_7_0_0)

/-- The reference's result from memory `m`. -/
def refOut (m : (ℓ : Loc nD τ sig) → Buf (Elt Ideal) ℓ) (c : Dev nD) : FVec Ideal S36864x1024 .f32 :=
  ALL (ROWS (m ((c.tc : Thread nD τ).loc main_arg0)) (m ((c.tc : Thread nD τ).loc main_arg1))) (HOT (m ((c.tc : Thread nD τ).loc main_arg5)))
    (m ((c.tc : Thread nD τ).loc main_arg2)) (m ((c.tc : Thread nD τ).loc main_arg3)) (m ((c.tc : Thread nD τ).loc main_arg4))

/-- The reference runs to `refOut` and keeps its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v138) = refOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (show _ = refOut m c from rfl), (h c).2⟩) (Value.run m ρ)

/-- `x` over one plus the exponential of its negation. -/
def act (z : EReal) : EReal := z * Ideal.div 1 (1 + Ideal.exp (-z))

/-- One row through one expert, entry `j`. -/
def outAt (h : Fin 1024 → EReal) (A B : Fin 1024 → Fin 3584 → EReal) (D : Fin 3584 → Fin 1024 → EReal) (j : Fin 1024) : EReal :=
  ∑ f, act (∑ k, h k * A k f) * (∑ k, h k * B k f) * D f j

theorem rows_at (x : FVec Ideal S36864x1024 .f32) (g : FVec Ideal S1024 .f32) (r : Fin 36864) (j : Fin 1024) :
    ROWS x g (ix2 r j) = normAt (fun k => x (ix2 r k)) (g (ix1 j)) j := by
  pointwise [ROWS, normAt]

theorem prod_at (h : FVec Ideal S36864x1024 .f32) (W : FVec Ideal S1024x3584 .f32) (r : Fin 36864) (f : Fin 3584) :
    PROD h W (ix2 r f) = ∑ k : Fin 1024, h (ix2 r k) * W (ix2 k f) := by
  pointwise [PROD]

theorem gated_at (z u : FVec Ideal S36864x3584 .f32) (r : Fin 36864) (f : Fin 3584) :
    GATED z u (ix2 r f) = act (z (ix2 r f)) * u (ix2 r f) := by
  pointwise [GATED, act]

theorem down_dot (z : FVec Ideal S36864x3584 .f32) (D : FVec Ideal S3584x1024 .f32) (r : Fin 36864) (j : Fin 1024) :
    Host.dotGeneral dot_S36864x3584_S3584x1024_S36864x1024_1_0_0_1_n_n none z D (ix2 r j) = ∑ f : Fin 3584, z (ix2 r f) * D (ix2 f j) := by
  pointwise

theorem mlp_at (h : FVec Ideal S36864x1024 .f32) (A B : FVec Ideal S1024x3584 .f32) (D : FVec Ideal S3584x1024 .f32) (r : Fin 36864) (j : Fin 1024) :
    MLP h A B D (ix2 r j) = outAt (fun k => h (ix2 r k)) (fun k f => A (ix2 k f)) (fun k f => B (ix2 k f)) (fun f j => D (ix2 f j)) j := by
  unfold MLP outAt
  rw [down_dot]
  exact Finset.sum_congr rfl fun f _ => by rw [gated_at, prod_at, prod_at]

theorem col_at (e : Fin 8) (H : FVec Ideal S36864x8 .f32) (sl : S36864x8.Slices ![0, e.val] S36864x1) (r : Fin 36864) (j : Fin 1024) :
    COL e.val H sl (ix2 r j) = H (ix2 r e) := by
  pointwise [COL]

theorem up_at (e : Fin 8) (W : FVec Ideal S8x1024x3584 .f32) (sl : S8x1024x3584.Slices ![e.val, 0, 0] S1x1024x3584) (k : Fin 1024) (f : Fin 3584) :
    UP e.val W sl (ix2 k f) = W (ix3 e k f) := by
  pointwise [UP]

theorem down_at (e : Fin 8) (W : FVec Ideal S8x3584x1024 .f32) (sl : S8x3584x1024.Slices ![e.val, 0, 0] S1x3584x1024) (f : Fin 3584) (j : Fin 1024) :
    DOWN e.val W sl (ix2 f j) = W (ix3 e f j) := by
  pointwise [DOWN]

theorem hot_at (ti : IVec S2x72 32) (r : Fin 36864) (e : Fin 8) :
    HOT ti (ix2 r e) = FloatOps.uitofp (F := Ideal) .f32 (IntOp.cmpi .eq (ti (ix2 0 ⟨r.val / 512, by omega⟩)) (BitVec.ofNat 32 e.val)) := by
  pointwise [HOT]

theorem weight_one : FloatOps.uitofp (F := Ideal) .f32 (1#1 : BitVec 1) = (1 : EReal) := by
  show (((1#1 : BitVec 1).toNat : ℝ) : EReal) = 1
  simp

theorem weight_zero : FloatOps.uitofp (F := Ideal) .f32 (0#1 : BitVec 1) = (0 : EReal) := by
  show (((0#1 : BitVec 1).toNat : ℝ) : EReal) = 0
  simp

/-- The weight of expert `e` at a row whose tile's word is `w`. -/
theorem weight (w : BitVec 32) (e E : Fin 8) (hw : w.toNat = E.val) :
    FloatOps.uitofp (F := Ideal) .f32 (IntOp.cmpi .eq w (BitVec.ofNat 32 e.val)) = (if e = E then 1 else 0 : EReal) := by
  have he : (BitVec.ofNat 32 e.val).toNat = e.val := by
    rw [BitVec.toNat_ofNat]; omega
  by_cases h : e = E
  · rw [if_pos h, IntOp.cmpi_eq.2 (BitVec.eq_of_toNat_eq (by rw [he, hw, h])), weight_one]
  · rw [if_neg h]
    have : IntOp.cmpi .eq w (BitVec.ofNat 32 e.val) = 0#1 := by
      rcases BitVec.eq_zero_or_eq_one (IntOp.cmpi .eq w (BitVec.ofNat 32 e.val)) with q | q
      · exact q
      · exact absurd (Fin.ext (by rw [← he, ← hw, IntOp.cmpi_eq.1 q])) h
    rw [this, weight_zero]

/-- A sum of eight weighted numbers whose weights are one at `E` and zero elsewhere. -/
theorem pick (w o : Fin 8 → EReal) (E : Fin 8) (hw : ∀ e, w e = if e = E then 1 else 0) :
    0 + w 0 * o 0 + w 1 * o 1 + w 2 * o 2 + w 3 * o 3 + w 4 * o 4 + w 5 * o 5 + w 6 * o 6 + w 7 * o 7 = o E := by
  rw [zero_add]
  refine (Fin.sum_univ_eight (fun e => w e * o e)).symm.trans ?_
  simp [hw]

theorem part_at (e : Fin 8) (h : FVec Ideal S36864x1024 .f32) (H : FVec Ideal S36864x8 .f32) (A B : FVec Ideal S8x1024x3584 .f32) (D : FVec Ideal S8x3584x1024 .f32)
    (s : S36864x8.Slices ![0, e.val] S36864x1) (a : S8x1024x3584.Slices ![e.val, 0, 0] S1x1024x3584) (d : S8x3584x1024.Slices ![e.val, 0, 0] S1x3584x1024) (r : Fin 36864) (j : Fin 1024) :
    PART e.val h H A B D s a d (ix2 r j)
      = H (ix2 r e) * outAt (fun k => h (ix2 r k)) (fun k f => A (ix3 e k f)) (fun k f => B (ix3 e k f)) (fun f j => D (ix3 e f j)) j := by
  show COL e.val H s (ix2 r j) * MLP h (UP e.val A a) (UP e.val B a) (DOWN e.val D d) (ix2 r j) = _
  rw [col_at, mlp_at]
  simp only [up_at, down_at]

theorem all_at (h : FVec Ideal S36864x1024 .f32) (H : FVec Ideal S36864x8 .f32) (A B : FVec Ideal S8x1024x3584 .f32) (D : FVec Ideal S8x3584x1024 .f32) (r : Fin 36864) (j : Fin 1024) (E : Fin 8)
    (hw : ∀ e : Fin 8, H (ix2 r e) = if e = E then 1 else 0) :
    ALL h H A B D (ix2 r j)
      = outAt (fun k => h (ix2 r k)) (fun k f => A (ix3 E k f)) (fun k f => B (ix3 E k f)) (fun f j => D (ix3 E f j)) j := by
  refine Eq.trans ?_ (pick (fun e => H (ix2 r e)) (fun e => outAt (fun k => h (ix2 r k)) (fun k f => A (ix3 e k f)) (fun k f => B (ix3 e k f)) (fun f j => D (ix3 e f j)) j) E hw)
  exact congr (congrArg (· + ·) (congr (congrArg (· + ·) (congr (congrArg (· + ·) (congr (congrArg (· + ·) (congr (congrArg (· + ·) (congr (congrArg (· + ·) (congr (congrArg (· + ·) (congr (congrArg (· + ·) (Ideal.ofBits_zero FTy.f32)) (part_at 0 h H A B D _ _ _ r j))) (part_at 1 h H A B D _ _ _ r j))) (part_at 2 h H A B D _ _ _ r j))) (part_at 3 h H A B D _ _ _ r j))) (part_at 4 h H A B D _ _ _ r j))) (part_at 5 h H A B D _ _ _ r j))) (part_at 6 h H A B D _ _ _ r j))) (part_at 7 h H A B D _ _ _ r j)

/-- The reference at a row whose tile's word names expert `E`: the normalized row through that expert. -/
theorem ref_at (m : (ℓ : Loc nD τ sig) → Buf (Elt Ideal) ℓ) (c : Dev nD) (r : Fin 36864) (j : Fin 1024) (E : Fin 8)
    (hE : ((m ((c.tc : Thread nD τ).loc main_arg5) : IVec S2x72 32) (ix2 0 ⟨r.val / 512, by omega⟩)).toNat = E.val) :
    refOut m c (ix2 r j)
      = outAt (fun k => normAt (fun k' => (m ((c.tc : Thread nD τ).loc main_arg0) : FVec Ideal S36864x1024 .f32) (ix2 r k')) ((m ((c.tc : Thread nD τ).loc main_arg1) : FVec Ideal S1024 .f32) (ix1 k)) k)
          (fun k f => (m ((c.tc : Thread nD τ).loc main_arg2) : FVec Ideal S8x1024x3584 .f32) (ix3 E k f))
          (fun k f => (m ((c.tc : Thread nD τ).loc main_arg3) : FVec Ideal S8x1024x3584 .f32) (ix3 E k f))
          (fun f j => (m ((c.tc : Thread nD τ).loc main_arg4) : FVec Ideal S8x3584x1024 .f32) (ix3 E f j)) j := by
  unfold refOut
  rw [all_at _ _ _ _ _ r j E fun e => (hot_at _ r e).trans (weight _ e E hE)]
  simp only [rows_at]

end Cert.ExpertsRef
end
-- ==== Proof.ExpValue.lean ====
/-
  The experts call's result at a row that holds a token.
-/
module

public import proofs.«01_k».proof.Proof.ExpReads
public import proofs.«01_k».proof.Proof.ExpLive
public import proofs.«01_k».proof.Proof.ExpRef

@[expose] public section

set_option maxRecDepth 16384

noncomputable section

namespace Cert.Experts

open Cert.Kernel2Ideal Cert.Kernel2Ideal.Gen
open Cert.CombineRef (normAt)
open Cert.ExpertsRef (outAt)
open Idealize.ShloMosaic Idealize.ShloMosaic.TcCoe Idealize.SL.Sem
open Idealize.ShloMosaic.Pipeline

variable {m : (ℓ : Loc nD τ sig) → Buf (Elt Ideal) ℓ} (hr : InRange m) (c : Dev nD)

/-- Row `r` holds a token: its tile is in use and its place in the tile is below the tile's count. -/
def Live (m : (ℓ : Loc nD τ sig) → Buf (Elt Ideal) ℓ) (r : Fin 36864) : Prop :=
  ((r.val / 512 : ℕ) : ℤ) < (nUsed (used m 0)).toInt ∧ ((r.val % 512 : ℕ) : ℤ) < (tiles m 0 (tIx 1 ⟨r.val / 512, by omega⟩)).toInt

/-- Entry `j` of row `r`, normalized, through the expert of its tile. -/
def spec (r : Fin 36864) (j : Fin 1024) : EReal :=
  outAt (fun k => normAt (fun k' => xOf m c (ix2 r k')) (nOf m c (ix1 k)) k)
    (fun k f => aOf m c (ix3 (expert hr (r.val / 512) (by omega)) k f)) (fun k f => bOf m c (ix3 (expert hr (r.val / 512) (by omega)) k f))
    (fun f j => dOf m c (ix3 (expert hr (r.val / 512) (by omega)) f j)) j

theorem eout_at (t : Fin (cfg0 (A0 hr)).N) (ht : t.val < 72) (b : Fin 512) (p : Fin 2) (l : Fin 512) (hL : Live m (rowIx t.val b ht)) :
    (eout hr c t : S512x2x512.Idx → EReal) (ix3 b p l) = spec hr c (rowIx t.val b ht) ⟨512 * p.val + l.val, by omega⟩ := by
  have hd : (rowIx t.val b ht).val / 512 = t.val := by show (512 * t.val + b.val) / 512 = t.val; omega
  have hm : (rowIx t.val b ht).val % 512 = b.val := by show (512 * t.val + b.val) % 512 = b.val; omega
  obtain ⟨h0, h1⟩ := hL
  simp only [hd] at h0 h1
  rw [hm] at h1
  have hc : (grid0.coords t 0).val = t.val := (coords_val t).1
  unfold eout
  refine (live _ _ _ _ _ (grid0.coords t) _ _ b p l (by rw [hc]; exact h0) (by rw [rows_at]; simp only [hc]; exact h1)).trans ?_
  unfold spec outAt
  simp only [hd]
  refine Finset.sum_congr rfl fun f _ => ?_
  unfold unitAt
  simp only [read_x hr c t ht h0, read_g, read_a hr c t ht, read_b hr c t ht, read_d hr c t ht]
  rfl

theorem emb_at (t : Fin (cfg0 (A0 hr)).N) (ht : t.val < 72) (b : Fin 512) (p : Fin 2) (l : Fin 512) :
    ((((cfg0 (A0 hr)).win 5).blk t).view.emb (ix3 b p l : S512x2x512.Idx) : S36864x2x512.Idx) = ix3 (rowIx t.val b ht) p l := by
  have e := ix_5 hr t
  unfold rowIx
  blk_ext
  · exact (congrArg (· * 512 + b.val) (congrFun e (0 : Fin 3))).trans (congrArg (· + b.val) (Nat.mul_comm _ _))
  · exact (congrArg (· * 2 + p.val) (congrFun e (1 : Fin 3))).trans ((congrArg (· + p.val) (Nat.zero_mul 2)).trans (Nat.zero_add _))
  · exact (congrArg (· * 512 + l.val) (congrFun e (2 : Fin 3))).trans ((congrArg (· + l.val) (Nat.zero_mul 512)).trans (Nat.zero_add _))

theorem v4_at (r : Fin 36864) (p : Fin 2) (l : Fin 512) (hL : Live m r) :
    (Wx hr c (Proc.devRef .tc main_v4) : S36864x2x512.Idx → EReal) (ix3 r p l) = spec hr c r ⟨512 * p.val + l.val, by omega⟩ := by
  have e := Pipeline.afterRegion_arr (dat0 hr c) (V1 m c) winFacts0.arr_inj 5
  refine (congrFun (show Wx hr c (Proc.devRef .tc main_v4) = (dat0 hr c).arrAt 5 (cfg0 (A0 hr)).N from e) (ix3 r p l)).trans ?_
  refine (dat0 hr c).arrAt_forall_of_covers 5 (fun (i : S36864x2x512.Idx) (v : EReal) => Live m (i 0) → v = spec hr c (i 0) ⟨512 * (i 1).val + (i 2).val, by
    have h1 : (i 1).val < 2 := (i 1).isLt
    have h2 : (i 2).val < 512 := (i 2).isLt
    omega⟩) (cov_5 hr) (fun t hf y => ?_) (ix3 r p l) (Memref.isWhole_whole _) hL
  have ht : t.val < 72 := (coords_val t).2
  obtain ⟨b, p, l, rfl⟩ : ∃ b p l, y = (ix3 b p l : S512x2x512.Idx) := ⟨_, _, _, eq_ix3 (show S512x2x512.Idx from y)⟩
  rw [emb_at hr t ht]
  intro hL
  blk_simp
  rw [after0_5]
  exact eout_at hr c t ht _ _ _ hL

theorem ix1_all : ∀ t : Fin cfg1.N, win1_0.index t = ![t.val, 0, 0] ∧ win1_1.index t = ![t.val, 0] ∧ t.val < 72 := (by decide +kernel : ∀ t : Fin grid1.N, _)

/-- A packed block as rows of 1024 numbers. -/
theorem words_at (z : Vec Ideal S512x2x512 .bf16) (b : Fin 512) (j : Fin 1024) :
    k1_pay1 z (ix2 b j) = (z : S512x2x512.Idx → EReal) (ix3 b ⟨j.val / 512, by omega⟩ ⟨j.val % 512, by omega⟩) := by
  pointwise [k1_pay1]
  have hj := j.isLt
  by_cases h : j.val < 512
  · rw [dif_pos h]
    have e0 : (⟨j.val / 512, by omega⟩ : Fin 2) = 0 := Fin.ext (by show j.val / 512 = 0; omega)
    have e1 : (⟨j.val % 512, by omega⟩ : Fin 512) = ⟨j.val, h⟩ := Fin.ext (by show j.val % 512 = j.val; omega)
    rw [e0, e1]
  · rw [dif_neg h]
    have e0 : (⟨j.val / 512, by omega⟩ : Fin 2) = 1 := Fin.ext (by show j.val / 512 = 1; omega)
    have e1 : (⟨j.val % 512, by omega⟩ : Fin 512) = ⟨j.val - 512, by omega⟩ := Fin.ext (by show j.val % 512 = j.val - 512; omega)
    rw [e0, e1]

theorem read_w (t : Fin cfg1.N) (ht : t.val < 72) (b : Fin 512) (p : Fin 2) (l : Fin 512) :
    (rblk hr c 0 t : S512x2x512.Idx → EReal) (ix3 b p l) = (Wx hr c (Proc.devRef .tc main_v4) : S36864x2x512.Idx → EReal) (ix3 (rowIx t.val b ht) p l) := by
  unfold rowIx
  blk_ext [rblk, ix1_all t]

theorem v5_at (r : Fin 36864) (j : Fin 1024) (hL : Live m r) :
    (Wy hr c (Proc.devRef .tc main_v5) : S36864x1024.Idx → EReal) (ix2 r j) = spec hr c r j := by
  have e := Pipeline.afterRegion_arr (dat1 hr c) (Wx hr c) winFacts1.arr_inj 1
  refine (congrFun (show Wy hr c (Proc.devRef .tc main_v5) = (dat1 hr c).arrAt 1 cfg1.N from e) (ix2 r j)).trans ?_
  refine (dat1 hr c).arrAt_forall_of_covers 1 (fun (i : S36864x1024.Idx) (v : EReal) => Live m (i 0) → v = spec hr c (i 0) (i 1))
    (by decide +kernel : win1_1.Covers) (fun t hf y => ?_) (ix2 r j) (Memref.isWhole_whole _) hL
  have ht : t.val < 72 := (ix1_all t).2.2
  obtain ⟨b, j, rfl⟩ : ∃ b j, y = (ix2 b j : S512x1024.Idx) := ⟨_, _, eq_ix2 (show S512x1024.Idx from y)⟩
  have emb : (((cfg1.win 1).blk t).view.emb (ix2 b j : S512x1024.Idx) : S36864x1024.Idx) = ix2 (rowIx t.val b ht) j := by
    unfold rowIx
    blk_ext [ix1_all t]
  rw [emb]
  intro hL
  blk_simp
  rw [after1_1]
  unfold rout
  refine (words_at _ b j).trans ((read_w hr c t ht _ _ _).trans ((v4_at hr c _ _ _ hL).trans ?_))
  refine congrArg (spec hr c _) (Fin.ext ?_)
  show 512 * (j.val / 512) + j.val % 512 = j.val
  omega

end Cert.Experts
end
-- ==== Proof.ExpMask.lean ====
/-
  The rows the experts' claim speaks of: those that hold a token.
-/
module

public import proofs.«01_k».proof.Defs
public import proofs.«01_k».proof.Proof.Gen.On_token_rows
public import Idealize.ShloMosaic.Lib.Pointwise

@[expose] public section

noncomputable section

namespace Cert.ExpertMask

open Idealize.ShloMosaic

variable {F : FTy → Type} [FloatOps F]

theorem small_toInt (n : ℕ) (h : n < 36864) : (BitVec.ofNat 32 n).toInt = (n : ℤ) := by
  rw [BitVec.toInt_eq_toNat_of_lt (by rw [BitVec.toNat_ofNat]; omega), BitVec.toNat_ofNat, Nat.mod_eq_of_lt (by omega)]

theorem place (r : Fin 36864) : IntOp.subi (BitVec.ofNat 32 r.val) (IntOp.muli (BitVec.ofNat 32 (r.val / 512)) 512#32) = BitVec.ofNat 32 (r.val % 512) := by
  have h := r.isLt
  apply BitVec.eq_of_toNat_eq
  show (BitVec.ofNat 32 r.val - BitVec.ofNat 32 (r.val / 512) * 512#32).toNat = _
  rw [BitVec.toNat_sub, BitVec.toNat_mul, BitVec.toNat_ofNat, BitVec.toNat_ofNat, BitVec.toNat_ofNat, BitVec.toNat_ofNat]
  omega

/-- The mask at row `r`, entry `j`. -/
theorem mask_at (x0 : FVec F Cert.On_token_rows.S36864x1024 .f32) (x1 : FVec F Cert.On_token_rows.S1024 .f32)
    (x2 x3 : FVec F Cert.On_token_rows.S8x1024x3584 .f32) (x4 : FVec F Cert.On_token_rows.S8x3584x1024 .f32)
    (x5 : IVec Cert.On_token_rows.S2x72 32) (x6 : IVec Cert.On_token_rows.S1 32) (r : Fin 36864) (j : Fin 1024) :
    Cert.On_token_rows.fn x0 x1 x2 x3 x4 x5 x6 (ix2 r j)
      = IntOp.andi (IntOp.cmpi .slt (BitVec.ofNat 32 (r.val / 512)) (x6 (ix1 0)))
          (IntOp.cmpi .slt (IntOp.subi (BitVec.ofNat 32 r.val) (IntOp.muli (BitVec.ofNat 32 (r.val / 512)) 512#32)) (x5 (ix2 1 ⟨r.val / 512, by omega⟩))) := by
  pointwise [Cert.On_token_rows.fn]

/-- Where the mask is one, the row's tile is in use and its place in the tile is below the tile's count. -/
theorem live_of_mask (x0 : FVec F Cert.On_token_rows.S36864x1024 .f32) (x1 : FVec F Cert.On_token_rows.S1024 .f32)
    (x2 x3 : FVec F Cert.On_token_rows.S8x1024x3584 .f32) (x4 : FVec F Cert.On_token_rows.S8x3584x1024 .f32)
    (x5 : IVec Cert.On_token_rows.S2x72 32) (x6 : IVec Cert.On_token_rows.S1 32) (r : Fin 36864) (j : Fin 1024)
    (h : Cert.On_token_rows.fn x0 x1 x2 x3 x4 x5 x6 (ix2 r j) = 1#1) :
    ((r.val / 512 : ℕ) : ℤ) < (x6 (ix1 0)).toInt ∧ ((r.val % 512 : ℕ) : ℤ) < (x5 (ix2 1 ⟨r.val / 512, by omega⟩)).toInt := by
  rw [mask_at, place] at h
  obtain ⟨h0, h1⟩ := IntOp.andi_eq_one.1 h
  have h0 := IntOp.cmpi_slt.1 h0
  have h1 := IntOp.cmpi_slt.1 h1
  rw [small_toInt _ (by omega)] at h0 h1
  exact ⟨h0, h1⟩

end Cert.ExpertMask
end
-- ==== Proof.ExpBitsBody.lean ====
/-
  One grid point of the experts call: its three cases, each storing the whole output block — all rows computed, the upper
  half of the rows computed and the others zero, or every row zero.
-/
module

public import proofs.«01_k».proof.Proof.Gen.Kernel2.Regions
public import proofs.«01_k».proof.Proof.Gen.Kernel2.Skeleton
public import proofs.«01_k».proof.Proof.Gen.Kernel2.Points
public import proofs.«01_k».proof.Proof.Gen.Kernel2.Launch
public import Idealize.ShloMosaic.Lib.WordCmp
public import Idealize.ShloMosaic.Lib.Pipeline.FrameTail
public import Idealize.ShloMosaic.Lib.Pipeline.RegionArraysTS
public import Idealize.ShloMosaic.Lib.Pipeline.RegionArraysS

@[expose] public section

set_option maxRecDepth 16384

noncomputable section

namespace Cert.ExpertsBits

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Transfers

variable {F : FTy → Type} [BitOps F]

local notation "𝕄" => MT nD τ sig Unit (Elt F) ℕ (UR sig nD τ) ℕ

/-- The elements of `X` that the rectangle `r` names. -/
abbrev cut {s : Shape} {e : EltTy} (X : s.Idx → Elt F e) (r : Rect s) : r.shape.Idx → Elt F e := fun y => X (r.emb y)

open Classical in
/-- `X` with the rectangle `r` overwritten by `w`. -/
def over {s : Shape} {e : EltTy} (X : s.Idx → Elt F e) (r : Rect s) (w : r.shape.Idx → Elt F e) : s.Idx → Elt F e :=
  fun x => if h : ∃ y, r.emb y = x then w h.choose else X x

theorem over_emb {s : Shape} {e : EltTy} (X : s.Idx → Elt F e) (r : Rect s) (w : r.shape.Idx → Elt F e) (y : r.shape.Idx) :
    over X r w (r.emb y) = w y := by
  unfold over
  have h : ∃ z, r.emb z = r.emb y := ⟨y, rfl⟩
  rw [dif_pos h]
  exact congrArg w (r.emb.injective h.choose_spec)

theorem over_off {s : Shape} {e : EltTy} (X : s.Idx → Elt F e) (r : Rect s) (w : r.shape.Idx → Elt F e) {x : s.Idx} (h : ¬ ∃ y, r.emb y = x) :
    over X r w x = X x := by
  unfold over
  rw [dif_neg h]

section Mem

variable (c : Dev nD)

theorem wp_load_cut {α : Type} {Q : α → sProp 𝕄} {cs : CoreSpace} {s : Shape} {e : EltTy} {m : Memref sig .tc cs s e} {q : PosShare TreeShare}
    {X : s.Idx → Elt F e} {r : Rect s} {hl} {kk : (r.shape.Idx → Elt F e) → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ (kk (cut X r)) Q)
      -∗ wp frame (wpE (defs₀ (F := F)) Variants.none (c : Thread nD τ) none) Set.univ (Prog.lift (.load m r.toLoadRect hl) >>= kk) Q) := by
  unfold owns
  iintro ⟨%f, %hf, H⟩ Hk
  have hr : (m.access r).read (Elt F) f = cut X r := by
    subst hf
    rfl
  iapply (wp_load_rect Variants.none (c : Thread nD τ) none Set.univ (m := m) (r := r) (q := q) (f := f)
    (S := m.view.set) (View.set_slice_subset _ _)) $$ H
  iintro H
  rw [hr]
  iapply Hk
  iexists f
  isplitr; · ipureintro; exact hf
  iexact H

theorem wp_load_own {α : Type} {Q : α → sProp 𝕄} {cs : CoreSpace} {s : Shape} {e : EltTy} {m : Memref sig .tc cs s e} {q : PosShare TreeShare}
    {X : s.Idx → Elt F e} {off : Fin s.rank → ℕ} {h} (hoff : off = fun _ => 0) {hl}
    {kk : (s.Idx → Elt F e) → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ (kk X) Q)
      -∗ wp frame (wpE (defs₀ (F := F)) Variants.none (c : Thread nD τ) none) Set.univ
          (Prog.lift (.load m (Rect.unit (s := s) off s.size h).toLoadRect hl) >>= kk) Q) := by
  subst hoff
  have e : (cut X (Rect.unit (s := s) (fun _ => 0) s.size h) : s.Idx → Elt F e) = X := funext fun y => congrArg X (Rect.emb_whole_apply s y)
  have := wp_load_cut (Q := Q) c (m := m) (q := q) (X := X) (r := Rect.unit (s := s) (fun _ => 0) s.size h) (hl := hl) (kk := kk)
  rw [e] at this
  exact this

theorem wp_store_cut {α : Type} {Q : α → sProp 𝕄} {cs : CoreSpace} {s : Shape} {e : EltTy} {m : Memref sig .tc cs s e}
    {X : s.Idx → Elt F e} {r : Rect s} (w : r.shape.Idx → Elt F e) {hl hm}
    {kk : PUnit → Prog (TpuEff nD τ sig (Elt F) Λ₀ .tc) α} :
    (owns (c : Thread nD τ) m fullShare X : sProp 𝕄) ⊢ iprop((owns (c : Thread nD τ) m fullShare (over X r w) -∗ wp frame (wpE (defs₀ (F := F)) Variants.none (c : Thread nD τ) none) Set.univ (kk ⟨⟩) Q)
      -∗ wp frame (wpE (defs₀ (F := F)) Variants.none (c : Thread nD τ) none) Set.univ (Prog.lift (.store m r w Finset.univ hl hm) >>= kk) Q) := by
  unfold owns
  iintro ⟨%f, %hf, H⟩ Hk
  iapply (wp_store Variants.none (c : Thread nD τ) none Set.univ (m := m) (r := r) (w := w) (Mk := Finset.univ) (f := f)
    (S := m.view.set) (View.set_slice_subset _ _)) $$ H
  iintro H
  iapply Hk
  iexists _
  isplitr
  swap
  · iexact H
  · ipureintro
    funext x
    by_cases h : ∃ y, r.emb y = x
    · obtain ⟨y, rfl⟩ := h
      rw [over_emb]
      exact View.read_slice_write_emb (v := m.view) r f w (Finset.mem_univ y)
    · rw [over_off _ _ _ h, ← hf]
      refine View.read_slice_write_of_not_mem (v := m.view) r f w Finset.univ fun hx => h ?_
      obtain ⟨y, -, hy⟩ := Finset.mem_map.mp hx
      exact ⟨y, hy⟩

theorem wp_store_own {α : Type} {Q : α → sProp 𝕄} {cs : CoreSpace} {s : Shape} {e : EltTy} {m : Memref sig .tc cs s e}
    {X : s.Idx → Elt F e} (w : s.Idx → Elt F e) {off : Fin s.rank → ℕ} {h} (hoff : off = fun _ => 0) {hl hm}
    {kk : PUnit → Prog (TpuEff nD τ sig (Elt F) Λ₀ .tc) α} :
    (owns (c : Thread nD τ) m fullShare X : sProp 𝕄) ⊢ iprop((owns (c : Thread nD τ) m fullShare w -∗ wp frame (wpE (defs₀ (F := F)) Variants.none (c : Thread nD τ) none) Set.univ (kk ⟨⟩) Q)
      -∗ wp frame (wpE (defs₀ (F := F)) Variants.none (c : Thread nD τ) none) Set.univ
          (Prog.lift (.store m (Rect.unit (s := s) off s.size h) w Finset.univ hl hm) >>= kk) Q) := by
  subst hoff
  have e : over X (Rect.unit (s := s) (fun _ => 0) s.size h) w = w := funext fun x =>
    (congrArg _ (Rect.emb_whole_apply s x).symm).trans (over_emb X (Rect.unit (s := s) (fun _ => 0) s.size h) w x)
  have := wp_store_cut (Q := Q) c (m := m) (X := X) (r := Rect.unit (s := s) (fun _ => 0) s.size h) w (hl := hl) (hm := hm) (kk := kk)
  rw [e] at this
  exact this

/-- The word a scalar load reads: the table's element under the rectangle's first index. -/
theorem wp_word {α : Type} {Q : α → sProp 𝕄} {s : Shape} {e : EltTy} {m : Memref sig .tc .smem s e} {q : PosShare TreeShare}
    {X : s.Idx → Elt F e} {r : Rect s} {h1 : r.shape.numel = 1} {hp : e.packing = 1} {kk : Elt F e → Prog (TpuEff nD τ sig (Elt F) Λ₀ .tc) α} :
    (owns (c : Thread nD τ) m q X : sProp 𝕄) ⊢ iprop((owns (c : Thread nD τ) m q X -∗ wp frame (wpE (defs₀ (F := F)) Variants.none (c : Thread nD τ) none) Set.univ
          (kk (X (r.emb (Shape.Idx.first (h1.symm ▸ Nat.one_pos))))) Q)
      -∗ wp frame (wpE (defs₀ (F := F)) Variants.none (c : Thread nD τ) none) Set.univ (smemLoad m r h1 hp >>= kk) Q) := by
  unfold smemLoad smemLoadElt
  unfold owns
  iintro ⟨%f, %hf, H⟩ Hk
  iapply (wp_load_rect Variants.none (c : Thread nD τ) none Set.univ (m := m) (r := r) (q := q) (f := f)
    (S := m.view.set) (View.set_slice_subset _ _)) $$ H
  iintro H
  rw [show (m.access r).read (Elt F) f = cut X r from by subst hf; rfl]
  iapply Hk
  iexists f
  isplitr; · ipureintro; exact hf
  iexact H

end Mem

/-! ## The parts' rectangles -/

abbrev rc0 : Rect S1x1024x3584 := Rect.unit (s := S1x1024x3584) ![0, 0, 0] S1x1024x512.size inb_S1x1024x3584_S1x1024x512_0_0_0
abbrev rr0 : Rect S1x3584x1024 := Rect.unit (s := S1x3584x1024) ![0, 0, 0] S1x512x1024.size inb_S1x3584x1024_S1x512x1024_0_0_0
abbrev rc1 : Rect S1x1024x3584 := Rect.unit (s := S1x1024x3584) ![0, 0, 512] S1x1024x512.size inb_S1x1024x3584_S1x1024x512_0_0_512
abbrev rr1 : Rect S1x3584x1024 := Rect.unit (s := S1x3584x1024) ![0, 512, 0] S1x512x1024.size inb_S1x3584x1024_S1x512x1024_0_512_0
abbrev rc2 : Rect S1x1024x3584 := Rect.unit (s := S1x1024x3584) ![0, 0, 1024] S1x1024x512.size inb_S1x1024x3584_S1x1024x512_0_0_1024
abbrev rr2 : Rect S1x3584x1024 := Rect.unit (s := S1x3584x1024) ![0, 1024, 0] S1x512x1024.size inb_S1x3584x1024_S1x512x1024_0_1024_0
abbrev rc3 : Rect S1x1024x3584 := Rect.unit (s := S1x1024x3584) ![0, 0, 1536] S1x1024x512.size inb_S1x1024x3584_S1x1024x512_0_0_1536
abbrev rr3 : Rect S1x3584x1024 := Rect.unit (s := S1x3584x1024) ![0, 1536, 0] S1x512x1024.size inb_S1x3584x1024_S1x512x1024_0_1536_0
abbrev rc4 : Rect S1x1024x3584 := Rect.unit (s := S1x1024x3584) ![0, 0, 2048] S1x1024x512.size inb_S1x1024x3584_S1x1024x512_0_0_2048
abbrev rr4 : Rect S1x3584x1024 := Rect.unit (s := S1x3584x1024) ![0, 2048, 0] S1x512x1024.size inb_S1x3584x1024_S1x512x1024_0_2048_0
abbrev rc5 : Rect S1x1024x3584 := Rect.unit (s := S1x1024x3584) ![0, 0, 2560] S1x1024x512.size inb_S1x1024x3584_S1x1024x512_0_0_2560
abbrev rr5 : Rect S1x3584x1024 := Rect.unit (s := S1x3584x1024) ![0, 2560, 0] S1x512x1024.size inb_S1x3584x1024_S1x512x1024_0_2560_0
abbrev rc6 : Rect S1x1024x3584 := Rect.unit (s := S1x1024x3584) ![0, 0, 3072] S1x1024x512.size inb_S1x1024x3584_S1x1024x512_0_0_3072
abbrev rr6 : Rect S1x3584x1024 := Rect.unit (s := S1x3584x1024) ![0, 3072, 0] S1x512x1024.size inb_S1x3584x1024_S1x512x1024_0_3072_0
abbrev rX : Rect S512x1024 := Rect.unit (s := S512x1024) ![0, 0] S256x1024.size inb_S512x1024_S256x1024_0_0
abbrev rU : Rect S512x512 := Rect.unit (s := S512x512) ![0, 0] S256x512.size inb_S512x512_S256x512_0_0
abbrev rL : Rect S512x512 := Rect.unit (s := S512x512) ![256, 0] S256x512.size inb_S512x512_S256x512_256_0

/-! ## What each part computes -/

section Values

variable (X : S512x1024.Idx → Elt F .f32) (G : S1x1024.Idx → Elt F .f32) (A B : S1x1024x3584.Idx → Elt F .bf16) (D : S1x3584x1024.Idx → Elt F .bf16)

def bh : FVec F S512x1024 .bf16 := k0_pay5 X G
def ba1 : FVec F S512x1024 .f32 := k0_pay6 X G (cut A rc0) (cut B rc0) (cut D rr0)
def ba2 : FVec F S512x1024 .f32 := k0_pay7 (bh X G) (ba1 X G A B D) (cut A rc1) (cut B rc1) (cut D rr1)
def bu2 : FVec F S512x512 .f32 := k0_pay8 (bh X G) (cut B rc2)
def bg2 : FVec F S512x512 .f32 := k0_pay9 (bh X G) (cut A rc2)
def ba4 : FVec F S512x1024 .f32 := k0_pay10 (bh X G) (ba2 X G A B D) (bu2 X G B) (bg2 X G A) (cut D rr2) (cut A rc3) (cut B rc3) (cut D rr3)
def bg4 : FVec F S512x512 .f32 := k0_pay11 (bh X G) (cut A rc4)
def bu4 : FVec F S512x512 .f32 := k0_pay12 (bh X G) (cut B rc4)
def ba6 : FVec F S512x1024 .f32 := k0_pay13 (bh X G) (ba4 X G A B D) (bg4 X G A) (bu4 X G B) (Scalar.ofBits .f32 0x00000000#32) (cut D rr4) (cut A rc5) (cut B rc5) (cut D rr5)
def bw6 : FVec F S1024x512 .bf16 := k0_pay14 (cut A rc6)
def bout : S512x512.Idx → Elt F .i32 := k0_pay1 (bh X G) (ba6 X G A B D) (bw6 A) (cut B rc6) (cut D rr6)

def sh : FVec F S256x1024 .bf16 := k0_pay15 (cut X rX) G
def sa1 : FVec F S256x1024 .f32 := k0_pay16 (cut X rX) G (cut A rc0) (cut B rc0) (cut D rr0)
def sa2 : FVec F S256x1024 .f32 := k0_pay17 (sh X G) (sa1 X G A B D) (cut A rc1) (cut B rc1) (cut D rr1)
def su2 : FVec F S256x512 .f32 := k0_pay18 (sh X G) (cut B rc2)
def sg2 : FVec F S256x512 .f32 := k0_pay19 (sh X G) (cut A rc2)
def sa4 : FVec F S256x1024 .f32 := k0_pay20 (sh X G) (sa2 X G A B D) (su2 X G B) (sg2 X G A) (cut D rr2) (cut A rc3) (cut B rc3) (cut D rr3)
def sg4 : FVec F S256x512 .f32 := k0_pay21 (sh X G) (cut A rc4)
def su4 : FVec F S256x512 .f32 := k0_pay22 (sh X G) (cut B rc4)
def sa6 : FVec F S256x1024 .f32 := k0_pay23 (sh X G) (sa4 X G A B D) (sg4 X G A) (su4 X G B) (Scalar.ofBits .f32 0x00000000#32) (cut D rr4) (cut A rc5) (cut B rc5) (cut D rr5)
def sw6 : FVec F S1024x512 .bf16 := k0_pay24 (cut A rc6)
def sout : S256x512.Idx → Elt F .i32 := k0_pay2 (sh X G) (sa6 X G A B D) (sw6 A) (cut B rc6) (cut D rr6)

/-- The block of a tile whose lower rows are all empty: the upper rows computed, the others zero. -/
def halfOut : S512x512.Idx → Elt F .i32 := over (over (fun _ => 0#32) rU (sout X G A B D)) rL k0_pay3

/-- The block of an unused tile. -/
def zeroOut : S512x512.Idx → Elt F .i32 := k0_pay4

/-- The block of a tile: by the count of used tiles and the tile's count of rows. -/
def outBlk (i : grid0.Coords) (v0 v3 : BitVec 32) : S512x512.Idx → Elt F .i32 :=
  if k0_cond1 i v0 v3 = 1#1 then bout X G A B D else if k0_cond2 i v0 v3 = 1#1 then halfOut X G A B D else zeroOut

end Values

theorem cover_half (x : S512x512.Idx) : (∃ y, rU.emb y = x) ∨ ∃ y, rL.emb y = x := by
  have hx : (x 0).val < 512 := (x 0).isLt
  by_cases h : (x 0).val < 256
  · refine Or.inl ⟨fun a => match a with
      | 0 => ⟨(x 0).val, h⟩
      | 1 => ⟨(x 1).val, (x 1).isLt⟩, ?_⟩
    funext a
    apply Fin.ext
    match a with
    | 0 => exact (by omega : 0 + 1 * (x 0).val = (x 0).val)
    | 1 => exact (by omega : 0 + 1 * (x 1).val = (x 1).val)
  · refine Or.inr ⟨fun a => match a with
      | 0 => ⟨(x 0).val - 256, (by omega : (x 0).val - 256 < 256)⟩
      | 1 => ⟨(x 1).val, (x 1).isLt⟩, ?_⟩
    funext a
    apply Fin.ext
    match a with
    | 0 => exact (by omega : 256 + 1 * ((x 0).val - 256) = (x 0).val)
    | 1 => exact (by omega : 0 + 1 * (x 1).val = (x 1).val)

theorem over_half (X Y : S512x512.Idx → Elt F .i32) (w w' : S256x512.Idx → Elt F .i32) : over (over X rU w) rL w' = over (over Y rU w) rL w' := by
  funext x
  by_cases h : ∃ y, rL.emb y = x
  · obtain ⟨y, rfl⟩ := h
    rw [over_emb, over_emb]
  · rw [over_off _ _ _ h, over_off _ _ _ h]
    obtain ⟨y, rfl⟩ := (cover_half x).resolve_right h
    rw [over_emb, over_emb]

/-! ## The three conditions -/

theorem flag_both (p q : Prop) [Decidable p] [Decidable q] :
    Scalar.cmpi .ne (Scalar.extui (Scalar.andi (BitVec.ofBool (decide p)) (BitVec.ofBool (decide q)))) 0#32 = 1#1 ↔ p ∧ q := by
  by_cases hp : p <;> by_cases hq : q <;> simp [hp, hq] <;> decide

theorem flag_not (p : Prop) [Decidable p] :
    Scalar.cmpi .ne (Scalar.extui (Scalar.xori (BitVec.ofBool (decide p)) 1#1)) 0#32 = 1#1 ↔ ¬ p := by
  by_cases hp : p <;> simp [hp] <;> decide

theorem coord_toInt (i : grid0.Coords) : (BitVec.ofNat 32 (i 0).val).toInt = (i 0).val := by
  have h : (i 0).val < 72 := (i 0).isLt
  rw [WordCmp.toInt_eq_toNat_of_lt_half (by rw [BitVec.toNat_ofNat]; omega), BitVec.toNat_ofNat]
  omega

/-- The first case: the tile is in use and holds more than 256 rows. -/
theorem cond1_iff (i : grid0.Coords) (v0 v3 : BitVec 32) : k0_cond1 i v0 v3 = 1#1 ↔ ((i 0).val : ℤ) < v0.toInt ∧ 256 < v3.toInt := by
  refine (flag_both ((BitVec.ofNat 32 (i 0).val).toInt < v0.toInt) ((256#32 : BitVec 32).toInt < v3.toInt)).trans ?_
  rw [coord_toInt, show (256#32 : BitVec 32).toInt = 256 from by decide]

/-- The second case: the tile is in use and holds at most 256 rows. -/
theorem cond2_iff (i : grid0.Coords) (v0 v3 : BitVec 32) : k0_cond2 i v0 v3 = 1#1 ↔ ((i 0).val : ℤ) < v0.toInt ∧ v3.toInt ≤ 256 := by
  refine (flag_both ((BitVec.ofNat 32 (i 0).val).toInt < v0.toInt) (v3.toInt ≤ (256#32 : BitVec 32).toInt)).trans ?_
  rw [coord_toInt, show (256#32 : BitVec 32).toInt = 256 from by decide]

/-- The third case: the tile is not in use. -/
theorem cond3_iff (i : grid0.Coords) (v0 : BitVec 32) : k0_cond3 i v0 = 1#1 ↔ ¬ ((i 0).val : ℤ) < v0.toInt := by
  refine (flag_not ((BitVec.ofNat 32 (i 0).val).toInt < v0.toInt)).trans ?_
  rw [coord_toInt]

/-! ## The point -/

theorem zeros2 : (![0, 0] : Fin 2 → ℕ) = fun _ => 0 := by funext a; fin_cases a <;> rfl
theorem zeros3 : (![0, 0, 0] : Fin 3 → ℕ) = fun _ => 0 := by funext a; fin_cases a <;> rfl

/-- The count of used tiles in the second table. -/
def nUsed (N : S1.Idx → Elt F .i32) : BitVec 32 :=
  N ((Rect.unit (s := S1) ![0] S1.size inb_S1_S1_0).emb (Shape.Idx.first (numel1_S1.symm ▸ Nat.one_pos)))
/-- The tile's count of rows in the first table. -/
def nRows (T : S2x72.Idx → Elt F .i32) (i : grid0.Coords) : BitVec 32 :=
  T ((Rect.unit (s := S2x72) (k0_off2 i) S1x1.size (k0_off2_inb i)).emb (Shape.Idx.first (numel1_S1x1.symm ▸ Nat.one_pos)))

section Point

variable (c : Dev nD) (i : grid0.Coords) (arg1 : Memref sig .tc .smem S2x72 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024x3584 .bf16) (harg5 : arg5.IsWhole) (arg6 : Memref sig .tc .vmem S1x1024x3584 .bf16) (harg6 : arg6.IsWhole) (arg7 : Memref sig .tc .vmem S1x3584x1024 .bf16) (harg7 : arg7.IsWhole) (arg8 : Memref sig .tc .vmem S512x512 .i32) (harg8 : arg8.IsWhole)
  (X : S512x1024.Idx → Elt F .f32) (G : S1x1024.Idx → Elt F .f32) (A B : S1x1024x3584.Idx → Elt F .bf16) (D : S1x3584x1024.Idx → Elt F .bf16)

theorem part1 {α : Type} {Q : α → sProp 𝕄} {kk : (Σ' (v30 : FVec F S512x1024 .bf16), FVec F S512x1024 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨bh X G, ba1 X G A B D⟩) Q)
      -∗ wp frame (wpE (defs₀ (F := F)) Variants.none (c : Thread nD τ) none) Set.univ (k0_part1 i arg1 harg1 arg2 harg2 arg3 harg3 arg4 harg4 arg5 harg5 arg6 harg6 arg7 harg7 arg8 harg8 >>= kk) Q) := by
  rw [k0_part1_eq_skeleton]
  unfold k0_part1_skel
  simp only [bind_assoc, pure_bind]
  iintro ⟨H3, H4, H5, H6, H7⟩ Hk
  iapply (wp_load_own c zeros2) $$ H3
  iintro H3
  iapply (wp_load_own c zeros2) $$ H4
  iintro H4
  iapply (wp_load_cut c) $$ H5
  iintro H5
  iapply (wp_load_cut c) $$ H6
  iintro H6
  iapply (wp_load_cut c) $$ H7
  iintro H7
  iapply Hk
  isplitl [H3]; · iexact H3
  isplitl [H4]; · iexact H4
  isplitl [H5]; · iexact H5
  isplitl [H6]; · iexact H6
  iexact H7

theorem part2 {α : Type} {Q : α → sProp 𝕄} {kk : (Σ' (v71 : FVec F S512x1024 .f32) (v77 : FVec F S512x512 .f32), FVec F S512x512 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba2 X G A B D, bu2 X G B, bg2 X G A⟩) Q)
      -∗ wp frame (wpE (defs₀ (F := F)) Variants.none (c : Thread nD τ) none) Set.univ (k0_part2 i arg1 harg1 arg2 harg2 arg3 harg3 arg4 harg4 arg5 harg5 arg6 harg6 arg7 harg7 arg8 harg8 (bh X G) (ba1 X G A B D) >>= kk) Q) := by
  rw [k0_part2_eq_skeleton]
  unfold k0_part2_skel
  simp only [bind_assoc, pure_bind]
  iintro ⟨H3, H4, H5, H6, H7⟩ Hk
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part3 {α : Type} {Q : α → sProp 𝕄} {kk : (Σ' (v111 : FVec F S512x1024 .f32) (v114 : FVec F S512x512 .f32) (v117 : FVec F S512x512 .f32), F .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba4 X G A B D, bg4 X G A, bu4 X G B, Scalar.ofBits .f32 0x00000000#32⟩) Q)
      -∗ wp frame (wpE (defs₀ (F := F)) Variants.none (c : Thread nD τ) none) Set.univ (k0_part3 i arg1 harg1 arg2 harg2 arg3 harg3 arg4 harg4 arg5 harg5 arg6 harg6 arg7 harg7 arg8 harg8 (bh X G) (ba2 X G A B D) (bu2 X G B) (bg2 X G A) >>= kk) Q) := by
  rw [k0_part3_eq_skeleton]
  unfold k0_part3_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part4 {α : Type} {Q : α → sProp 𝕄} {kk : (Σ' (v151 : FVec F S512x1024 .f32), FVec F S1024x512 .bf16) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨ba6 X G A B D, bw6 A⟩) Q)
      -∗ wp frame (wpE (defs₀ (F := F)) Variants.none (c : Thread nD τ) none) Set.univ (k0_part4 i arg1 harg1 arg2 harg2 arg3 harg3 arg4 harg4 arg5 harg5 arg6 harg6 arg7 harg7 arg8 harg8 (bh X G) (ba4 X G A B D) (bg4 X G A) (bu4 X G B) (Scalar.ofBits .f32 0x00000000#32) >>= kk) Q) := by
  rw [k0_part4_eq_skeleton]
  unfold k0_part4_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply Hk
  isplitl [H3]; · iexact H3
  isplitl [H4]; · iexact H4
  isplitl [H5]; · iexact H5
  isplitl [H6]; · iexact H6
  iexact H7

theorem part5 {α : Type} {Q : α → sProp 𝕄} {kk : (Σ' (v30 : FVec F S256x1024 .bf16), FVec F S256x1024 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sh X G, sa1 X G A B D⟩) Q)
      -∗ wp frame (wpE (defs₀ (F := F)) Variants.none (c : Thread nD τ) none) Set.univ (k0_part5 i arg1 harg1 arg2 harg2 arg3 harg3 arg4 harg4 arg5 harg5 arg6 harg6 arg7 harg7 arg8 harg8 >>= kk) Q) := by
  rw [k0_part5_eq_skeleton]
  unfold k0_part5_skel
  simp only [bind_assoc, pure_bind]
  iintro ⟨H3, H4, H5, H6, H7⟩ Hk
  iapply (wp_load_cut c) $$ H3
  iintro H3
  iapply (wp_load_own c zeros2) $$ H4
  iintro H4
  iapply (wp_load_cut c) $$ H5
  iintro H5
  iapply (wp_load_cut c) $$ H6
  iintro H6
  iapply (wp_load_cut c) $$ H7
  iintro H7
  iapply Hk
  isplitl [H3]; · iexact H3
  isplitl [H4]; · iexact H4
  isplitl [H5]; · iexact H5
  isplitl [H6]; · iexact H6
  iexact H7

theorem part6 {α : Type} {Q : α → sProp 𝕄} {kk : (Σ' (v71 : FVec F S256x1024 .f32) (v77 : FVec F S256x512 .f32), FVec F S256x512 .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa2 X G A B D, su2 X G B, sg2 X G A⟩) Q)
      -∗ wp frame (wpE (defs₀ (F := F)) Variants.none (c : Thread nD τ) none) Set.univ (k0_part6 i arg1 harg1 arg2 harg2 arg3 harg3 arg4 harg4 arg5 harg5 arg6 harg6 arg7 harg7 arg8 harg8 (sh X G) (sa1 X G A B D) >>= kk) Q) := by
  rw [k0_part6_eq_skeleton]
  unfold k0_part6_skel
  simp only [bind_assoc, pure_bind]
  iintro ⟨H3, H4, H5, H6, H7⟩ Hk
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part7 {α : Type} {Q : α → sProp 𝕄} {kk : (Σ' (v111 : FVec F S256x1024 .f32) (v114 : FVec F S256x512 .f32) (v117 : FVec F S256x512 .f32), F .f32) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa4 X G A B D, sg4 X G A, su4 X G B, Scalar.ofBits .f32 0x00000000#32⟩) Q)
      -∗ wp frame (wpE (defs₀ (F := F)) Variants.none (c : Thread nD τ) none) Set.univ (k0_part7 i arg1 harg1 arg2 harg2 arg3 harg3 arg4 harg4 arg5 harg5 arg6 harg6 arg7 harg7 arg8 harg8 (sh X G) (sa2 X G A B D) (su2 X G B) (sg2 X G A) >>= kk) Q) := by
  rw [k0_part7_eq_skeleton]
  unfold k0_part7_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply (wp_load_cut c) $$ H6
  iintro H6
  iapply Hk
  isplitl [H3]; · iexact H3
  isplitl [H4]; · iexact H4
  isplitl [H5]; · iexact H5
  isplitl [H6]; · iexact H6
  iexact H7

theorem part8 {α : Type} {Q : α → sProp 𝕄} {kk : (Σ' (v151 : FVec F S256x1024 .f32), FVec F S1024x512 .bf16) → Prog (TpuEff nD τ sig (Elt F) Λ₀ .tc) α} :
    (iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) : sProp 𝕄) ⊢ iprop((iprop(owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D) -∗ wp frame (wpE (defs₀ (F := F)) Variants.none (c : Thread nD τ) none) Set.univ (kk ⟨sa6 X G A B D, sw6 A⟩) Q)
      -∗ wp frame (wpE (defs₀ (F := F)) Variants.none (c : Thread nD τ) none) Set.univ (k0_part8 i arg1 harg1 arg2 harg2 arg3 harg3 arg4 harg4 arg5 harg5 arg6 harg6 arg7 harg7 arg8 harg8 (sh X G) (sa4 X G A B D) (sg4 X G A) (su4 X G B) (Scalar.ofBits .f32 0x00000000#32) >>= kk) Q) := by
  rw [k0_part8_eq_skeleton]
  unfold k0_part8_skel
  simp only [bind_assoc, pure_bind]
  iintro ⟨H3, H4, H5, H6, H7⟩ Hk
  iapply (wp_load_cut c) $$ H7
  iintro H7
  iapply (wp_load_cut c) $$ H5
  iintro H5
  iapply (wp_load_cut c) $$ H6
  iintro H6
  iapply (wp_load_cut c) $$ H7
  iintro H7
  iapply (wp_load_cut c) $$ H5
  iintro H5
  iapply Hk
  isplitl [H3]; · iexact H3
  isplitl [H4]; · iexact H4
  isplitl [H5]; · iexact H5
  isplitl [H6]; · iexact H6
  iexact H7

/-- One grid point: the tables and the input blocks stay, the output block is the tile's case's. -/
theorem body_run {Q : PUnit → sProp 𝕄} (T : S2x72.Idx → Elt F .i32) (N : S1.Idx → Elt F .i32) (O : S512x512.Idx → Elt F .i32) :
    (iprop(owns (c : Thread nD τ) arg1 fullShare T ∗ owns (c : Thread nD τ) arg2 fullShare N ∗ owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D ∗ owns (c : Thread nD τ) arg8 fullShare O) : sProp 𝕄)
      ⊢ iprop((iprop(owns (c : Thread nD τ) arg1 fullShare T ∗ owns (c : Thread nD τ) arg2 fullShare N ∗ owns (c : Thread nD τ) arg3 fullShare X ∗ owns (c : Thread nD τ) arg4 fullShare G ∗ owns (c : Thread nD τ) arg5 fullShare A ∗ owns (c : Thread nD τ) arg6 fullShare B ∗ owns (c : Thread nD τ) arg7 fullShare D ∗ owns (c : Thread nD τ) arg8 fullShare (outBlk X G A B D i (nUsed N) (nRows T i))) -∗ Q ⟨⟩)
        -∗ wp frame (wpE (defs₀ (F := F)) Variants.none (c : Thread nD τ) none) Set.univ (cc0_experts i arg1 harg1 arg2 harg2 arg3 harg3 arg4 harg4 arg5 harg5 arg6 harg6 arg7 harg7 arg8 harg8) Q) := by
  rw [cc0_experts_eq_skeleton]
  unfold cc0_experts_skel
  iintro ⟨H1, H2, H3, H4, H5, H6, H7, H8⟩ Hk
  iapply (wp_word c) $$ H2
  iintro H2
  iapply (wp_word c) $$ H1
  iintro H1
  have c1 := cond1_iff i (nUsed N) (nRows T i)
  have c2 := cond2_iff i (nUsed N) (nRows T i)
  have c3 := cond3_iff i (nUsed N)
  have e2 : N ((Rect.unit (s := S1) ![0] S1.size inb_S1_S1_0).emb (Shape.Idx.first (numel1_S1.symm ▸ Nat.one_pos))) = nUsed N := rfl
  have e1 : T ((Rect.unit (s := S2x72) (k0_off2 i) S1x1.size (k0_off2_inb i)).emb (Shape.Idx.first (numel1_S1x1.symm ▸ Nat.one_pos))) = nRows T i := rfl
  rw [e1, e2]
  unfold outBlk
  rcases em (k0_cond1 i (nUsed N) (nRows T i) = 1#1) with h1 | h1
  · have h2 : ¬ k0_cond2 i (nUsed N) (nRows T i) = 1#1 := fun h => by have := (c1.mp h1).2; have := (c2.mp h).2; omega
    have h3 : ¬ k0_cond3 i (nUsed N) = 1#1 := fun h => (c3.mp h) (c1.mp h1).1
    rw [if_pos h1]
    simp only [dif_pos h1, dif_neg h2, dif_neg h3, bind_assoc, pure_bind]
    iapply (part1 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part2 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part3 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (part4 c i arg1 harg1 arg2 harg2 arg3 harg3 arg4 harg4 arg5 harg5 arg6 harg6 arg7 harg7 arg8 harg8 X G A B D) $$ [H3 H4 H5 H6 H7]
    · isplitl [H3]; · iexact H3
      isplitl [H4]; · iexact H4
      isplitl [H5]; · iexact H5
      isplitl [H6]; · iexact H6
      iexact H7
    iintro ⟨H3, H4, H5, H6, H7⟩
    iapply (wp_load_cut c) $$ H6
    iintro H6
    iapply (wp_load_cut c) $$ H7
    iintro H7
    iapply (wp_load_cut c) $$ H8
    iintro H8
    iapply (wp_store_own c (bout X G A B D) zeros2) $$ H8
    iintro H8
    rw [wp_pure]
    imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rcases em (k0_cond2 i (nUsed N) (nRows T i) = 1#1) with h2 | h2
    · have h3 : ¬ k0_cond3 i (nUsed N) = 1#1 := fun h => (c3.mp h) (c2.mp h2).1
      rw [if_neg h1, if_pos h2]
      simp only [dif_neg h1, dif_pos h2, dif_neg h3, bind_assoc, pure_bind]
      iapply (part5 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part6 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part7 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (part8 c i arg1 harg1 arg2 harg2 arg3 harg3 arg4 harg4 arg5 harg5 arg6 harg6 arg7 harg7 arg8 harg8 X G A B D) $$ [H3 H4 H5 H6 H7]
      · isplitl [H3]; · iexact H3
        isplitl [H4]; · iexact H4
        isplitl [H5]; · iexact H5
        isplitl [H6]; · iexact H6
        iexact H7
      iintro ⟨H3, H4, H5, H6, H7⟩
      iapply (wp_load_cut c) $$ H6
      iintro H6
      iapply (wp_load_cut c) $$ H7
      iintro H7
      iapply (wp_load_cut c) $$ H8
      iintro H8
      iapply (wp_store_cut c (sout X G A B D)) $$ H8
      iintro H8
      iapply (wp_load_cut c) $$ H8
      iintro H8
      iapply (wp_store_cut c k0_pay3) $$ H8
      iintro H8
      rw [over_half _ (fun _ => 0#32)]
      rw [wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have h3 : k0_cond3 i (nUsed N) = 1#1 := c3.mpr fun h => by
        by_cases g : 256 < (nRows T i).toInt
        · exact h1 (c1.mpr ⟨h, g⟩)
        · exact h2 (c2.mpr ⟨h, by omega⟩)
      rw [if_neg h1, if_neg h2]
      simp only [dif_neg h1, dif_neg h2, dif_pos h3, bind_assoc, pure_bind]
      iapply (wp_load_cut c) $$ H8
      iintro H8
      iapply (wp_store_own c zeroOut zeros2) $$ H8
      iintro H8
      rw [wp_pure]
      imodintro
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

end Point

/-- One grid point of the reader: its input block stays, its output block is the packed halves side by side. -/
theorem words_run {Q : PUnit → sProp 𝕄} (c : Dev nD) (i : grid1.Coords) (arg1 : Memref sig .tc .vmem S512x512 .i32) (harg1 : arg1.IsWhole) (arg2 : Memref sig .tc .vmem S512x1024 .f32) (harg2 : arg2.IsWhole)
    (Y : S512x512.Idx → Elt F .i32) (O : S512x1024.Idx → Elt F .f32) :
    (iprop(owns (c : Thread nD τ) arg1 fullShare Y ∗ owns (c : Thread nD τ) arg2 fullShare O) : sProp 𝕄)
      ⊢ iprop((iprop(owns (c : Thread nD τ) arg1 fullShare Y ∗ owns (c : Thread nD τ) arg2 fullShare (k1_pay1 Y)) -∗ Q ⟨⟩)
        -∗ wp frame (wpE (defs₀ (F := F)) Variants.none (c : Thread nD τ) none) Set.univ (cc1__words_kernel i arg1 harg1 arg2 harg2) Q) := by
  rw [cc1__words_kernel_eq_skeleton]
  unfold cc1__words_kernel_skel
  iintro ⟨H1, H2⟩ Hk
  iapply (wp_load_own c zeros2) $$ H1
  iintro H1
  iapply (wp_load_own c zeros2) $$ H2
  iintro H2
  iapply (wp_store_own c (k1_pay1 Y) zeros2) $$ H2
  iintro H2
  rw [wp_pure]
  imodintro
  iapply Hk
  isplitl [H1]; · iexact H1
  iexact H2

end Cert.ExpertsBits

end
-- ==== Proof.ExpWords.lean ====
/-
  The second precondition read back: every tile's expert word names one of the eight experts.
-/
module

public import proofs.«01_k».proof.Defs
public import proofs.«01_k».proof.Proof.Gen.Pre_experts_in_range
public import Idealize.ShloMosaic.Lib.ReduceAll
public import Idealize.ShloMosaic.Lib.Pointwise

@[expose] public section

noncomputable section

namespace Cert.ExpertWords

open Idealize.ShloMosaic

variable {F : FTy → Type} [FloatOps F]

instance : Subsingleton Cert.Pre_experts_in_range.S_.Idx := ⟨fun a b => funext fun x => x.elim0⟩

/-- If the precondition's array is all ones, every tile's word in row 0 of the table is an expert's number. -/
theorem words_of_pre (x0 : FVec F Cert.Pre_experts_in_range.S36864x1024 .f32) (x1 : FVec F Cert.Pre_experts_in_range.S1024 .f32)
    (x2 x3 : FVec F Cert.Pre_experts_in_range.S8x1024x3584 .f32) (x4 : FVec F Cert.Pre_experts_in_range.S8x3584x1024 .f32)
    (x5 : IVec Cert.Pre_experts_in_range.S2x72 32) (x6 : IVec Cert.Pre_experts_in_range.S1 32)
    (h : Cert.Pre_experts_in_range.fn x0 x1 x2 x3 x4 x5 x6 = fun _ => 1#1) (j : Fin 72) :
    (x5 (ix2 0 j)).toNat < 8 := by
  have e := congrFun h (fun a => a.elim0)
  unfold Cert.Pre_experts_in_range.fn at e
  have ha := Host.reduce_andi_all _ _ _ _ _ e (ix1 j)
  obtain ⟨h0, h1⟩ := IntOp.andi_eq_one.1 ha
  have hx : (shapeCast Cert.Pre_experts_in_range.S72 (extractStridedSlice Cert.Pre_experts_in_range.S1x72 ![0, 0] x5
      Cert.Pre_experts_in_range.Facts.slices_S2x72_S1x72_0_0) Cert.Pre_experts_in_range.Facts.shapeCasts_S1x72_S72 : IVec Cert.Pre_experts_in_range.S72 32) (ix1 j)
      = x5 (ix2 0 j) := by
    pointwise
  have h0' : (0#32 : BitVec 32).toInt ≤ (x5 (ix2 0 j)).toInt := by
    rw [← hx]; exact IntOp.cmpi_sge.1 h0
  have h1' : (x5 (ix2 0 j)).toInt < (8#32 : BitVec 32).toInt := by
    rw [← hx]; exact IntOp.cmpi_slt.1 h1
  rw [show (0#32 : BitVec 32).toInt = 0 from rfl] at h0'
  rw [show (8#32 : BitVec 32).toInt = 8 from rfl] at h1'
  rw [BitVec.toInt_eq_toNat_cond] at h0' h1'
  have := (x5 (ix2 0 j)).isLt
  split at h0' <;> omega

end Cert.ExpertWords

end
-- ==== Proof.FfnPay.lean ====
/-
  The dense feed-forward block a grid point stores, read at one entry: the row plus the sum over the seven chunks of the
  hidden size.
-/
module

public import proofs.«01_k».proof.Proof.Gen.Kernel3Ideal.Frame
public import proofs.«01_k».proof.Proof.ExpRef
public import Idealize.ShloMosaic.Lib.Pipeline.ValueKit

@[expose] public section

set_option maxRecDepth 16384

noncomputable section

namespace Cert.Ffn

open Cert.Kernel3Ideal Cert.Kernel3Ideal.Gen Cert.Kernel3Ideal.Facts
open Cert.CombineRef (normAt)
open Cert.ExpertsRef (act outAt)
open Idealize.ShloMosaic Idealize.ShloMosaic.TcCoe Idealize.SL.Sem
open Idealize.ShloMosaic.Pipeline

/-- Unit `f` of chunk `n`. -/
def unit (n : Fin 7) (f : Fin 512) : Fin 3584 := ⟨n.val * 512 + f.val, by omega⟩

/-- One hidden unit's contribution to entry `j`: `h` the normalized row, `A`, `B`, `D` the weights. -/
def unitAt (h : Fin 1024 → EReal) (A B : S1024x3584.Idx → EReal) (D : S3584x1024.Idx → EReal) (j : Fin 1024) (f : Fin 3584) : EReal :=
  act (∑ k, h k * A (ix2 k f)) * (∑ k, h k * B (ix2 k f)) * D (ix2 f j)

/-- One chunk of 512 hidden units. -/
def chunkAt (n : Fin 7) (h : Fin 1024 → EReal) (A B : S1024x3584.Idx → EReal) (D : S3584x1024.Idx → EReal) (j : Fin 1024) : EReal :=
  ∑ f, unitAt h A B D j (unit n f)

theorem chunks (h : Fin 1024 → EReal) (A B : S1024x3584.Idx → EReal) (D : S3584x1024.Idx → EReal) (j : Fin 1024) :
    0 + chunkAt 0 h A B D j + chunkAt 1 h A B D j + chunkAt 2 h A B D j + chunkAt 3 h A B D j + chunkAt 4 h A B D j + chunkAt 5 h A B D j + chunkAt 6 h A B D j
      = ∑ f, unitAt h A B D j f := by
  refine Eq.symm ((Fin.sum_univ_tiles 7 512 rfl (unitAt h A B D j)).trans ?_)
  rw [Fin.sum_univ_seven, zero_add]
  rfl

theorem cA0 (A : Vec Ideal S1024x3584 .bf16) (k : Fin 1024) (f : Fin 512) :
    (View.ld A r0_8 : S1024x512.Idx → EReal) (ix2 k f) = (A : S1024x3584.Idx → EReal) (ix2 k (unit 0 f)) := by
  refine congrArg (A : S1024x3584.Idx → EReal) ?_
  funext a
  apply Fin.ext
  match a with
  | 0 => exact (Nat.zero_add _).trans (Nat.one_mul _)
  | 1 => exact congrArg (0 + ·) (Nat.one_mul f.val)

theorem cD0 (D : Vec Ideal S3584x1024 .bf16) (f : Fin 512) (j : Fin 1024) :
    (View.ld D r0_9 : S512x1024.Idx → EReal) (ix2 f j) = (D : S3584x1024.Idx → EReal) (ix2 (unit 0 f) j) := by
  refine congrArg (D : S3584x1024.Idx → EReal) ?_
  funext a
  apply Fin.ext
  match a with
  | 0 => exact congrArg (0 + ·) (Nat.one_mul f.val)
  | 1 => exact (Nat.zero_add _).trans (Nat.one_mul _)

theorem cA1 (A : Vec Ideal S1024x3584 .bf16) (k : Fin 1024) (f : Fin 512) :
    (View.ld A r0_10 : S1024x512.Idx → EReal) (ix2 k f) = (A : S1024x3584.Idx → EReal) (ix2 k (unit 1 f)) := by
  refine congrArg (A : S1024x3584.Idx → EReal) ?_
  funext a
  apply Fin.ext
  match a with
  | 0 => exact (Nat.zero_add _).trans (Nat.one_mul _)
  | 1 => exact congrArg (512 + ·) (Nat.one_mul f.val)

theorem cD1 (D : Vec Ideal S3584x1024 .bf16) (f : Fin 512) (j : Fin 1024) :
    (View.ld D r0_11 : S512x1024.Idx → EReal) (ix2 f j) = (D : S3584x1024.Idx → EReal) (ix2 (unit 1 f) j) := by
  refine congrArg (D : S3584x1024.Idx → EReal) ?_
  funext a
  apply Fin.ext
  match a with
  | 0 => exact congrArg (512 + ·) (Nat.one_mul f.val)
  | 1 => exact (Nat.zero_add _).trans (Nat.one_mul _)

theorem cA2 (A : Vec Ideal S1024x3584 .bf16) (k : Fin 1024) (f : Fin 512) :
    (View.ld A r0_12 : S1024x512.Idx → EReal) (ix2 k f) = (A : S1024x3584.Idx → EReal) (ix2 k (unit 2 f)) := by
  refine congrArg (A : S1024x3584.Idx → EReal) ?_
  funext a
  apply Fin.ext
  match a with
  | 0 => exact (Nat.zero_add _).trans (Nat.one_mul _)
  | 1 => exact congrArg (1024 + ·) (Nat.one_mul f.val)

theorem cD2 (D : Vec Ideal S3584x1024 .bf16) (f : Fin 512) (j : Fin 1024) :
    (View.ld D r0_13 : S512x1024.Idx → EReal) (ix2 f j) = (D : S3584x1024.Idx → EReal) (ix2 (unit 2 f) j) := by
  refine congrArg (D : S3584x1024.Idx → EReal) ?_
  funext a
  apply Fin.ext
  match a with
  | 0 => exact congrArg (1024 + ·) (Nat.one_mul f.val)
  | 1 => exact (Nat.zero_add _).trans (Nat.one_mul _)

theorem cA3 (A : Vec Ideal S1024x3584 .bf16) (k : Fin 1024) (f : Fin 512) :
    (View.ld A r0_14 : S1024x512.Idx → EReal) (ix2 k f) = (A : S1024x3584.Idx → EReal) (ix2 k (unit 3 f)) := by
  refine congrArg (A : S1024x3584.Idx → EReal) ?_
  funext a
  apply Fin.ext
  match a with
  | 0 => exact (Nat.zero_add _).trans (Nat.one_mul _)
  | 1 => exact congrArg (1536 + ·) (Nat.one_mul f.val)

theorem cD3 (D : Vec Ideal S3584x1024 .bf16) (f : Fin 512) (j : Fin 1024) :
    (View.ld D r0_15 : S512x1024.Idx → EReal) (ix2 f j) = (D : S3584x1024.Idx → EReal) (ix2 (unit 3 f) j) := by
  refine congrArg (D : S3584x1024.Idx → EReal) ?_
  funext a
  apply Fin.ext
  match a with
  | 0 => exact congrArg (1536 + ·) (Nat.one_mul f.val)
  | 1 => exact (Nat.zero_add _).trans (Nat.one_mul _)

theorem cA4 (A : Vec Ideal S1024x3584 .bf16) (k : Fin 1024) (f : Fin 512) :
    (View.ld A r0_16 : S1024x512.Idx → EReal) (ix2 k f) = (A : S1024x3584.Idx → EReal) (ix2 k (unit 4 f)) := by
  refine congrArg (A : S1024x3584.Idx → EReal) ?_
  funext a
  apply Fin.ext
  match a with
  | 0 => exact (Nat.zero_add _).trans (Nat.one_mul _)
  | 1 => exact congrArg (2048 + ·) (Nat.one_mul f.val)

theorem cD4 (D : Vec Ideal S3584x1024 .bf16) (f : Fin 512) (j : Fin 1024) :
    (View.ld D r0_17 : S512x1024.Idx → EReal) (ix2 f j) = (D : S3584x1024.Idx → EReal) (ix2 (unit 4 f) j) := by
  refine congrArg (D : S3584x1024.Idx → EReal) ?_
  funext a
  apply Fin.ext
  match a with
  | 0 => exact congrArg (2048 + ·) (Nat.one_mul f.val)
  | 1 => exact (Nat.zero_add _).trans (Nat.one_mul _)

theorem cA5 (A : Vec Ideal S1024x3584 .bf16) (k : Fin 1024) (f : Fin 512) :
    (View.ld A r0_18 : S1024x512.Idx → EReal) (ix2 k f) = (A : S1024x3584.Idx → EReal) (ix2 k (unit 5 f)) := by
  refine congrArg (A : S1024x3584.Idx → EReal) ?_
  funext a
  apply Fin.ext
  match a with
  | 0 => exact (Nat.zero_add _).trans (Nat.one_mul _)
  | 1 => exact congrArg (2560 + ·) (Nat.one_mul f.val)

theorem cD5 (D : Vec Ideal S3584x1024 .bf16) (f : Fin 512) (j : Fin 1024) :
    (View.ld D r0_19 : S512x1024.Idx → EReal) (ix2 f j) = (D : S3584x1024.Idx → EReal) (ix2 (unit 5 f) j) := by
  refine congrArg (D : S3584x1024.Idx → EReal) ?_
  funext a
  apply Fin.ext
  match a with
  | 0 => exact congrArg (2560 + ·) (Nat.one_mul f.val)
  | 1 => exact (Nat.zero_add _).trans (Nat.one_mul _)

theorem cA6 (A : Vec Ideal S1024x3584 .bf16) (k : Fin 1024) (f : Fin 512) :
    (View.ld A r0_20 : S1024x512.Idx → EReal) (ix2 k f) = (A : S1024x3584.Idx → EReal) (ix2 k (unit 6 f)) := by
  refine congrArg (A : S1024x3584.Idx → EReal) ?_
  funext a
  apply Fin.ext
  match a with
  | 0 => exact (Nat.zero_add _).trans (Nat.one_mul _)
  | 1 => exact congrArg (3072 + ·) (Nat.one_mul f.val)

theorem cD6 (D : Vec Ideal S3584x1024 .bf16) (f : Fin 512) (j : Fin 1024) :
    (View.ld D r0_21 : S512x1024.Idx → EReal) (ix2 f j) = (D : S3584x1024.Idx → EReal) (ix2 (unit 6 f) j) := by
  refine congrArg (D : S3584x1024.Idx → EReal) ?_
  funext a
  apply Fin.ext
  match a with
  | 0 => exact congrArg (3072 + ·) (Nat.one_mul f.val)
  | 1 => exact (Nat.zero_add _).trans (Nat.one_mul _)

/-- Rows through 512 columns of a first weight. -/
def prod (h : FVec Ideal S512x1024 .bf16) (W : Vec Ideal S1024x512 .bf16) : FVec Ideal S512x512 .f32 :=
  matmul dot_S512x1024_S1024x512_S512x512_1_0_0_1_n_n none h (shapeCast S1024x512 W shapeCasts_S1024x512_S1024x512 : FVec Ideal S1024x512 .bf16) (constant S512x512 .f32 0x00000000#32)

/-- The gated hidden units of one chunk. -/
def gated (g u : FVec Ideal S512x512 .f32) : FVec Ideal S512x512 .f32 :=
  mulf (mulf g (divf (broadcast S512x512 (Scalar.ofBits .f32 0x3F800000#32)) (addf (broadcast S512x512 (Scalar.ofBits .f32 0x3F800000#32)) (exp (subf (broadcast S512x512 (Scalar.ofBits .f32 0x00000000#32)) g))))) u

/-- One chunk's product added to the sum so far. -/
def step (a : FVec Ideal S512x1024 .f32) (g u : FVec Ideal S512x512 .f32) (D : Vec Ideal S512x1024 .bf16) : FVec Ideal S512x1024 .f32 :=
  addf a (matmul dot_S512x512_S512x1024_S512x1024_1_0_0_1_n_n none (truncf .bf16 (gated g u) bitsLt_bf16_f32) (shapeCast S512x1024 D shapeCasts_S512x1024_S512x1024 : FVec Ideal S512x1024 .bf16)
    (constant S512x1024 .f32 0x00000000#32))

/-- The normalized rows. -/
def hid (X : Vec Ideal S512x1024 .f32) (G : Vec Ideal S1x1024 .f32) : FVec Ideal S512x1024 .bf16 := k0_pay8 (k0_pay6 X) (k0_pay7 G)

theorem hid_at (x : Vec Ideal S512x1024 .f32) (g : Vec Ideal S1x1024 .f32) (b : Fin 512) (j : Fin 1024) :
    hid x g (ix2 b j) = normAt (fun k => (x : S512x1024.Idx → EReal) (ix2 b k)) ((g : S1x1024.Idx → EReal) (ix2 0 j)) j := by
  pointwise [hid, k0_pay8, k0_pay6, k0_pay7, normAt]

theorem prod_at (h : FVec Ideal S512x1024 .bf16) (W : Vec Ideal S1024x512 .bf16) (b : Fin 512) (f : Fin 512) :
    prod h W (ix2 b f) = ∑ k, h (ix2 b k) * (W : S1024x512.Idx → EReal) (ix2 k f) := by
  pointwise [prod]

theorem gated_at (g u : FVec Ideal S512x512 .f32) (b : Fin 512) (f : Fin 512) :
    gated g u (ix2 b f) = act (g (ix2 b f)) * u (ix2 b f) := by
  pointwise [gated, act]
  rw [zero_sub]

theorem step_at (a : FVec Ideal S512x1024 .f32) (g u : FVec Ideal S512x512 .f32) (D : Vec Ideal S512x1024 .bf16) (b : Fin 512) (j : Fin 1024) :
    step a g u D (ix2 b j) = a (ix2 b j) + ∑ f, gated g u (ix2 b f) * (D : S512x1024.Idx → EReal) (ix2 f j) := by
  pointwise [step]

theorem chunk_at (n : Fin 7) (a : FVec Ideal S512x1024 .f32) (h : FVec Ideal S512x1024 .bf16) (A' B' : Vec Ideal S1024x512 .bf16) (D' : Vec Ideal S512x1024 .bf16)
    (A B : S1024x3584.Idx → EReal) (D : S3584x1024.Idx → EReal)
    (hA : ∀ k f, (A' : S1024x512.Idx → EReal) (ix2 k f) = A (ix2 k (unit n f)))
    (hB : ∀ k f, (B' : S1024x512.Idx → EReal) (ix2 k f) = B (ix2 k (unit n f)))
    (hD : ∀ f j, (D' : S512x1024.Idx → EReal) (ix2 f j) = D (ix2 (unit n f) j)) (b : Fin 512) (j : Fin 1024) (v : EReal) (hv : a (ix2 b j) = v) :
    step a (prod h A') (prod h B') D' (ix2 b j) = v + chunkAt n (fun k => h (ix2 b k)) A B D j := by
  rw [step_at, hv]
  refine congrArg (v + ·) (Finset.sum_congr rfl fun f _ => ?_)
  rw [gated_at, prod_at, prod_at, hD]
  simp only [hA, hB]
  rfl

variable (X : Vec Ideal S512x1024 .f32) (G : Vec Ideal S1x1024 .f32) (A B : Vec Ideal S1024x3584 .bf16) (D : Vec Ideal S3584x1024 .bf16)
  (E : Vec Ideal S256x3584 .f32) (K : Vec Ideal S896x1024 .f32) (M : Vec Ideal S1x32x2560 .f32) (N : Vec Ideal S1x32x1024 .f32)

/-- The stored block: the rows plus the seven chunks. -/
def block : FVec Ideal S512x1024 .f32 := addf X (step (step (step (step (step (step (step (broadcast S512x1024 (Scalar.ofBits .f32 0x00000000#32))
      (prod (hid X G) (View.ld A r0_8)) (prod (hid X G) (View.ld B r0_8)) (View.ld D r0_9))
      (prod (hid X G) (View.ld A r0_10)) (prod (hid X G) (View.ld B r0_10)) (View.ld D r0_11))
      (prod (hid X G) (View.ld A r0_12)) (prod (hid X G) (View.ld B r0_12)) (View.ld D r0_13))
      (prod (hid X G) (View.ld A r0_14)) (prod (hid X G) (View.ld B r0_14)) (View.ld D r0_15))
      (prod (hid X G) (View.ld A r0_16)) (prod (hid X G) (View.ld B r0_16)) (View.ld D r0_17))
      (prod (hid X G) (View.ld A r0_18)) (prod (hid X G) (View.ld B r0_18)) (View.ld D r0_19))
      (prod (hid X G) (View.ld A r0_20)) (prod (hid X G) (View.ld B r0_20)) (View.ld D r0_21))

theorem out_eq : out0_9 X G A B D E K M N = block X G A B D := by
  have hX : View.ld X r0_6 = X := View.ld_unit_zero (by decide) _ X
  have hG : View.ld G r0_7 = G := View.ld_unit_zero (by decide) _ G
  unfold out0_9
  refine (View.canon_unit_zero (by decide) _ _).trans ?_
  unfold k0_pay21 k0_pay20 k0_pay19
  rw [hX, hG]
  rfl

theorem out_at (b : Fin 512) (j : Fin 1024) :
    (out0_9 X G A B D E K M N : S512x1024.Idx → EReal) (ix2 b j)
      = (X : S512x1024.Idx → EReal) (ix2 b j) + outAt (fun k => normAt (fun k' => (X : S512x1024.Idx → EReal) (ix2 b k')) ((G : S1x1024.Idx → EReal) (ix2 0 k)) k)
          (fun k f => (A : S1024x3584.Idx → EReal) (ix2 k f)) (fun k f => (B : S1024x3584.Idx → EReal) (ix2 k f)) (fun f j => (D : S3584x1024.Idx → EReal) (ix2 f j)) j := by
  rw [out_eq]
  refine congrArg ((X : S512x1024.Idx → EReal) (ix2 b j) + ·) ?_
  refine Eq.trans (chunk_at 6 _ _ _ _ _ A B D (cA6 A) (cA6 B) (cD6 D) b _ _
    (chunk_at 5 _ _ _ _ _ A B D (cA5 A) (cA5 B) (cD5 D) b _ _ (chunk_at 4 _ _ _ _ _ A B D (cA4 A) (cA4 B) (cD4 D) b _ _
    (chunk_at 3 _ _ _ _ _ A B D (cA3 A) (cA3 B) (cD3 D) b _ _ (chunk_at 2 _ _ _ _ _ A B D (cA2 A) (cA2 B) (cD2 D) b _ _
    (chunk_at 1 _ _ _ _ _ A B D (cA1 A) (cA1 B) (cD1 D) b _ _ (chunk_at 0 _ _ _ _ _ A B D (cA0 A) (cA0 B) (cD0 D) b _ _ (Ideal.ofBits_zero FTy.f32)))))))) ((chunks (fun k => hid X G (ix2 b k)) A B D j).trans ?_)
  simp only [hid_at]
  rfl

theorem out10_at (b : Fin 256) (j : Fin 3584) :
    (out0_10 X G A B D E K M N : S256x3584.Idx → EReal) (ix2 b j) = (E : S256x3584.Idx → EReal) (ix2 b j) := by
  frame_out
  pointwise [k0_pay2]

theorem out11_at (b : Fin 896) (j : Fin 1024) :
    (out0_11 X G A B D E K M N : S896x1024.Idx → EReal) (ix2 b j) = (K : S896x1024.Idx → EReal) (ix2 b j) := by
  frame_out
  pointwise [k0_pay3]

theorem out12_at (b : Fin 32) (j : Fin 2560) :
    (out0_12 X G A B D E K M N : S32x2560.Idx → EReal) (ix2 b j) = (M : S1x32x2560.Idx → EReal) (ix3 0 b j) := by
  frame_out
  pointwise [k0_pay4]

theorem out13_at (b : Fin 32) (j : Fin 1024) :
    (out0_13 X G A B D E K M N : S32x1024.Idx → EReal) (ix2 b j) = (N : S1x32x1024.Idx → EReal) (ix3 0 b j) := by
  frame_out
  pointwise [k0_pay5]

end Cert.Ffn
end
-- ==== Proof.FfnRef.lean ====
/-
  The reference's terms for the dense feed-forward call, read at one entry.
-/
module

public import proofs.«01_k».proof.Proof.Gen.Reference3Ideal.Run
public import proofs.«01_k».proof.Proof.ExpRef
public import Idealize.ShloMosaic.Lib.Pointwise

@[expose] public section

set_option maxRecDepth 16384

noncomputable section

namespace Cert.FfnRef

open Cert.Reference3Ideal Cert.Reference3Ideal.Gen
open Idealize.ShloMosaic Idealize.ShloMosaic.TcCoe Idealize.SL.Sem Idealize.ShloMosaic.StableHlo
open Cert.CombineRef (normAt)
open Cert.ExpertsRef (act outAt)

/-- The rows over the root of their mean square, times the gains. -/
def ROWS (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The rows through a first weight. -/
def PROD (h : FVec Ideal S16384x1024 .f32) (W : FVec Ideal S1024x3584 .f32) : FVec Ideal S16384x3584 .f32 :=
  Host.dotGeneral dot_S16384x1024_S1024x3584_S16384x3584_1_0_0_1_n_n none h W

/-- The gated hidden units. -/
def GATED (z u : FVec Ideal S16384x3584 .f32) : FVec Ideal S16384x3584 .f32 :=
  mulf (mulf z (Host.divf (broadcastInDim S16384x3584 ![] bcast_S_S16384x3584 (constant S_ .f32 0x3F800000#32)) (addf (broadcastInDim S16384x3584 ![] bcast_S_S16384x3584 (constant S_ .f32 0x3F800000#32)) (Host.exp (Host.negf z))))) u

/-- The rows through the layer. -/
def MLP (h : FVec Ideal S16384x1024 .f32) (A B : FVec Ideal S1024x3584 .f32) (D : FVec Ideal S3584x1024 .f32) : FVec Ideal S16384x1024 .f32 :=
  Host.dotGeneral dot_S16384x3584_S3584x1024_S16384x1024_1_0_0_1_n_n none (GATED (PROD h A) (PROD h B)) D

/-- The rows plus the layer's output. -/
def FFN (x : FVec Ideal S16384x1024 .f32) (g : FVec Ideal S1024 .f32) (A B : FVec Ideal S1024x3584 .f32) (D : FVec Ideal S3584x1024 .f32) : FVec Ideal S16384x1024 .f32 :=
  addf x (MLP (ROWS x g) A B D)

/-- The eight experts' weights of one kind, one below the other. -/
def FLATG (w : FVec Ideal S8x1024x3584 .f32) : FVec Ideal S8192x3584 .bf16 := truncf .bf16 (shapeCast S8192x3584 w shapeCasts_S8x1024x3584_S8192x3584 : FVec Ideal S8192x3584 .f32) bitsLt_bf16_f32
def FLATD (w : FVec Ideal S8x3584x1024 .f32) : FVec Ideal S28672x1024 .bf16 := truncf .bf16 (shapeCast S28672x1024 w shapeCasts_S8x3584x1024_S28672x1024 : FVec Ideal S28672x1024 .f32) bitsLt_bf16_f32
/-- The second layer's mixer weights. -/
def SECIN (w : FVec Ideal S2x1024x2560 .f32) : FVec Ideal S1024x2560 .bf16 :=
  truncf .bf16 (shapeCast S1024x2560 (extractStridedSlice S1x1024x2560 ![1, 0, 0] w slices_S2x1024x2560_S1x1024x2560_1_0_0) shapeCasts_S1x1024x2560_S1024x2560 : FVec Ideal S1024x2560 .f32) bitsLt_bf16_f32
def SECOUT (w : FVec Ideal S2x1024x1024 .f32) : FVec Ideal S1024x1024 .bf16 :=
  truncf .bf16 (shapeCast S1024x1024 (extractStridedSlice S1x1024x1024 ![1, 0, 0] w slices_S2x1024x1024_S1x1024x1024_1_0_0) shapeCasts_S1x1024x1024_S1024x1024 : FVec Ideal S1024x1024 .f32) bitsLt_bf16_f32

/-- The reference runs to these five terms of its arguments and keeps its arguments. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = FFN (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v20) = FLATG (m ((c.tc : Thread nD τ).loc main_arg5))
      ∧ r.2.mem ((c.tc : Thread nD τ).loc main_v22) = FLATD (m ((c.tc : Thread nD τ).loc main_arg6))
      ∧ r.2.mem ((c.tc : Thread nD τ).loc main_v25) = SECIN (m ((c.tc : Thread nD τ).loc main_arg7))
      ∧ r.2.mem ((c.tc : Thread nD τ).loc main_v28) = SECOUT (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1, (h c).2.1, (h c).2.2.1, (h c).2.2.2.1, (h c).2.2.2.2.1, (h c).2.2.2.2.2⟩) (Value.run m ρ)

theorem rows_at (x : FVec Ideal S16384x1024 .f32) (g : FVec Ideal S1024 .f32) (r : Fin 16384) (j : Fin 1024) :
    ROWS x g (ix2 r j) = normAt (fun k => x (ix2 r k)) (g (ix1 j)) j := by
  pointwise [ROWS, normAt]

theorem prod_at (h : FVec Ideal S16384x1024 .f32) (W : FVec Ideal S1024x3584 .f32) (r : Fin 16384) (f : Fin 3584) :
    PROD h W (ix2 r f) = ∑ k : Fin 1024, h (ix2 r k) * W (ix2 k f) := by
  pointwise [PROD]

theorem gated_at (z u : FVec Ideal S16384x3584 .f32) (r : Fin 16384) (f : Fin 3584) :
    GATED z u (ix2 r f) = act (z (ix2 r f)) * u (ix2 r f) := by
  pointwise [GATED, act]

theorem down_dot (z : FVec Ideal S16384x3584 .f32) (D : FVec Ideal S3584x1024 .f32) (r : Fin 16384) (j : Fin 1024) :
    Host.dotGeneral dot_S16384x3584_S3584x1024_S16384x1024_1_0_0_1_n_n none z D (ix2 r j) = ∑ f : Fin 3584, z (ix2 r f) * D (ix2 f j) := by
  pointwise

theorem mlp_at (h : FVec Ideal S16384x1024 .f32) (A B : FVec Ideal S1024x3584 .f32) (D : FVec Ideal S3584x1024 .f32) (r : Fin 16384) (j : Fin 1024) :
    MLP h A B D (ix2 r j) = outAt (fun k => h (ix2 r k)) (fun k f => A (ix2 k f)) (fun k f => B (ix2 k f)) (fun f j => D (ix2 f j)) j := by
  unfold MLP outAt
  rw [down_dot]
  exact Finset.sum_congr rfl fun f _ => by rw [gated_at, prod_at, prod_at]

/-- The reference's first result at row `r`, entry `j`. -/
theorem ffn_at (x : FVec Ideal S16384x1024 .f32) (g : FVec Ideal S1024 .f32) (A B : FVec Ideal S1024x3584 .f32) (D : FVec Ideal S3584x1024 .f32) (r : Fin 16384) (j : Fin 1024) :
    FFN x g A B D (ix2 r j) = x (ix2 r j) + outAt (fun k => normAt (fun k' => x (ix2 r k')) (g (ix1 k)) k)
      (fun k f => A (ix2 k f)) (fun k f => B (ix2 k f)) (fun f j => D (ix2 f j)) j := by
  refine congrArg (x (ix2 r j) + ·) ((mlp_at _ A B D r j).trans ?_)
  simp only [rows_at]

theorem secin_at (w : FVec Ideal S2x1024x2560 .f32) (r : Fin 1024) (j : Fin 2560) : SECIN w (ix2 r j) = w (ix3 1 r j) := by
  pointwise [SECIN]

theorem secout_at (w : FVec Ideal S2x1024x1024 .f32) (r : Fin 1024) (j : Fin 1024) : SECOUT w (ix2 r j) = w (ix3 1 r j) := by
  pointwise [SECOUT]

end Cert.FfnRef
end
-- ==== Proof.FfnValue.lean ====
/-
  The dense feed-forward call's result arrays are the reference's terms of the arguments.
-/
module

public import proofs.«01_k».proof.Proof.FfnPay
public import proofs.«01_k».proof.Proof.FfnRef

@[expose] public section

set_option maxRecDepth 16384

noncomputable section

namespace Cert.Ffn

open Cert.Kernel3Ideal Cert.Kernel3Ideal.Gen Cert.Kernel3Ideal.Facts
open Cert.CombineRef (normAt)
open Cert.ExpertsRef (outAt)
open Cert.FfnRef (FFN FLATG FLATD SECIN SECOUT)
open Idealize.ShloMosaic Idealize.ShloMosaic.TcCoe Idealize.SL.Sem
open Idealize.ShloMosaic.Pipeline

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![1, t.val, 0] ∧ win0_8.index t = ![1, t.val, 0]
    ∧ win0_9.index t = ![t.val, 0] ∧ win0_10.index t = ![t.val, 0] ∧ win0_11.index t = ![t.val, 0] ∧ win0_12.index t = ![t.val, 0] ∧ win0_13.index t = ![t.val, 0]
    ∧ t.val < 32 := (by decide +kernel : ∀ t : Fin grid0.N, _)

abbrev xOf : FVec Ideal S16384x1024 .f32 := m ((c : Thread nD τ).loc main_arg0)
abbrev gOf : FVec Ideal S1024 .f32 := m ((c : Thread nD τ).loc main_arg1)
abbrev aOf : FVec Ideal S1024x3584 .f32 := m ((c : Thread nD τ).loc main_arg2)
abbrev bOf : FVec Ideal S1024x3584 .f32 := m ((c : Thread nD τ).loc main_arg3)
abbrev dOf : FVec Ideal S3584x1024 .f32 := m ((c : Thread nD τ).loc main_arg4)
abbrev ewOf : FVec Ideal S8x1024x3584 .f32 := m ((c : Thread nD τ).loc main_arg5)
abbrev edOf : FVec Ideal S8x3584x1024 .f32 := m ((c : Thread nD τ).loc main_arg6)
abbrev inOf : FVec Ideal S2x1024x2560 .f32 := m ((c : Thread nD τ).loc main_arg7)
abbrev ouOf : FVec Ideal S2x1024x1024 .f32 := m ((c : Thread nD τ).loc main_arg8)

theorem tile_lt (t : Fin cfg0.N) : t.val < 32 := (idx t).2.2.2.2.2.2.2.2.2.2.2.2.2.2

/-- Row `b` of tile `t` of height `h`, in an array of `32 h` rows. -/
def rowIx {h n : ℕ} (hn : n = 32 * h) (t : Fin cfg0.N) (b : Fin h) : Fin n := ⟨h * t.val + b.val, by
  have h1 := tile_lt t
  have h2 := b.isLt
  have h3 : h * t.val ≤ h * 31 := Nat.mul_le_mul_left h (by omega)
  omega⟩

theorem read_x (t : Fin cfg0.N) (b : Fin 512) (j : Fin 1024) :
    (iblk m c 0 t : S512x1024.Idx → Elt Ideal .f32) (ix2 b j) = xOf m c (ix2 (rowIx rfl t b) j) := by
  unfold rowIx
  blk_ext [iblk, V, idx t]

theorem read_g (t : Fin cfg0.N) (j : Fin 1024) :
    (iblk m c 1 t : S1x1024.Idx → Elt Ideal .f32) (ix2 0 j) = gOf m c (ix1 j) := by
  blk_point [iblk, V, idx t]

theorem read_a (t : Fin cfg0.N) (k : Fin 1024) (f : Fin 3584) :
    (iblk m c 2 t : S1024x3584.Idx → EReal) (ix2 k f) = aOf m c (ix2 k f) := by
  blk_point [iblk, V, idx t]

theorem read_b (t : Fin cfg0.N) (k : Fin 1024) (f : Fin 3584) :
    (iblk m c 3 t : S1024x3584.Idx → EReal) (ix2 k f) = bOf m c (ix2 k f) := by
  blk_point [iblk, V, idx t]

theorem read_d (t : Fin cfg0.N) (f : Fin 3584) (j : Fin 1024) :
    (iblk m c 4 t : S3584x1024.Idx → EReal) (ix2 f j) = dOf m c (ix2 f j) := by
  blk_point [iblk, V, idx t]

theorem v3_eq : (V m c main_v3 : FVec Ideal S8192x3584 .f32) = FLATG (ewOf m c) := rfl

theorem v4_eq : (V m c main_v4 : FVec Ideal S28672x1024 .f32) = FLATD (edOf m c) := rfl

theorem read_ew (t : Fin cfg0.N) (b : Fin 256) (j : Fin 3584) :
    (iblk m c 5 t : S256x3584.Idx → EReal) (ix2 b j) = FLATG (ewOf m c) (ix2 (rowIx rfl t b) j) := by
  rw [← v3_eq]
  unfold rowIx
  blk_ext [iblk, idx t]

theorem read_ed (t : Fin cfg0.N) (b : Fin 896) (j : Fin 1024) :
    (iblk m c 6 t : S896x1024.Idx → EReal) (ix2 b j) = FLATD (edOf m c) (ix2 (rowIx rfl t b) j) := by
  rw [← v4_eq]
  unfold rowIx
  blk_ext [iblk, idx t]

theorem read_in (t : Fin cfg0.N) (b : Fin 32) (j : Fin 2560) :
    (iblk m c 7 t : S1x32x2560.Idx → EReal) (ix3 0 b j) = inOf m c (ix3 1 (rowIx rfl t b) j) := by
  unfold rowIx
  blk_ext [iblk, V, idx t]

theorem read_ou (t : Fin cfg0.N) (b : Fin 32) (j : Fin 1024) :
    (iblk m c 8 t : S1x32x1024.Idx → EReal) (ix3 0 b j) = ouOf m c (ix3 1 (rowIx rfl t b) j) := by
  unfold rowIx
  blk_ext [iblk, V, idx t]

/-- Entry `(b, j)` of tile `t`'s output block is the reference's entry `(512 t + b, j)`. -/
theorem point (t : Fin cfg0.N) (b : Fin 512) (j : Fin 1024) :
    (out0_9 (iblk m c 0 t) (iblk m c 1 t) (iblk m c 2 t) (iblk m c 3 t) (iblk m c 4 t) (iblk m c 5 t) (iblk m c 6 t) (iblk m c 7 t) (iblk m c 8 t) : S512x1024.Idx → EReal) (ix2 b j)
      = FFN (xOf m c) (gOf m c) (aOf m c) (bOf m c) (dOf m c) (ix2 (rowIx rfl t b) j) := by
  rw [Cert.FfnRef.ffn_at]
  refine (out_at _ _ _ _ _ _ _ _ _ b j).trans ?_
  simp only [read_x, read_g, read_a, read_b, read_d]

/-- Result 0's array. -/
theorem final9 : (dats m 0 c).arrAt 9 cfg0.N = FFN (xOf m c) (gOf m c) (aOf m c) (bOf m c) (dOf m c) := by
  refine (dats m 0 c).arrAt_eq_of_covers 9 _ (by decide +kernel) fun t hf y => ?_
  blk_simp
  rw [after0_9]
  have e := eq_ix2 (show S512x1024.Idx from y)
  refine ((congrArg _ e).trans (point m c t _ _)).trans (congrArg _ ?_)
  unfold rowIx
  blk_ext [idx t]

/-- Result 1's array. -/
theorem final10 : (dats m 0 c).arrAt 10 cfg0.N = FLATG (ewOf m c) := by
  refine (dats m 0 c).arrAt_eq_of_covers 10 _ (by decide +kernel) fun t hf y => ?_
  blk_simp
  rw [after0_10]
  have e := eq_ix2 (show S256x3584.Idx from y)
  refine ((congrArg _ e).trans ((out10_at _ _ _ _ _ _ _ _ _ _ _).trans (read_ew m c t _ _))).trans (congrArg _ ?_)
  unfold rowIx
  blk_ext [idx t]

/-- Result 2's array. -/
theorem final11 : (dats m 0 c).arrAt 11 cfg0.N = FLATD (edOf m c) := by
  refine (dats m 0 c).arrAt_eq_of_covers 11 _ (by decide +kernel) fun t hf y => ?_
  blk_simp
  rw [after0_11]
  have e := eq_ix2 (show S896x1024.Idx from y)
  refine ((congrArg _ e).trans ((out11_at _ _ _ _ _ _ _ _ _ _ _).trans (read_ed m c t _ _))).trans (congrArg _ ?_)
  unfold rowIx
  blk_ext [idx t]

/-- Result 3's array. -/
theorem final12 : (dats m 0 c).arrAt 12 cfg0.N = SECIN (inOf m c) := by
  refine (dats m 0 c).arrAt_eq_of_covers 12 _ (by decide +kernel) fun t hf y => ?_
  blk_simp
  rw [after0_12]
  have e := eq_ix2 (show S32x2560.Idx from y)
  refine ((congrArg _ e).trans (((out12_at _ _ _ _ _ _ _ _ _ _ _).trans (read_in m c t _ _)).trans (Cert.FfnRef.secin_at _ _ _).symm)).trans (congrArg _ ?_)
  unfold rowIx
  blk_ext [idx t]

/-- Result 4's array. -/
theorem final13 : (dats m 0 c).arrAt 13 cfg0.N = SECOUT (ouOf m c) := by
  refine (dats m 0 c).arrAt_eq_of_covers 13 _ (by decide +kernel) fun t hf y => ?_
  blk_simp
  rw [after0_13]
  have e := eq_ix2 (show S32x1024.Idx from y)
  refine ((congrArg _ e).trans (((out13_at _ _ _ _ _ _ _ _ _ _ _).trans (read_ou m c t _ _)).trans (Cert.FfnRef.secout_at _ _ _).symm)).trans (congrArg _ ?_)
  unfold rowIx
  blk_ext [idx t]

/-- The kernel's run: each result array is the reference's term of the arguments, the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v6_0) = FFN (xOf m c) (gOf m c) (aOf m c) (bOf m c) (dOf m c)
      ∧ r.2.mem ((c.tc : Thread nD τ).loc main_v6_1) = FLATG (ewOf m c)
      ∧ r.2.mem ((c.tc : Thread nD τ).loc main_v6_2) = FLATD (edOf m c)
      ∧ r.2.mem ((c.tc : Thread nD τ).loc main_v6_3) = SECIN (inOf m c)
      ∧ r.2.mem ((c.tc : Thread nD τ).loc main_v6_4) = SECOUT (ouOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h.1 c).1 9).trans (final9 m c), ((h.1 c).1 10).trans (final10 m c), ((h.1 c).1 11).trans (final11 m c), ((h.1 c).1 12).trans (final12 m c), ((h.1 c).1 13).trans (final13 m c), h.2 c⟩)
    (θ_run_and (run_main m ρ) (unchanged m ρ))

end Cert.Ffn
end
-- ==== Proof.lean ====
/-
  The certificate: each of its claims by the theorem that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_positions_in_range
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_experts_in_range
public import proofs.«01_k».proof.Proof.Gen.On_token_rows
public import proofs.«01_k».proof.Proof.Gen.Kernel3
public import proofs.«01_k».proof.Proof.Gen.Kernel3.Frame
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3Ideal.Frame
public import proofs.«01_k».proof.Proof.Run
public import proofs.«01_k».proof.Proof.BitsRun
public import proofs.«01_k».proof.Proof.Words
public import proofs.«01_k».proof.Proof.Value
public import proofs.«01_k».proof.Proof.ExpEnd
public import proofs.«01_k».proof.Proof.ExpValue
public import proofs.«01_k».proof.Proof.ExpMask
public import proofs.«01_k».proof.Proof.ExpBitsEnd
public import proofs.«01_k».proof.Proof.ExpWords
public import proofs.«01_k».proof.Proof.FfnValue
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.ShloMosaic.TcCoe Idealize.SL.Sem

theorem frame_ideal : Cert.quiescent_KernelIdeal (hKernelIdeal := Cert.KernelIdeal.Gen.facts) (hPre_positions_in_range := Cert.Pre_positions_in_range.Gen.facts) :=
  fun m ρ hpre => Cert.Combine.frame_run (F := Ideal) m ρ fun c => Cert.Combine.words_of_pre _ _ _ _ _ (hpre c)

theorem frame_kernel : Cert.quiescent_Kernel (hKernel := Cert.Kernel.Gen.facts) (hPre_positions_in_range := Cert.Pre_positions_in_range.Gen.facts) :=
  fun m ρ hpre => Cert.CombineBits.frame_run (F := Bits) m ρ fun c => Cert.Combine.words_of_pre _ _ _ _ _ (hpre c)

theorem frame_reference : Cert.quiescent_ReferenceIdeal (hReferenceIdeal := Cert.ReferenceIdeal.Gen.facts) :=
  fun m ρ _ => (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_positions_in_range (hReferenceIdeal := Cert.ReferenceIdeal.Gen.facts)
    (hPre_positions_in_range := Cert.Pre_positions_in_range.Gen.facts) :=
  fun m ρ _ => (θ_run Cert.ReferenceIdeal.defs _ _).mono (fun r h => ⟨fun c => (h c).2, sem_eq_zero_of_no_sems (by decide) r.2⟩)
    (Cert.ReferenceIdeal.Value.run m ρ)

theorem equal : Cert.algebraic_KernelIdeal_ReferenceIdeal (hKernelIdeal := Cert.KernelIdeal.Gen.facts) (hReferenceIdeal := Cert.ReferenceIdeal.Gen.facts)
    (hPre_positions_in_range := Cert.Pre_positions_in_range.Gen.facts) := by
  intro m g m' g' hpre hagree
  refine ⟨fun c => Cert.CombineRef.NORM (Cert.CombineRef.PRE (Cert.Combine.xOf m c) (Cert.Combine.gOf m c) (Cert.Combine.pOf m c) (Cert.Combine.wOf m c)) (Cert.Combine.fOf m c),
    Cert.Combine.value_run m g fun c => Cert.Combine.words_of_pre _ _ _ _ _ (hpre c), ?_⟩
  refine (θ_run Cert.ReferenceIdeal.defs _ _).mono (fun r h c => ⟨(h c).1.trans ((Cert.Combine.ref_eq m' c).trans ?_), (h c).2⟩) (Cert.ReferenceIdeal.Value.run m' g')
  obtain ⟨e0, e1, e2, e3, e4⟩ := hagree c
  rw [e0, e1, e2, e3, e4]

theorem ideal_words {m : (ℓ : Loc Cert.Kernel2Ideal.nD Cert.Kernel2Ideal.τ Cert.Kernel2Ideal.sig) → Buf (Elt Ideal) ℓ}
    (hpre : Cert.Pre_Kernel2Ideal (hPre_experts_in_range := Cert.Pre_experts_in_range.Gen.facts) m) : Cert.Experts.InRange m := fun c j => by
  rw [Cert.Experts.tIx_eq]
  exact Cert.ExpertWords.words_of_pre _ _ _ _ _ _ _ (hpre c) j

theorem bits_words {m : (ℓ : Loc Cert.Kernel2.nD Cert.Kernel2.τ Cert.Kernel2.sig) → Buf (Elt Bits) ℓ}
    (hpre : Cert.Pre_Kernel2 (hPre_experts_in_range := Cert.Pre_experts_in_range.Gen.facts) m) : Cert.ExpertsBits.InRange m := fun c j => by
  rw [Cert.ExpertsBits.tIx_eq]
  exact Cert.ExpertWords.words_of_pre _ _ _ _ _ _ _ (hpre c) j

theorem frame_ideal2 : Cert.quiescent_Kernel2Ideal (hKernel2Ideal := Cert.Kernel2Ideal.Gen.facts) (hPre_experts_in_range := Cert.Pre_experts_in_range.Gen.facts) :=
  fun m ρ hpre => (θ_run Cert.Kernel2Ideal.defs _ _).mono (fun r h => ⟨fun c => (h.1 c).2, h.2⟩) (Cert.Experts.run_main (ideal_words hpre) ρ)

theorem frame_kernel2 : Cert.quiescent_Kernel2 (hKernel2 := Cert.Kernel2.Gen.facts) (hPre_experts_in_range := Cert.Pre_experts_in_range.Gen.facts) :=
  fun m ρ hpre => (θ_run Cert.Kernel2.defs _ _).mono (fun r h => ⟨fun c => (h.1 c).2, h.2⟩) (Cert.ExpertsBits.run_main (bits_words hpre) ρ)

theorem frame_reference2 : Cert.quiescent_Reference2Ideal (hReference2Ideal := Cert.Reference2Ideal.Gen.facts) :=
  fun m ρ _ => (θ_run Cert.Reference2Ideal.defs _ _).mono (fun r h => ⟨fun c => (h c).2, sem_eq_zero_of_no_sems (by decide) r.2⟩)
    (Cert.Reference2Ideal.Value.run m ρ)

theorem frame_reference2_pre : Cert.quiescent_Reference2Ideal_pre_experts_in_range (hReference2Ideal := Cert.Reference2Ideal.Gen.facts)
    (hPre_experts_in_range := Cert.Pre_experts_in_range.Gen.facts) :=
  fun m ρ _ => (θ_run Cert.Reference2Ideal.defs _ _).mono (fun r h => ⟨fun c => (h c).2, sem_eq_zero_of_no_sems (by decide) r.2⟩)
    (Cert.Reference2Ideal.Value.run m ρ)

/-- The one index of a one-entry array. -/
theorem used_at {F : FTy → Type} (N : Cert.Kernel2Ideal.S1.Idx → Elt F .i32) : N (ix1 0) = Cert.Experts.nUsed N := by
  unfold Cert.Experts.nUsed
  refine congrArg N (funext fun a => ?_)
  match a with
  | 0 => exact (Subsingleton.elim (α := Fin 1) _ _)

theorem equal2 : Cert.algebraic_Kernel2Ideal_Reference2Ideal_on_token_rows (hKernel2Ideal := Cert.Kernel2Ideal.Gen.facts) (hReference2Ideal := Cert.Reference2Ideal.Gen.facts)
    (hPre_experts_in_range := Cert.Pre_experts_in_range.Gen.facts) (hOn_token_rows := Cert.On_token_rows.Gen.facts) := by
  intro m g m' g' hpre hagree
  have hr := ideal_words hpre
  refine ⟨fun c => Cert.Experts.Wy hr c (Proc.devRef .tc Cert.Kernel2Ideal.main_v5),
    (θ_run Cert.Kernel2Ideal.defs _ _).mono (fun r h c => ⟨fun i _ => congrFun (h.1 c).1 i, (h.1 c).2⟩) (Cert.Experts.run_main hr g),
    (θ_run Cert.Reference2Ideal.defs _ _).mono (fun r h c => ⟨fun i hi => (congrFun (h c).1 i).trans ?_, (h c).2⟩) (Cert.ExpertsRef.ref_run m' g')⟩
  obtain ⟨r, j, rfl⟩ : ∃ (r : Fin 36864) (j : Fin 1024), i = ix2 r j := ⟨_, _, eq_ix2 i⟩
  obtain ⟨e0, e1, e2, e3, e4, e5, e6⟩ := hagree c
  have hc : c = 0 := Subsingleton.elim _ _
  subst hc
  obtain ⟨l0, l1⟩ := Cert.ExpertMask.live_of_mask _ _ _ _ _ _ _ r j hi
  have hL : Cert.Experts.Live m r := ⟨by rw [← used_at]; exact l0, by rw [Cert.Experts.tIx_eq]; exact l1⟩
  refine Eq.trans ?_ (Cert.Experts.v5_at hr 0 r j hL).symm
  refine (Cert.ExpertsRef.ref_at m' 0 r j (Cert.Experts.expert hr (r.val / 512) (by omega)) ?_).trans ?_
  · rw [e5]
    exact congrArg (fun i => (Cert.Experts.tiles m 0 i).toNat) (Cert.Experts.tIx_eq 0 ⟨r.val / 512, by omega⟩).symm
  · rw [e0, e1, e2, e3, e4]
    rfl

open IdealRules in
theorem idealized2 : Cert.preserves_Kernel2_Kernel2Ideal :=
  ⟨bf16_pair.bufferStatement _ _, bf16_pair.bufferStatement _ _, bf16_pair.packStatement _, bf16_pair.statement _ _, bf16_pair.packStatement _,
    bf16_pair.statement _ _, bf16_pair.selectZeroStatement _, bf16_pair.selectZeroStatement _, bf16_pair.statement _ _⟩

theorem frame_kernel3 : Cert.quiescent_Kernel3 (hKernel3 := Cert.Kernel3.Gen.facts) :=
  fun m ρ _ => Cert.Kernel3.Gen.frame m ρ

theorem frame_ideal3 : Cert.quiescent_Kernel3Ideal (hKernel3Ideal := Cert.Kernel3Ideal.Gen.facts) :=
  fun m ρ _ => Cert.Kernel3Ideal.Gen.frame m ρ

theorem frame_reference3 : Cert.quiescent_Reference3Ideal (hReference3Ideal := Cert.Reference3Ideal.Gen.facts) :=
  fun m ρ _ => (θ_run Cert.Reference3Ideal.defs _ _).mono (fun r h => ⟨fun c => (h c).2.2.2.2.2, sem_eq_zero_of_no_sems (by decide) r.2⟩)
    (Cert.Reference3Ideal.Value.run m ρ)

theorem equal3 : Cert.algebraic_Kernel3Ideal_Reference3Ideal (hKernel3Ideal := Cert.Kernel3Ideal.Gen.facts) (hReference3Ideal := Cert.Reference3Ideal.Gen.facts) := by
  intro m g m' g' _ hagree
  refine ⟨_, _, _, _, _, Cert.Ffn.value_run m g, (θ_run Cert.Reference3Ideal.defs _ _).mono (fun r h c => ?_) (Cert.FfnRef.ref_run m' g')⟩
  obtain ⟨h0, h1, h2, h3, h4, h5⟩ := h c
  obtain ⟨e0, e1, e2, e3, e4, e5, e6, e7, e8⟩ := hagree c
  refine ⟨h0.trans ?_, h1.trans ?_, h2.trans ?_, h3.trans ?_, h4.trans ?_, h5⟩
  · rw [e0, e1, e2, e3, e4]
  · rw [e5]
  · rw [e6]
  · rw [e7]
  · rw [e8]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_positions_in_range.Gen.facts, Cert.Pre_experts_in_range.Gen.facts, Cert.On_token_rows.Gen.facts,
    frame_kernel, frame_ideal, frame_reference, frame_reference_pre, frame_kernel2, frame_ideal2, frame_reference2, frame_reference2_pre,
    frame_kernel3, frame_ideal3, frame_reference3, trivial, equal, idealized2, equal2, trivial, equal3⟩

end Cert.Proof

end
